-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5)
      ∧ r.2.mem ((c.tc : Thread Cert.Kernel36.nD Cert.Kernel36.τ).loc Cert.Kernel36.main_arg6) = m ((c.tc : Thread Cert.Kernel36.nD Cert.Kernel36.τ).loc Cert.Kernel36.main_arg6))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
      ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5)
      ∧ r.2.mem ((c.tc : Thread Cert.Reference36Ideal.nD Cert.Reference36Ideal.τ).loc Cert.Reference36Ideal.main_arg6) = m ((c.tc : Thread Cert.Reference36Ideal.nD Cert.Reference36Ideal.τ).loc Cert.Reference36Ideal.main_arg6))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v33) = v0 c
          ∧ r.2.mem ((c.tc : Thread Cert.Reference13Ideal.nD Cert.Reference13Ideal.τ).loc Cert.Reference13Ideal.main_v34) = v1 c
          ∧ r.2.mem ((c.tc : Thread Cert.Reference13Ideal.nD Cert.Reference13Ideal.τ).loc Cert.Reference13Ideal.main_v35) = v2 c
          ∧ r.2.mem ((c.tc : Thread Cert.Reference13Ideal.nD Cert.Reference13Ideal.τ).loc Cert.Reference13Ideal.main_v36) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v20) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v30) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v29) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "inv_bias1" .f32 0x3FC48605#32 (((5463681 / 8388608)⁻¹ : ℝ) : EReal)
  ∧ IdealRules.named_const.Statement Cert.Kernel20Ideal.κ "inv_bias2" .f32 0x42C8E6D3#32 (((2672307 / 268435456)⁻¹ : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_v17) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  IdealRules.named_const.Statement Cert.Kernel21Ideal.κ "inv_bias1" .f32 0x3FC48605#32 (((5463681 / 8388608)⁻¹ : ℝ) : EReal)
  ∧ IdealRules.named_const.Statement Cert.Kernel21Ideal.κ "inv_bias2" .f32 0x42C8E6D3#32 (((2672307 / 268435456)⁻¹ : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_v28) = v1 c
          ∧ r.2.mem ((c.tc : Thread Cert.Reference21Ideal.nD Cert.Reference21Ideal.τ).loc Cert.Reference21Ideal.main_v9) = v2 c
          ∧ r.2.mem ((c.tc : Thread Cert.Reference21Ideal.nD Cert.Reference21Ideal.τ).loc Cert.Reference21Ideal.main_v15) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  IdealRules.named_const.Statement Cert.Kernel22Ideal.κ "inv_bias1" .f32 0x3FC48605#32 (((5463681 / 8388608)⁻¹ : ℝ) : EReal)
  ∧ IdealRules.named_const.Statement Cert.Kernel22Ideal.κ "inv_bias2" .f32 0x42C8E6D3#32 (((2672307 / 268435456)⁻¹ : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  IdealRules.named_const.Statement Cert.Kernel23Ideal.κ "inv_bias1" .f32 0x3FC48605#32 (((5463681 / 8388608)⁻¹ : ℝ) : EReal)
  ∧ IdealRules.named_const.Statement Cert.Kernel23Ideal.κ "inv_bias2" .f32 0x42C8E6D3#32 (((2672307 / 268435456)⁻¹ : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_v30) = v1 c
          ∧ r.2.mem ((c.tc : Thread Cert.Reference23Ideal.nD Cert.Reference23Ideal.τ).loc Cert.Reference23Ideal.main_v11) = v2 c
          ∧ r.2.mem ((c.tc : Thread Cert.Reference23Ideal.nD Cert.Reference23Ideal.τ).loc Cert.Reference23Ideal.main_v17) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  IdealRules.named_const.Statement Cert.Kernel24Ideal.κ "inv_bias1" .f32 0x3FC48605#32 (((5463681 / 8388608)⁻¹ : ℝ) : EReal)
  ∧ IdealRules.named_const.Statement Cert.Kernel24Ideal.κ "inv_bias2" .f32 0x42C8E6D3#32 (((2672307 / 268435456)⁻¹ : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  IdealRules.named_const.Statement Cert.Kernel25Ideal.κ "inv_bias1" .f32 0x3FC48605#32 (((5463681 / 8388608)⁻¹ : ℝ) : EReal)
  ∧ IdealRules.named_const.Statement Cert.Kernel25Ideal.κ "inv_bias2" .f32 0x42C8E6D3#32 (((2672307 / 268435456)⁻¹ : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_v30) = v1 c
          ∧ r.2.mem ((c.tc : Thread Cert.Reference25Ideal.nD Cert.Reference25Ideal.τ).loc Cert.Reference25Ideal.main_v11) = v2 c
          ∧ r.2.mem ((c.tc : Thread Cert.Reference25Ideal.nD Cert.Reference25Ideal.τ).loc Cert.Reference25Ideal.main_v17) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  IdealRules.named_const.Statement Cert.Kernel26Ideal.κ "inv_bias1" .f32 0x3FC48605#32 (((5463681 / 8388608)⁻¹ : ℝ) : EReal)
  ∧ IdealRules.named_const.Statement Cert.Kernel26Ideal.κ "inv_bias2" .f32 0x42C8E6D3#32 (((2672307 / 268435456)⁻¹ : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v9) = v2 c
          ∧ r.2.mem ((c.tc : Thread Cert.Reference26Ideal.nD Cert.Reference26Ideal.τ).loc Cert.Reference26Ideal.main_v15) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  IdealRules.named_const.Statement Cert.Kernel27Ideal.κ "inv_bias1" .f32 0x3FC48605#32 (((5463681 / 8388608)⁻¹ : ℝ) : EReal)
  ∧ IdealRules.named_const.Statement Cert.Kernel27Ideal.κ "inv_bias2" .f32 0x42C8E6D3#32 (((2672307 / 268435456)⁻¹ : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_v9) = v2 c
          ∧ r.2.mem ((c.tc : Thread Cert.Reference27Ideal.nD Cert.Reference27Ideal.τ).loc Cert.Reference27Ideal.main_v15) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  IdealRules.named_const.Statement Cert.Kernel28Ideal.κ "inv_bias1" .f32 0x3FC48605#32 (((5463681 / 8388608)⁻¹ : ℝ) : EReal)
  ∧ IdealRules.named_const.Statement Cert.Kernel28Ideal.κ "inv_bias2" .f32 0x42C8E6D3#32 (((2672307 / 268435456)⁻¹ : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_v28) = v1 c
          ∧ r.2.mem ((c.tc : Thread Cert.Reference28Ideal.nD Cert.Reference28Ideal.τ).loc Cert.Reference28Ideal.main_v9) = v2 c
          ∧ r.2.mem ((c.tc : Thread Cert.Reference28Ideal.nD Cert.Reference28Ideal.τ).loc Cert.Reference28Ideal.main_v15) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  IdealRules.named_const.Statement Cert.Kernel29Ideal.κ "inv_bias1" .f32 0x3FC48605#32 (((5463681 / 8388608)⁻¹ : ℝ) : EReal)
  ∧ IdealRules.named_const.Statement Cert.Kernel29Ideal.κ "inv_bias2" .f32 0x42C8E6D3#32 (((2672307 / 268435456)⁻¹ : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_v28) = v1 c
          ∧ r.2.mem ((c.tc : Thread Cert.Reference29Ideal.nD Cert.Reference29Ideal.τ).loc Cert.Reference29Ideal.main_v9) = v2 c
          ∧ r.2.mem ((c.tc : Thread Cert.Reference29Ideal.nD Cert.Reference29Ideal.τ).loc Cert.Reference29Ideal.main_v15) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  IdealRules.named_const.Statement Cert.Kernel30Ideal.κ "inv_bias1" .f32 0x3FC48605#32 (((5463681 / 8388608)⁻¹ : ℝ) : EReal)
  ∧ IdealRules.named_const.Statement Cert.Kernel30Ideal.κ "inv_bias2" .f32 0x42C8E6D3#32 (((2672307 / 268435456)⁻¹ : ℝ) : EReal)

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_v28) = v1 c
          ∧ r.2.mem ((c.tc : Thread Cert.Reference30Ideal.nD Cert.Reference30Ideal.τ).loc Cert.Reference30Ideal.main_v9) = v2 c
          ∧ r.2.mem ((c.tc : Thread Cert.Reference30Ideal.nD Cert.Reference30Ideal.τ).loc Cert.Reference30Ideal.main_v15) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  IdealRules.named_const.Statement Cert.Kernel31Ideal.κ "inv_bias1" .f32 0x3FC48605#32 (((5463681 / 8388608)⁻¹ : ℝ) : EReal)
  ∧ IdealRules.named_const.Statement Cert.Kernel31Ideal.κ "inv_bias2" .f32 0x42C8E6D3#32 (((2672307 / 268435456)⁻¹ : ℝ) : EReal)

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v4) = v0 c
          ∧ r.2.mem ((c.tc : Thread Cert.Reference31Ideal.nD Cert.Reference31Ideal.τ).loc Cert.Reference31Ideal.main_v28) = v1 c
          ∧ r.2.mem ((c.tc : Thread Cert.Reference31Ideal.nD Cert.Reference31Ideal.τ).loc Cert.Reference31Ideal.main_v9) = v2 c
          ∧ r.2.mem ((c.tc : Thread Cert.Reference31Ideal.nD Cert.Reference31Ideal.τ).loc Cert.Reference31Ideal.main_v15) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  IdealRules.named_const.Statement Cert.Kernel32Ideal.κ "inv_bias1" .f32 0x3FC48605#32 (((5463681 / 8388608)⁻¹ : ℝ) : EReal)
  ∧ IdealRules.named_const.Statement Cert.Kernel32Ideal.κ "inv_bias2" .f32 0x42C8E6D3#32 (((2672307 / 268435456)⁻¹ : ℝ) : EReal)

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_v28) = v1 c
          ∧ r.2.mem ((c.tc : Thread Cert.Reference32Ideal.nD Cert.Reference32Ideal.τ).loc Cert.Reference32Ideal.main_v9) = v2 c
          ∧ r.2.mem ((c.tc : Thread Cert.Reference32Ideal.nD Cert.Reference32Ideal.τ).loc Cert.Reference32Ideal.main_v15) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v18) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)
      ∧ m' ((c.tc : Thread Cert.Reference36Ideal.nD Cert.Reference36Ideal.τ).loc Cert.Reference36Ideal.main_arg5) = m ((c.tc : Thread Cert.Kernel36Ideal.nD Cert.Kernel36Ideal.τ).loc Cert.Kernel36Ideal.main_arg5)
      ∧ m' ((c.tc : Thread Cert.Reference36Ideal.nD Cert.Reference36Ideal.τ).loc Cert.Reference36Ideal.main_arg6) = m ((c.tc : Thread Cert.Kernel36Ideal.nD Cert.Kernel36Ideal.τ).loc Cert.Kernel36Ideal.main_arg6)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
          ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
          ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v14) = v0 c
          ∧ r.2.mem ((c.tc : Thread Cert.Reference36Ideal.nD Cert.Reference36Ideal.τ).loc Cert.Reference36Ideal.main_v33) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4)
          ∧ r.2.mem ((c.tc : Thread Cert.Reference36Ideal.nD Cert.Reference36Ideal.τ).loc Cert.Reference36Ideal.main_arg5) = m' ((c.tc : Thread Cert.Reference36Ideal.nD Cert.Reference36Ideal.τ).loc Cert.Reference36Ideal.main_arg5)
          ∧ r.2.mem ((c.tc : Thread Cert.Reference36Ideal.nD Cert.Reference36Ideal.τ).loc Cert.Reference36Ideal.main_arg6) = m' ((c.tc : Thread Cert.Reference36Ideal.nD Cert.Reference36Ideal.τ).loc Cert.Reference36Ideal.main_arg6))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v14) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
-- ==== Pre_finite4.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .f32) (main_arg3 : FVec F S4096x2816 .f32) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := Host.absf main_arg3
  let main_cst_1 : FVec F S_ .f32 := constant S_ .f32 0x7F800000#32
  let main_v9 : FVec F S4096x2816 .f32 := broadcastInDim S4096x2816 ![] bcast_S_S4096x2816 main_cst_1
  let main_v10 : IVec S4096x2816 1 := cmpf .olt main_v8 main_v9
  (main_v3, main_v7, main_v10)
-- ==== Kernel.lean ====
abbrev S4096x2048 : Shape := ⟨2, ![4096, 2048]⟩
abbrev S8x4096 : Shape := ⟨2, ![8, 4096]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x2x4096x64 : Shape := ⟨4, ![4, 2, 4096, 64]⟩
abbrev S4x4096x2x64 : Shape := ⟨4, ![4, 4096, 2, 64]⟩
abbrev S4x4096x128 : Shape := ⟨3, ![4, 4096, 128]⟩
abbrev S4096x8 : Shape := ⟨2, ![4096, 8]⟩
abbrev S4096x8x1 : Shape := ⟨3, ![4096, 8, 1]⟩
abbrev S4x2x4096 : Shape := ⟨3, ![4, 2, 4096]⟩
abbrev S4096x128 : Shape := ⟨2, ![4096, 128]⟩
abbrev S256x128 : Shape := ⟨2, ![256, 128]⟩
abbrev S1x4096x128 : Shape := ⟨3, ![1, 4096, 128]⟩
abbrev S1x2x256 : Shape := ⟨3, ![1, 2, 256]⟩
abbrev S1x2x4096 : Shape := ⟨3, ![1, 2, 4096]⟩
abbrev S2x4096x128 : Shape := ⟨3, ![2, 4096, 128]⟩
abbrev S2x256x128 : Shape := ⟨3, ![2, 256, 128]⟩
abbrev S2x256x256 : Shape := ⟨3, ![2, 256, 256]⟩
abbrev S256 : Shape := ⟨1, ![256]⟩
abbrev S256x1 : Shape := ⟨2, ![256, 1]⟩
abbrev S1x256x128 : Shape := ⟨3, ![1, 256, 128]⟩
abbrev S256x256 : Shape := ⟨2, ![256, 256]⟩
abbrev S1x256x256 : Shape := ⟨3, ![1, 256, 256]⟩
abbrev S1x32x256 : Shape := ⟨3, ![1, 32, 256]⟩
abbrev S32x256 : Shape := ⟨2, ![32, 256]⟩
abbrev S128x256 : Shape := ⟨2, ![128, 256]⟩
abbrev S1x256 : Shape := ⟨2, ![1, 256]⟩
abbrev S1x1x256 : Shape := ⟨3, ![1, 1, 256]⟩

abbrev nBuf : Space → Nat
  | .hbm => 63
  | .vmem => 35
  | .smem => 0
  | _ => 0

abbrev bufTy : (tb : Table) → Fin (tcTables nBuf tb) → BufTy
  | .hbm, ⟨0, _⟩ => ⟨S4096x2048, .f32⟩
  | .hbm, ⟨1, _⟩ => ⟨S8x4096, .f32⟩
  | .hbm, ⟨2, _⟩ => ⟨S4096x512, .f32⟩
  | .hbm, ⟨3, _⟩ => ⟨S4096x512, .f32⟩
  | .hbm, ⟨4, _⟩ => ⟨S4096x8x64, .f32⟩
  | .hbm, ⟨5, _⟩ => ⟨S8x4096x64, .f32⟩
  | .hbm, ⟨6, _⟩ => ⟨S4096x512, .f32⟩
  | .hbm, ⟨7, _⟩ => ⟨S4096x8x64, .f32⟩
  | .hbm, ⟨8, _⟩ => ⟨S8x4096x64, .f32⟩
  | .hbm, ⟨9, _⟩ => ⟨S4096x512, .f32⟩
  | .hbm, ⟨10, _⟩ => ⟨S4096x8x64, .f32⟩
  | .hbm, ⟨11, _⟩ => ⟨S8x4096x64, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096x1, .f32⟩
  | .hbm, ⟨17, _⟩ => ⟨S8x4096x4096, .f32⟩
  | .hbm, ⟨18, _⟩ => ⟨S8x4096x4096, .f32⟩
  | .hbm, ⟨19, _⟩ => ⟨S8x1x4096, .f32⟩
  | .hbm, ⟨20, _⟩ => ⟨S8x4096x4096, .f32⟩
  | .hbm, ⟨21, _⟩ => ⟨S8x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x4096x64, .f32⟩
  | .hbm, ⟨45, _⟩ => ⟨S4096x8x64, .f32⟩
  | .hbm, ⟨46, _⟩ => ⟨S4096x512, .f32⟩
  | .hbm, ⟨47, _⟩ => ⟨S4096x512, .bf16⟩
  | .hbm, ⟨48, _⟩ => ⟨S8x4096x1, .f32⟩
  | .hbm, ⟨49, _⟩ => ⟨S8x4096x1, .f32⟩
  | .hbm, ⟨50, _⟩ => ⟨S8x4096x64, .f32⟩
  | .hbm, ⟨51, _⟩ => ⟨S4x2x4096x64, .f32⟩
  | .hbm, ⟨52, _⟩ => ⟨S4x4096x2x64, .f32⟩
  | .hbm, ⟨53, _⟩ => ⟨S4x4096x128, .f32⟩
  | .hbm, ⟨54, _⟩ => ⟨S4096x8, .f32⟩
  | .hbm, ⟨55, _⟩ => ⟨S4096x8x1, .f32⟩
  | .hbm, ⟨56, _⟩ => ⟨S4096x8x64, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4x2x4096, .f32⟩
  | .hbm, ⟨62, _⟩ => ⟨S4x2x4096, .f32⟩
  | .local _ .vmem, ⟨0, _⟩ => ⟨S4096x128, .f32⟩
  | .local _ .vmem, ⟨1, _⟩ => ⟨S4096x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S4096x128, .f32⟩
  | .local _ .vmem, ⟨7, _⟩ => ⟨S4096x128, .f32⟩
  | .local _ .vmem, ⟨8, _⟩ => ⟨S4096x128, .bf16⟩
  | .local _ .vmem, ⟨9, _⟩ => ⟨S4096x128, .bf16⟩
  | .local _ .vmem, ⟨10, _⟩ => ⟨S1x4096x128, .f32⟩
  | .local _ .vmem, ⟨11, _⟩ => ⟨S1x4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x2x256, .f32⟩
  | .local _ .vmem, ⟨21, _⟩ => ⟨S1x2x256, .f32⟩
  | .local _ .vmem, ⟨22, _⟩ => ⟨S1x2x4096, .f32⟩
  | .local _ .vmem, ⟨23, _⟩ => ⟨S1x2x4096, .f32⟩
  | .local _ .vmem, ⟨24, _⟩ => ⟨S2x4096x128, .bf16⟩
  | .local _ .vmem, ⟨25, _⟩ => ⟨S2x4096x128, .bf16⟩
  | .local _ .vmem, ⟨26, _⟩ => ⟨S2x4096x128, .f32⟩
  | .local _ .vmem, ⟨27, _⟩ => ⟨S2x256x128, .f32⟩
  | .local _ .vmem, ⟨28, _⟩ => ⟨S2x256x128, .f32⟩
  | .local _ .vmem, ⟨29, _⟩ => ⟨S2x256x256, .f32⟩
  | .local _ .vmem, ⟨30, _⟩ => ⟨S2x256x256, .f32⟩
  | .local _ .vmem, ⟨31, _⟩ => ⟨S2x256x256, .f32⟩
  | .local _ .vmem, ⟨32, _⟩ => ⟨S2x256x256, .f32⟩
  | .local _ .vmem, ⟨33, _⟩ => ⟨S2x256x256, .bf16⟩
  | .local _ .vmem, ⟨34, _⟩ => ⟨S2x256x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev main_v48_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32_1 : BitVec 32 := 0#32
  let v11 : BitVec 1 := Scalar.cmpi .eq arg1 c0_i32_1
  let v12 : BitVec 32 := Scalar.extui v11
  let c0_i32_2 : BitVec 32 := 0#32
  let v13 : BitVec 1 := Scalar.cmpi .ne v12 c0_i32_2
  v13

@[reducible] def k0_t1_loop : Scf.Loop 32 :=
  let c0_i32_129 : BitVec 32 := 0#32
  let c16_i32 : BitVec 32 := 16#32
  let v251 : BitVec 32 := Scalar.addi c0_i32_129 c16_i32
  let c1_i32_130 : BitVec 32 := 1#32
  ⟨c0_i32_129, v251, c1_i32_130⟩
def k0_mult1 (k0_t1 : Fin k0_t1_loop.trips) : BitVec 32 :=
  let c0_i32_129 : BitVec 32 := 0#32
  let c1_i32_130 : BitVec 32 := 1#32
  let arg25 : BitVec 32 := Scf.iv c0_i32_129 c1_i32_130 k0_t1
  let c256_i32_136 : BitVec 32 := 256#32
  let v256 : BitVec 32 := Scalar.muli arg25 c256_i32_136
  v256
def k0_off1 (k0_t1 : Fin k0_t1_loop.trips) : Fin 2 → Nat :=
  let c0_i32_129 : BitVec 32 := 0#32
  let c1_i32_130 : BitVec 32 := 1#32
  let arg25 : BitVec 32 := Scf.iv c0_i32_129 c1_i32_130 k0_t1
  let c256_i32_136 : BitVec 32 := 256#32
  let v256 : BitVec 32 := Scalar.muli arg25 c256_i32_136
  let v257 : BitVec 32 := v256
  let v258 : Index := Scalar.indexCast v257
  let c0_137 : Index := 0#32
  ![v258.toNat, 0]
def k0_off2 (k0_t1 : Fin k0_t1_loop.trips) : Fin 3 → Nat :=
  let c0_146 : Index := 0#32
  let c0_i32_129 : BitVec 32 := 0#32
  let c1_i32_130 : BitVec 32 := 1#32
  let arg25 : BitVec 32 := Scf.iv c0_i32_129 c1_i32_130 k0_t1
  let c256_i32_136 : BitVec 32 := 256#32
  let v256 : BitVec 32 := Scalar.muli arg25 c256_i32_136
  let v257 : BitVec 32 := v256
  let v285 : Index := Scalar.indexCast v257
  let c0_147 : Index := 0#32
  ![0, v285.toNat, 0]
def k0_off3 (k0_t1 : Fin k0_t1_loop.trips) : Fin 3 → Nat :=
  let c0_158 : Index := 0#32
  let c0_i32_129 : BitVec 32 := 0#32
  let c1_i32_130 : BitVec 32 := 1#32
  let arg25 : BitVec 32 := Scf.iv c0_i32_129 c1_i32_130 k0_t1
  let c256_i32_136 : BitVec 32 := 256#32
  let v256 : BitVec 32 := Scalar.muli arg25 c256_i32_136
  let v257 : BitVec 32 := v256
  let v325 : Index := Scalar.indexCast v257
  let c0_159 : Index := 0#32
  ![0, v325.toNat, 0]
def k0_off4 (k0_t1 : Fin k0_t1_loop.trips) : Fin 3 → Nat :=
  let c1_182 : Index := 1#32
  let c0_i32_129 : BitVec 32 := 0#32
  let c1_i32_130 : BitVec 32 := 1#32
  let arg25 : BitVec 32 := Scf.iv c0_i32_129 c1_i32_130 k0_t1
  let c256_i32_136 : BitVec 32 := 256#32
  let v256 : BitVec 32 := Scalar.muli arg25 c256_i32_136
  let v257 : BitVec 32 := v256
  let v400 : Index := Scalar.indexCast v257
  let c0_183 : Index := 0#32
  ![1, v400.toNat, 0]
def k0_mult2 (i : grid0.Coords) : BitVec 32 :=
  let arg1 : BitVec 32 := BitVec.ofNat 32 (i 1).val
  let c256_i32 : BitVec 32 := 256#32
  let v14 : BitVec 32 := Scalar.muli arg1 c256_i32
  v14
def k0_off5 (i : grid0.Coords) : Fin 2 → Nat :=
  let arg1 : BitVec 32 := BitVec.ofNat 32 (i 1).val
  let c256_i32 : BitVec 32 := 256#32
  let v14 : BitVec 32 := Scalar.muli arg1 c256_i32
  let v15 : BitVec 32 := v14
  let v18 : Index := Scalar.indexCast v15
  let c0_6 : Index := 0#32
  ![v18.toNat, 0]
def k0_mult3 : BitVec 32 :=
  let c3840_i32 : BitVec 32 := 3840#32
  c3840_i32
@[reducible] def k0_t2_loop (i : grid0.Coords) : Scf.Loop 32 :=
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_81 : BitVec 32 := 1#32
  ⟨c0_i32_79, v195, c1_i32_81⟩
def k0_mult4 (i : grid0.Coords) (k0_t2 : Fin (k0_t2_loop i).trips) : BitVec 32 :=
  let c15_i32_131 : BitVec 32 := 15#32
  let c2_i32_129 : BitVec 32 := 2#32
  let c0_i32_79 : BitVec 32 := 0#32
  let c1_i32_81 : BitVec 32 := 1#32
  let arg25 : BitVec 32 := Scf.iv c0_i32_79 c1_i32_81 k0_t2
  let v251 : BitVec 32 := Scalar.muli c2_i32_129 arg25
  let c1_i32_130 : BitVec 32 := 1#32
  let v252 : BitVec 32 := Scalar.addi v251 c1_i32_130
  let v253 : BitVec 32 := Scalar.subi c15_i32_131 v252
  let c256_i32_132 : BitVec 32 := 256#32
  let v254 : BitVec 32 := Scalar.muli v253 c256_i32_132
  v254
def k0_off6 (i : grid0.Coords) (k0_t2 : Fin (k0_t2_loop i).trips) (c1_i32_130 : BitVec 32) : Fin 3 → Nat :=
  let c0_133 : Index := 0#32
  let c15_i32_131 : BitVec 32 := 15#32
  let c2_i32_129 : BitVec 32 := 2#32
  let c0_i32_79 : BitVec 32 := 0#32
  let c1_i32_81 : BitVec 32 := 1#32
  let arg25 : BitVec 32 := Scf.iv c0_i32_79 c1_i32_81 k0_t2
  let v251 : BitVec 32 := Scalar.muli c2_i32_129 arg25
  let v252 : BitVec 32 := Scalar.addi v251 c1_i32_130
  let v253 : BitVec 32 := Scalar.subi c15_i32_131 v252
  let c256_i32_132 : BitVec 32 := 256#32
  let v254 : BitVec 32 := Scalar.muli v253 c256_i32_132
  let v255 : BitVec 32 := v254
  let v256 : Index := Scalar.indexCast v255
  let c0_134 : Index := 0#32
  ![0, v256.toNat, 0]
def k0_off7 (i : grid0.Coords) (k0_t2 : Fin (k0_t2_loop i).trips) (c1_i32_130 : BitVec 32) : Fin 3 → Nat :=
  let c1_145 : Index := 1#32
  let c15_i32_131 : BitVec 32 := 15#32
  let c2_i32_129 : BitVec 32 := 2#32
  let c0_i32_79 : BitVec 32 := 0#32
  let c1_i32_81 : BitVec 32 := 1#32
  let arg25 : BitVec 32 := Scf.iv c0_i32_79 c1_i32_81 k0_t2
  let v251 : BitVec 32 := Scalar.muli c2_i32_129 arg25
  let v252 : BitVec 32 := Scalar.addi v251 c1_i32_130
  let v253 : BitVec 32 := Scalar.subi c15_i32_131 v252
  let c256_i32_132 : BitVec 32 := 256#32
  let v254 : BitVec 32 := Scalar.muli v253 c256_i32_132
  let v255 : BitVec 32 := v254
  let v270 : Index := Scalar.indexCast v255
  let c0_146 : Index := 0#32
  ![1, v270.toNat, 0]
def k0_mult5 (i : grid0.Coords) (k0_t2 : Fin (k0_t2_loop i).trips) : BitVec 32 :=
  let c15_i32_157 : BitVec 32 := 15#32
  let c2_i32_129 : BitVec 32 := 2#32
  let c0_i32_79 : BitVec 32 := 0#32
  let c1_i32_81 : BitVec 32 := 1#32
  let arg25 : BitVec 32 := Scf.iv c0_i32_79 c1_i32_81 k0_t2
  let v251 : BitVec 32 := Scalar.muli c2_i32_129 arg25
  let v284 : BitVec 32 := Scalar.subi c15_i32_157 v251
  let c256_i32_158 : BitVec 32 := 256#32
  let v285 : BitVec 32 := Scalar.muli v284 c256_i32_158
  v285
def k0_off8 (i : grid0.Coords) (k0_t2 : Fin (k0_t2_loop i).trips) : Fin 3 → Nat :=
  let c0_350 : Index := 0#32
  let c15_i32_157 : BitVec 32 := 15#32
  let c2_i32_129 : BitVec 32 := 2#32
  let c0_i32_79 : BitVec 32 := 0#32
  let c1_i32_81 : BitVec 32 := 1#32
  let arg25 : BitVec 32 := Scf.iv c0_i32_79 c1_i32_81 k0_t2
  let v251 : BitVec 32 := Scalar.muli c2_i32_129 arg25
  let v284 : BitVec 32 := Scalar.subi c15_i32_157 v251
  let c256_i32_158 : BitVec 32 := 256#32
  let v285 : BitVec 32 := Scalar.muli v284 c256_i32_158
  let v286 : BitVec 32 := v285
  let v515 : Index := Scalar.indexCast v286
  let c0_351 : Index := 0#32
  ![0, v515.toNat, 0]
def k0_off9 (i : grid0.Coords) (k0_t2 : Fin (k0_t2_loop i).trips) : Fin 3 → Nat :=
  let c1_382 : Index := 1#32
  let c15_i32_157 : BitVec 32 := 15#32
  let c2_i32_129 : BitVec 32 := 2#32
  let c0_i32_79 : BitVec 32 := 0#32
  let c1_i32_81 : BitVec 32 := 1#32
  let arg25 : BitVec 32 := Scf.iv c0_i32_79 c1_i32_81 k0_t2
  let v251 : BitVec 32 := Scalar.muli c2_i32_129 arg25
  let v284 : BitVec 32 := Scalar.subi c15_i32_157 v251
  let c256_i32_158 : BitVec 32 := 256#32
  let v285 : BitVec 32 := Scalar.muli v284 c256_i32_158
  let v286 : BitVec 32 := v285
  let v550 : Index := Scalar.indexCast v286
  let c0_383 : Index := 0#32
  ![1, v550.toNat, 0]
def k0_mult6 (i : grid0.Coords) (k0_t2 : Fin (k0_t2_loop i).trips) : BitVec 32 :=
  let c15_i32_409 : BitVec 32 := 15#32
  let c2_i32_129 : BitVec 32 := 2#32
  let c0_i32_79 : BitVec 32 := 0#32
  let c1_i32_81 : BitVec 32 := 1#32
  let arg25 : BitVec 32 := Scf.iv c0_i32_79 c1_i32_81 k0_t2
  let v251 : BitVec 32 := Scalar.muli c2_i32_129 arg25
  let c2_i32_408 : BitVec 32 := 2#32
  let v581 : BitVec 32 := Scalar.addi v251 c2_i32_408
  let v582 : BitVec 32 := Scalar.subi c15_i32_409 v581
  let c256_i32_410 : BitVec 32 := 256#32
  let v583 : BitVec 32 := Scalar.muli v582 c256_i32_410
  v583
def k0_mult7 (i : grid0.Coords) (k0_t2 : Fin (k0_t2_loop i).trips) : BitVec 32 :=
  let c15_i32_436 : BitVec 32 := 15#32
  let c2_i32_129 : BitVec 32 := 2#32
  let c0_i32_79 : BitVec 32 := 0#32
  let c1_i32_81 : BitVec 32 := 1#32
  let arg25 : BitVec 32 := Scf.iv c0_i32_79 c1_i32_81 k0_t2
  let v251 : BitVec 32 := Scalar.muli c2_i32_129 arg25
  let c1_i32_435 : BitVec 32 := 1#32
  let v613 : BitVec 32 := Scalar.addi v251 c1_i32_435
  let v614 : BitVec 32 := Scalar.subi c15_i32_436 v613
  let c256_i32_437 : BitVec 32 := 256#32
  let v615 : BitVec 32 := Scalar.muli v614 c256_i32_437
  v615
@[reducible] def k0_t3_loop (i : grid0.Coords) : Scf.Loop 32 :=
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let v192 : BitVec 32 := Scalar.addi c0_i32_79 v191
  let c1_i32_82 : BitVec 32 := 1#32
  ⟨v195, v192, c1_i32_82⟩
def k0_mult8 (i : grid0.Coords) (k0_t3 : Fin (k0_t3_loop i).trips) : BitVec 32 :=
  let c15_i32_131 : BitVec 32 := 15#32
  let c2_i32_129 : BitVec 32 := 2#32
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_82 : BitVec 32 := 1#32
  let arg25 : BitVec 32 := Scf.iv v195 c1_i32_82 k0_t3
  let v251 : BitVec 32 := Scalar.muli c2_i32_129 arg25
  let c1_i32_130 : BitVec 32 := 1#32
  let v252 : BitVec 32 := Scalar.addi v251 c1_i32_130
  let v253 : BitVec 32 := Scalar.subi c15_i32_131 v252
  let c256_i32_132 : BitVec 32 := 256#32
  let v254 : BitVec 32 := Scalar.muli v253 c256_i32_132
  v254
def k0_off10 (i : grid0.Coords) (k0_t3 : Fin (k0_t3_loop i).trips) (c1_i32_130 : BitVec 32) : Fin 3 → Nat :=
  let c0_133 : Index := 0#32
  let c15_i32_131 : BitVec 32 := 15#32
  let c2_i32_129 : BitVec 32 := 2#32
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_82 : BitVec 32 := 1#32
  let arg25 : BitVec 32 := Scf.iv v195 c1_i32_82 k0_t3
  let v251 : BitVec 32 := Scalar.muli c2_i32_129 arg25
  let v252 : BitVec 32 := Scalar.addi v251 c1_i32_130
  let v253 : BitVec 32 := Scalar.subi c15_i32_131 v252
  let c256_i32_132 : BitVec 32 := 256#32
  let v254 : BitVec 32 := Scalar.muli v253 c256_i32_132
  let v255 : BitVec 32 := v254
  let v256 : Index := Scalar.indexCast v255
  let c0_134 : Index := 0#32
  ![0, v256.toNat, 0]
def k0_off11 (i : grid0.Coords) (k0_t3 : Fin (k0_t3_loop i).trips) (c1_i32_130 : BitVec 32) : Fin 3 → Nat :=
  let c1_145 : Index := 1#32
  let c15_i32_131 : BitVec 32 := 15#32
  let c2_i32_129 : BitVec 32 := 2#32
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_82 : BitVec 32 := 1#32
  let arg25 : BitVec 32 := Scf.iv v195 c1_i32_82 k0_t3
  let v251 : BitVec 32 := Scalar.muli c2_i32_129 arg25
  let v252 : BitVec 32 := Scalar.addi v251 c1_i32_130
  let v253 : BitVec 32 := Scalar.subi c15_i32_131 v252
  let c256_i32_132 : BitVec 32 := 256#32
  let v254 : BitVec 32 := Scalar.muli v253 c256_i32_132
  let v255 : BitVec 32 := v254
  let v270 : Index := Scalar.indexCast v255
  let c0_146 : Index := 0#32
  ![1, v270.toNat, 0]
def k0_mult9 (i : grid0.Coords) (k0_t3 : Fin (k0_t3_loop i).trips) : BitVec 32 :=
  let c15_i32_157 : BitVec 32 := 15#32
  let c2_i32_129 : BitVec 32 := 2#32
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_82 : BitVec 32 := 1#32
  let arg25 : BitVec 32 := Scf.iv v195 c1_i32_82 k0_t3
  let v251 : BitVec 32 := Scalar.muli c2_i32_129 arg25
  let v284 : BitVec 32 := Scalar.subi c15_i32_157 v251
  let c256_i32_158 : BitVec 32 := 256#32
  let v285 : BitVec 32 := Scalar.muli v284 c256_i32_158
  v285
def k0_off12 (i : grid0.Coords) (k0_t3 : Fin (k0_t3_loop i).trips) : Fin 3 → Nat :=
  let c0_350 : Index := 0#32
  let c15_i32_157 : BitVec 32 := 15#32
  let c2_i32_129 : BitVec 32 := 2#32
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_82 : BitVec 32 := 1#32
  let arg25 : BitVec 32 := Scf.iv v195 c1_i32_82 k0_t3
  let v251 : BitVec 32 := Scalar.muli c2_i32_129 arg25
  let v284 : BitVec 32 := Scalar.subi c15_i32_157 v251
  let c256_i32_158 : BitVec 32 := 256#32
  let v285 : BitVec 32 := Scalar.muli v284 c256_i32_158
  let v286 : BitVec 32 := v285
  let v515 : Index := Scalar.indexCast v286
  let c0_351 : Index := 0#32
  ![0, v515.toNat, 0]
def k0_off13 (i : grid0.Coords) (k0_t3 : Fin (k0_t3_loop i).trips) : Fin 3 → Nat :=
  let c1_382 : Index := 1#32
  let c15_i32_157 : BitVec 32 := 15#32
  let c2_i32_129 : BitVec 32 := 2#32
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_82 : BitVec 32 := 1#32
  let arg25 : BitVec 32 := Scf.iv v195 c1_i32_82 k0_t3
  let v251 : BitVec 32 := Scalar.muli c2_i32_129 arg25
  let v284 : BitVec 32 := Scalar.subi c15_i32_157 v251
  let c256_i32_158 : BitVec 32 := 256#32
  let v285 : BitVec 32 := Scalar.muli v284 c256_i32_158
  let v286 : BitVec 32 := v285
  let v550 : Index := Scalar.indexCast v286
  let c0_383 : Index := 0#32
  ![1, v550.toNat, 0]
def k0_mult10 (i : grid0.Coords) (k0_t3 : Fin (k0_t3_loop i).trips) : BitVec 32 :=
  let c15_i32_409 : BitVec 32 := 15#32
  let c2_i32_129 : BitVec 32 := 2#32
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_82 : BitVec 32 := 1#32
  let arg25 : BitVec 32 := Scf.iv v195 c1_i32_82 k0_t3
  let v251 : BitVec 32 := Scalar.muli c2_i32_129 arg25
  let c2_i32_408 : BitVec 32 := 2#32
  let v581 : BitVec 32 := Scalar.addi v251 c2_i32_408
  let v582 : BitVec 32 := Scalar.subi c15_i32_409 v581
  let c256_i32_410 : BitVec 32 := 256#32
  let v583 : BitVec 32 := Scalar.muli v582 c256_i32_410
  v583
def k0_mult11 (i : grid0.Coords) (k0_t3 : Fin (k0_t3_loop i).trips) : BitVec 32 :=
  let c15_i32_436 : BitVec 32 := 15#32
  let c2_i32_129 : BitVec 32 := 2#32
  let c0_i32_79 : BitVec 32 := 0#32
  let c15_i32 : BitVec 32 := 15#32
  let arg1 : BitVec 32 := BitVec.ofNat 32 (i 1).val
  let v144 : BitVec 32 := Scalar.subi c15_i32 arg1
  let c0_i32_73 : BitVec 32 := 0#32
  let v175 : BitVec 1 := Scalar.cmpi .sgt v144 c0_i32_73
  let v176 : BitVec 32 := Scalar.extui v175
  let c0_i32_74 : BitVec 32 := 0#32
  let v177 : BitVec 1 := Scalar.cmpi .slt v144 c0_i32_74
  let v178 : BitVec 32 := Scalar.extui v177
  let v179 : BitVec 32 := Scalar.subi v176 v178
  let c2_i32 : BitVec 32 := 2#32
  let c0_i32_75 : BitVec 32 := 0#32
  let v180 : BitVec 1 := Scalar.cmpi .sgt c2_i32 c0_i32_75
  let v181 : BitVec 32 := Scalar.extui v180
  let c0_i32_76 : BitVec 32 := 0#32
  let v182 : BitVec 1 := Scalar.cmpi .slt c2_i32 c0_i32_76
  let v183 : BitVec 32 := Scalar.extui v182
  let v184 : BitVec 32 := Scalar.subi v181 v183
  let v185 : BitVec 1 := Scalar.cmpi .ne v179 v184
  let v186 : BitVec 32 := Scalar.remsi v144 c2_i32
  let c0_i32_77 : BitVec 32 := 0#32
  let v187 : BitVec 1 := Scalar.cmpi .ne v186 c0_i32_77
  let v188 : BitVec 1 := Scalar.andi v185 v187
  let v174 : BitVec 32 := Scalar.divsi v144 c2_i32
  let c1_i32 : BitVec 32 := 1#32
  let v189 : BitVec 32 := Scalar.subi v174 c1_i32
  let v190 : BitVec 32 := Scalar.select v188 v189 v174
  let v191 : BitVec 32 := Scalar.subi v190 c0_i32_79
  let c1_i32_80 : BitVec 32 := 1#32
  let v193 : BitVec 32 := Scalar.divsi v191 c1_i32_80
  let v194 : BitVec 32 := Scalar.muli v193 c1_i32_80
  let v195 : BitVec 32 := Scalar.addi c0_i32_79 v194
  let c1_i32_82 : BitVec 32 := 1#32
  let arg25 : BitVec 32 := Scf.iv v195 c1_i32_82 k0_t3
  let v251 : BitVec 32 := Scalar.muli c2_i32_129 arg25
  let c1_i32_435 : BitVec 32 := 1#32
  let v613 : BitVec 32 := Scalar.addi v251 c1_i32_435
  let v614 : BitVec 32 := Scalar.subi c15_i32_436 v613
  let c256_i32_437 : BitVec 32 := 256#32
  let v615 : BitVec 32 := Scalar.muli v614 c256_i32_437
  v615
def k0_cond2 (i : grid0.Coords) : BitVec 1 :=
  let c15_i32 : BitVec 32 := 15#32
  let arg1 : BitVec 32 := BitVec.ofNat 32 (i 1).val
  let v144 : BitVec 32 := Scalar.subi c15_i32 arg1
  let c2_i32_83 : BitVec 32 := 2#32
  let c0_i32_84 : BitVec 32 := 0#32
  let v196 : BitVec 1 := Scalar.cmpi .eq c2_i32_83 c0_i32_84
  let c1_i32_85 : BitVec 32 := 1#32
  let v197 : BitVec 32 := Scalar.select v196 c1_i32_85 c2_i32_83
  let v198 : BitVec 32 := Scalar.remsi v144 v197
  let c0_i32_87 : BitVec 32 := 0#32
  let v200 : BitVec 1 := Scalar.cmpi .slt v198 c0_i32_87
  let c0_i32_88 : BitVec 32 := 0#32
  let v201 : BitVec 1 := Scalar.cmpi .slt v197 c0_i32_88
  let v202 : BitVec 1 := Scalar.xori v200 v201
  let c0_i32_86 : BitVec 32 := 0#32
  let v199 : BitVec 1 := Scalar.cmpi .ne v198 c0_i32_86
  let v203 : BitVec 1 := Scalar.andi v202 v199
  let v204 : BitVec 32 := Scalar.addi v198 v197
  let v205 : BitVec 32 := Scalar.select v203 v204 v198
  let c0_i32_89 : BitVec 32 := 0#32
  let v206 : BitVec 1 := Scalar.cmpi .eq v205 c0_i32_89
  let v207 : BitVec 32 := Scalar.extui v206
  let c0_i32_90 : BitVec 32 := 0#32
  let v208 : BitVec 1 := Scalar.cmpi .ne v207 c0_i32_90
  v208

def k0_mult12 (i : grid0.Coords) : BitVec 32 :=
  let c15_i32_129 : BitVec 32 := 15#32
  let c15_i32 : BitVec 32 := 15#32
  let arg1 : BitVec 32 := BitVec.ofNat 32 (i 1).val
  let v144 : BitVec 32 := Scalar.subi c15_i32 arg1
  let v251 : BitVec 32 := Scalar.subi c15_i32_129 v144
  let c256_i32_130 : BitVec 32 := 256#32
  let v252 : BitVec 32 := Scalar.muli v251 c256_i32_130
  v252
def k0_off14 (i : grid0.Coords) : Fin 3 → Nat :=
  let c0_349 : Index := 0#32
  let c15_i32_129 : BitVec 32 := 15#32
  let c15_i32 : BitVec 32 := 15#32
  let arg1 : BitVec 32 := BitVec.ofNat 32 (i 1).val
  let v144 : BitVec 32 := Scalar.subi c15_i32 arg1
  let v251 : BitVec 32 := Scalar.subi c15_i32_129 v144
  let c256_i32_130 : BitVec 32 := 256#32
  let v252 : BitVec 32 := Scalar.muli v251 c256_i32_130
  let v253 : BitVec 32 := v252
  let v594 : Index := Scalar.indexCast v253
  let c0_350 : Index := 0#32
  ![0, v594.toNat, 0]
def k0_off15 (i : grid0.Coords) : Fin 3 → Nat :=
  let c1_381 : Index := 1#32
  let c15_i32_129 : BitVec 32 := 15#32
  let c15_i32 : BitVec 32 := 15#32
  let arg1 : BitVec 32 := BitVec.ofNat 32 (i 1).val
  let v144 : BitVec 32 := Scalar.subi c15_i32 arg1
  let v251 : BitVec 32 := Scalar.subi c15_i32_129 v144
  let c256_i32_130 : BitVec 32 := 256#32
  let v252 : BitVec 32 := Scalar.muli v251 c256_i32_130
  let v253 : BitVec 32 := v252
  let v629 : Index := Scalar.indexCast v253
  let c0_382 : Index := 0#32
  ![1, v629.toNat, 0]
def k0_cond3 (i : grid0.Coords) : BitVec 1 :=
  let c15_i32 : BitVec 32 := 15#32
  let arg1 : BitVec 32 := BitVec.ofNat 32 (i 1).val
  let v144 : BitVec 32 := Scalar.subi c15_i32 arg1
  let c2_i32_91 : BitVec 32 := 2#32
  let c0_i32_92 : BitVec 32 := 0#32
  let v209 : BitVec 1 := Scalar.cmpi .eq c2_i32_91 c0_i32_92
  let c1_i32_93 : BitVec 32 := 1#32
  let v210 : BitVec 32 := Scalar.select v209 c1_i32_93 c2_i32_91
  let v211 : BitVec 32 := Scalar.remsi v144 v210
  let c0_i32_95 : BitVec 32 := 0#32
  let v213 : BitVec 1 := Scalar.cmpi .slt v211 c0_i32_95
  let c0_i32_96 : BitVec 32 := 0#32
  let v214 : BitVec 1 := Scalar.cmpi .slt v210 c0_i32_96
  let v215 : BitVec 1 := Scalar.xori v213 v214
  let c0_i32_94 : BitVec 32 := 0#32
  let v212 : BitVec 1 := Scalar.cmpi .ne v211 c0_i32_94
  let v216 : BitVec 1 := Scalar.andi v215 v212
  let v217 : BitVec 32 := Scalar.addi v211 v210
  let v218 : BitVec 32 := Scalar.select v216 v217 v211
  let c1_i32_97 : BitVec 32 := 1#32
  let v219 : BitVec 1 := Scalar.cmpi .eq v218 c1_i32_97
  let v220 : BitVec 32 := Scalar.extui v219
  let c0_i32_98 : BitVec 32 := 0#32
  let v221 : BitVec 1 := Scalar.cmpi .ne v220 c0_i32_98
  v221

def k0_mult13 (i : grid0.Coords) : BitVec 32 :=
  let c15_i32_129 : BitVec 32 := 15#32
  let c15_i32 : BitVec 32 := 15#32
  let arg1 : BitVec 32 := BitVec.ofNat 32 (i 1).val
  let v144 : BitVec 32 := Scalar.subi c15_i32 arg1
  let v251 : BitVec 32 := Scalar.subi c15_i32_129 v144
  let c256_i32_130 : BitVec 32 := 256#32
  let v252 : BitVec 32 := Scalar.muli v251 c256_i32_130
  v252
def k0_off16 (i : grid0.Coords) : Fin 3 → Nat :=
  let c0_131 : Index := 0#32
  let c15_i32_129 : BitVec 32 := 15#32
  let c15_i32 : BitVec 32 := 15#32
  let arg1 : BitVec 32 := BitVec.ofNat 32 (i 1).val
  let v144 : BitVec 32 := Scalar.subi c15_i32 arg1
  let v251 : BitVec 32 := Scalar.subi c15_i32_129 v144
  let c256_i32_130 : BitVec 32 := 256#32
  let v252 : BitVec 32 := Scalar.muli v251 c256_i32_130
  let v253 : BitVec 32 := v252
  let v254 : Index := Scalar.indexCast v253
  let c0_132 : Index := 0#32
  ![0, v254.toNat, 0]
def k0_off17 (i : grid0.Coords) : Fin 3 → Nat :=
  let c1_143 : Index := 1#32
  let c15_i32_129 : BitVec 32 := 15#32
  let c15_i32 : BitVec 32 := 15#32
  let arg1 : BitVec 32 := BitVec.ofNat 32 (i 1).val
  let v144 : BitVec 32 := Scalar.subi c15_i32 arg1
  let v251 : BitVec 32 := Scalar.subi c15_i32_129 v144
  let c256_i32_130 : BitVec 32 := 256#32
  let v252 : BitVec 32 := Scalar.muli v251 c256_i32_130
  let v253 : BitVec 32 := v252
  let v268 : Index := Scalar.indexCast v253
  let c0_144 : Index := 0#32
  ![1, v268.toNat, 0]
def k0_mult14 (i : grid0.Coords) : BitVec 32 :=
  let c15_i32_156 : BitVec 32 := 15#32
  let c15_i32 : BitVec 32 := 15#32
  let arg1 : BitVec 32 := BitVec.ofNat 32 (i 1).val
  let v144 : BitVec 32 := Scalar.subi c15_i32 arg1
  let c1_i32_155 : BitVec 32 := 1#32
  let v282 : BitVec 32 := Scalar.subi v144 c1_i32_155
  let v283 : BitVec 32 := Scalar.subi c15_i32_156 v282
  let c256_i32_157 : BitVec 32 := 256#32
  let v284 : BitVec 32 := Scalar.muli v283 c256_i32_157
  v284
def k0_off18 (i : grid0.Coords) : Fin 3 → Nat :=
  let c0_349 : Index := 0#32
  let c15_i32_156 : BitVec 32 := 15#32
  let c15_i32 : BitVec 32 := 15#32
  let arg1 : BitVec 32 := BitVec.ofNat 32 (i 1).val
  let v144 : BitVec 32 := Scalar.subi c15_i32 arg1
  let c1_i32_155 : BitVec 32 := 1#32
  let v282 : BitVec 32 := Scalar.subi v144 c1_i32_155
  let v283 : BitVec 32 := Scalar.subi c15_i32_156 v282
  let c256_i32_157 : BitVec 32 := 256#32
  let v284 : BitVec 32 := Scalar.muli v283 c256_i32_157
  let v285 : BitVec 32 := v284
  let v514 : Index := Scalar.indexCast v285
  let c0_350 : Index := 0#32
  ![0, v514.toNat, 0]
def k0_off19 (i : grid0.Coords) : Fin 3 → Nat :=
  let c1_381 : Index := 1#32
  let c15_i32_156 : BitVec 32 := 15#32
  let c15_i32 : BitVec 32 := 15#32
  let arg1 : BitVec 32 := BitVec.ofNat 32 (i 1).val
  let v144 : BitVec 32 := Scalar.subi c15_i32 arg1
  let c1_i32_155 : BitVec 32 := 1#32
  let v282 : BitVec 32 := Scalar.subi v144 c1_i32_155
  let v283 : BitVec 32 := Scalar.subi c15_i32_156 v282
  let c256_i32_157 : BitVec 32 := 256#32
  let v284 : BitVec 32 := Scalar.muli v283 c256_i32_157
  let v285 : BitVec 32 := v284
  let v549 : Index := Scalar.indexCast v285
  let c0_382 : Index := 0#32
  ![1, v549.toNat, 0]
def k0_mult15 (i : grid0.Coords) : BitVec 32 :=
  let c15_i32_407 : BitVec 32 := 15#32
  let c15_i32 : BitVec 32 := 15#32
  let arg1 : BitVec 32 := BitVec.ofNat 32 (i 1).val
  let v144 : BitVec 32 := Scalar.subi c15_i32 arg1
  let v580 : BitVec 32 := Scalar.subi c15_i32_407 v144
  let c256_i32_408 : BitVec 32 := 256#32
  let v581 : BitVec 32 := Scalar.muli v580 c256_i32_408
  v581
def k0_cond4 (i : grid0.Coords) : BitVec 1 :=
  let arg1 : BitVec 32 := BitVec.ofNat 32 (i 1).val
  let c15_i32_127 : BitVec 32 := 15#32
  let v248 : BitVec 1 := Scalar.cmpi .eq arg1 c15_i32_127
  let v249 : BitVec 32 := Scalar.extui v248
  let c0_i32_128 : BitVec 32 := 0#32
  let v250 : BitVec 1 := Scalar.cmpi .ne v249 c0_i32_128
  v250

@[reducible] def k0_t4_loop : Scf.Loop 32 :=
  let c0_i32_129 : BitVec 32 := 0#32
  let c16_i32 : BitVec 32 := 16#32
  let v251 : BitVec 32 := Scalar.addi c0_i32_129 c16_i32
  let c1_i32_130 : BitVec 32 := 1#32
  ⟨c0_i32_129, v251, c1_i32_130⟩
def k0_mult16 (k0_t4 : Fin k0_t4_loop.trips) : BitVec 32 :=
  let c0_i32_129 : BitVec 32 := 0#32
  let c1_i32_130 : BitVec 32 := 1#32
  let arg25 : BitVec 32 := Scf.iv c0_i32_129 c1_i32_130 k0_t4
  let c256_i32_132 : BitVec 32 := 256#32
  let v252 : BitVec 32 := Scalar.muli arg25 c256_i32_132
  v252
def k0_off20 (k0_t4 : Fin k0_t4_loop.trips) : Fin 3 → Nat :=
  let c0_133 : Index := 0#32
  let c0_i32_129 : BitVec 32 := 0#32
  let c1_i32_130 : BitVec 32 := 1#32
  let arg25 : BitVec 32 := Scf.iv c0_i32_129 c1_i32_130 k0_t4
  let c256_i32_132 : BitVec 32 := 256#32
  let v252 : BitVec 32 := Scalar.muli arg25 c256_i32_132
  let v253 : BitVec 32 := v252
  let v254 : Index := Scalar.indexCast v253
  let c0_134 : Index := 0#32
  ![0, v254.toNat, 0]
def k0_off21 (k0_t4 : Fin k0_t4_loop.trips) : Fin 3 → Nat :=
  let c1_135 : Index := 1#32
  let c0_i32_129 : BitVec 32 := 0#32
  let c1_i32_130 : BitVec 32 := 1#32
  let arg25 : BitVec 32 := Scf.iv c0_i32_129 c1_i32_130 k0_t4
  let c256_i32_132 : BitVec 32 := 256#32
  let v252 : BitVec 32 := Scalar.muli arg25 c256_i32_132
  let v253 : BitVec 32 := v252
  let v257 : Index := Scalar.indexCast v253
  let c0_136 : Index := 0#32
  ![1, v257.toNat, 0]
def k0_off22 (k0_t4 : Fin k0_t4_loop.trips) : Fin 2 → Nat :=
  let c0_i32_129 : BitVec 32 := 0#32
  let c1_i32_130 : BitVec 32 := 1#32
  let arg25 : BitVec 32 := Scf.iv c0_i32_129 c1_i32_130 k0_t4
  let c256_i32_132 : BitVec 32 := 256#32
  let v252 : BitVec 32 := Scalar.muli arg25 c256_i32_132
  let v253 : BitVec 32 := v252
  let v263 : Index := Scalar.indexCast v253
  let c0_138 : Index := 0#32
  ![v263.toNat, 0]
def k0_off23 (k0_t4 : Fin k0_t4_loop.trips) : Fin 3 → Nat :=
  let c0_139 : Index := 0#32
  let c0_140 : Index := 0#32
  let c0_i32_129 : BitVec 32 := 0#32
  let c1_i32_130 : BitVec 32 := 1#32
  let arg25 : BitVec 32 := Scf.iv c0_i32_129 c1_i32_130 k0_t4
  let c256_i32_132 : BitVec 32 := 256#32
  let v252 : BitVec 32 := Scalar.muli arg25 c256_i32_132
  let v253 : BitVec 32 := v252
  let v268 : Index := Scalar.indexCast v253
  ![0, 0, v268.toNat]
def k0_off24 (k0_t4 : Fin k0_t4_loop.trips) : Fin 3 → Nat :=
  let c0_141 : Index := 0#32
  let c1_142 : Index := 1#32
  let c0_i32_129 : BitVec 32 := 0#32
  let c1_i32_130 : BitVec 32 := 1#32
  let arg25 : BitVec 32 := Scf.iv c0_i32_129 c1_i32_130 k0_t4
  let c256_i32_132 : BitVec 32 := 256#32
  let v252 : BitVec 32 := Scalar.muli arg25 c256_i32_132
  let v253 : BitVec 32 := v252
  let v273 : Index := Scalar.indexCast v253
  ![0, 1, v273.toNat]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S8x4096 : Shape := ⟨2, ![8, 4096]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4x2x4096 : Shape := ⟨3, ![4, 2, 4096]⟩

abbrev nBuf : Space → Nat
  | .hbm => 124
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x4096, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x8x64, .f32⟩
  | .hbm, ⟨8, _⟩ => ⟨S8x4096x64, .f32⟩
  | .hbm, ⟨9, _⟩ => ⟨S4096x8x64, .f32⟩
  | .hbm, ⟨10, _⟩ => ⟨S8x4096x64, .f32⟩
  | .hbm, ⟨11, _⟩ => ⟨S4096x8x64, .f32⟩
  | .hbm, ⟨12, _⟩ => ⟨S8x4096x64, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S8x4096x4096, .i1⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .i1⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .i1⟩
  | .hbm, ⟨50, _⟩ => ⟨S_, .f32⟩
  | .hbm, ⟨51, _⟩ => ⟨S8x4096, .f32⟩
  | .hbm, ⟨52, _⟩ => ⟨S8x4096, .i1⟩
  | .hbm, ⟨53, _⟩ => ⟨S_, .f32⟩
  | .hbm, ⟨54, _⟩ => ⟨S8x4096, .f32⟩
  | .hbm, ⟨55, _⟩ => ⟨S_, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S8x4096, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S8x4096x4096, .f32⟩
  | .hbm, ⟨69, _⟩ => ⟨S8x4096x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x64, .f32⟩
  | .hbm, ⟨75, _⟩ => ⟨S4096x8x64, .f32⟩
  | .hbm, ⟨76, _⟩ => ⟨S4096x512, .f32⟩
  | .hbm, ⟨77, _⟩ => ⟨S4096x8x64, .f32⟩
  | .hbm, ⟨78, _⟩ => ⟨S8x4096x64, .f32⟩
  | .hbm, ⟨79, _⟩ => ⟨S8x64x4096, .f32⟩
  | .hbm, ⟨80, _⟩ => ⟨S8x4096x64, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S8x4096x1, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S8x4096x4096, .f32⟩
  | .hbm, ⟨94, _⟩ => ⟨S8x4096x4096, .f32⟩
  | .hbm, ⟨95, _⟩ => ⟨S8x4096x4096, .f32⟩
  | .hbm, ⟨96, _⟩ => ⟨S_, .f32⟩
  | .hbm, ⟨97, _⟩ => ⟨S8x4096x4096, .f32⟩
  | .hbm, ⟨98, _⟩ => ⟨S8x4096x4096, .f32⟩
  | .hbm, ⟨99, _⟩ => ⟨S8x4096x4096, .f32⟩
  | .hbm, ⟨100, _⟩ => ⟨S_, .f32⟩
  | .hbm, ⟨101, _⟩ => ⟨S8x4096, .f32⟩
  | .hbm, ⟨102, _⟩ => ⟨S8x1x4096, .f32⟩
  | .hbm, ⟨103, _⟩ => ⟨S_, .f32⟩
  | .hbm, ⟨104, _⟩ => ⟨S8x4096, .f32⟩
  | .hbm, ⟨105, _⟩ => ⟨S_, .f32⟩
  | .hbm, ⟨106, _⟩ => ⟨S8x4096, .f32⟩
  | .hbm, ⟨107, _⟩ => ⟨S8x4096x1, .f32⟩
  | .hbm, ⟨108, _⟩ => ⟨S_, .f32⟩
  | .hbm, ⟨109, _⟩ => ⟨S8x4096, .f32⟩
  | .hbm, ⟨110, _⟩ => ⟨S_, .f32⟩
  | .hbm, ⟨111, _⟩ => ⟨S8x4096x4096, .f32⟩
  | .hbm, ⟨112, _⟩ => ⟨S8x4096x4096, .f32⟩
  | .hbm, ⟨113, _⟩ => ⟨S8x4096x64, .f32⟩
  | .hbm, ⟨114, _⟩ => ⟨S8x4096x64, .f32⟩
  | .hbm, ⟨115, _⟩ => ⟨S4096x8x64, .f32⟩
  | .hbm, ⟨116, _⟩ => ⟨S4096x512, .f32⟩
  | .hbm, ⟨117, _⟩ => ⟨S4096x8x64, .f32⟩
  | .hbm, ⟨118, _⟩ => ⟨S4096x512, .f32⟩
  | .hbm, ⟨119, _⟩ => ⟨S4096x8x64, .f32⟩
  | .hbm, ⟨120, _⟩ => ⟨S4096x512, .f32⟩
  | .hbm, ⟨121, _⟩ => ⟨S4x2x4096, .f32⟩
  | .hbm, ⟨122, _⟩ => ⟨S4x2x4096, .f32⟩
  | .hbm, ⟨123, _⟩ => ⟨S4x2x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x1408, .bf16⟩
  | .local _ .vmem, ⟨5, _⟩ => ⟨S1024x1408, .bf16⟩
  | .local _ .vmem, ⟨6, _⟩ => ⟨S1408x512, .bf16⟩
  | .local _ .vmem, ⟨7, _⟩ => ⟨S1408x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .bf16⟩
  | .hbm, ⟨3, _⟩ => ⟨S2816x1024, .bf16⟩
  | .hbm, ⟨4, _⟩ => ⟨S_, .f32⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S4096x2816, .bf16⟩
  | .hbm, ⟨5, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S2816x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .bf16⟩
  | .hbm, ⟨29, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel5.lean ====
abbrev S4096x1024 : Shape := ⟨2, ![4096, 1024]⟩
abbrev S4096x4224 : Shape := ⟨2, ![4096, 4224]⟩
abbrev S1024x4224 : Shape := ⟨2, ![1024, 4224]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S1024x4224, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4224 : Shape := ⟨2, ![4096, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S_, .f32⟩
  | .hbm, ⟨3, _⟩ => ⟨S1024x4224, .f32⟩
  | .hbm, ⟨4, _⟩ => ⟨S4096x1024, .f32⟩
  | .hbm, ⟨5, _⟩ => ⟨S4096x4224, .f32⟩
  | .hbm, ⟨6, _⟩ => ⟨S4096x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x4224 : Shape := ⟨2, ![4096, 4224]⟩
abbrev S1024x4224 : Shape := ⟨2, ![1024, 4224]⟩
abbrev S4096x1024 : Shape := ⟨2, ![4096, 1024]⟩
abbrev S2048x1408 : Shape := ⟨2, ![2048, 1408]⟩
abbrev S512x1408 : Shape := ⟨2, ![512, 1408]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4224, .bf16⟩
  | .hbm, ⟨1, _⟩ => ⟨S1024x4224, .bf16⟩
  | .hbm, ⟨2, _⟩ => ⟨S4096x1024, .f32⟩
  | .local _ .vmem, ⟨0, _⟩ => ⟨S2048x1408, .bf16⟩
  | .local _ .vmem, ⟨1, _⟩ => ⟨S2048x1408, .bf16⟩
  | .local _ .vmem, ⟨2, _⟩ => ⟨S512x1408, .bf16⟩
  | .local _ .vmem, ⟨3, _⟩ => ⟨S512x1408, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4224 : Shape := ⟨2, ![4096, 4224]⟩
abbrev S1024x4224 : Shape := ⟨2, ![1024, 4224]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S1024x4224, .bf16⟩
  | .hbm, ⟨2, _⟩ => ⟨S_, .f32⟩
  | .hbm, ⟨3, _⟩ => ⟨S4096x1024, .f32⟩
  | .hbm, ⟨4, _⟩ => ⟨S1024x4224, .f32⟩
  | .hbm, ⟨5, _⟩ => ⟨S4096x4224, .f32⟩
  | .hbm, ⟨6, _⟩ => ⟨S4096x4224, .f32⟩
  | .hbm, ⟨7, _⟩ => ⟨S4096x1024, .f32⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .f32⟩
  | .hbm, ⟨4, _⟩ => ⟨S4096x2816, .f32⟩
  | .hbm, ⟨5, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S4096x1024, .f32⟩
  | .hbm, ⟨8, _⟩ => ⟨S2816x1024, .f32⟩
  | .hbm, ⟨9, _⟩ => ⟨S1024x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S1408x512 : Shape := ⟨2, ![1408, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S2048x1408, .bf16⟩
  | .local _ .vmem, ⟨1, _⟩ => ⟨S2048x1408, .bf16⟩
  | .local _ .vmem, ⟨2, _⟩ => ⟨S1408x512, .bf16⟩
  | .local _ .vmem, ⟨3, _⟩ => ⟨S1408x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S512x1024 : Shape := ⟨2, ![512, 1024]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S4096x2048 : Shape := ⟨2, ![4096, 2048]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 9
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference13Ideal.lean ====
abbrev S4096x1024 : Shape := ⟨2, ![4096, 1024]⟩
abbrev S1024x1024 : Shape := ⟨2, ![1024, 1024]⟩
abbrev S4096x2048 : Shape := ⟨2, ![4096, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel14.lean ====
abbrev S4096x512 : Shape := ⟨2, ![4096, 512]⟩
abbrev S512x1024 : Shape := ⟨2, ![512, 1024]⟩
abbrev S4096x1024 : Shape := ⟨2, ![4096, 1024]⟩
abbrev S4096x2048 : Shape := ⟨2, ![4096, 2048]⟩
abbrev S2048x512 : Shape := ⟨2, ![2048, 512]⟩
abbrev S512x256 : Shape := ⟨2, ![512, 256]⟩
abbrev S2048x256 : Shape := ⟨2, ![2048, 256]⟩

abbrev nBuf : Space → Nat
  | .hbm => 6
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x2048, .f32⟩
  | .hbm, ⟨4, _⟩ => ⟨S4096x1024, .f32⟩
  | .hbm, ⟨5, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S512x256, .bf16⟩
  | .local _ .vmem, ⟨3, _⟩ => ⟨S512x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S4096x512 : Shape := ⟨2, ![4096, 512]⟩
abbrev S512x1024 : Shape := ⟨2, ![512, 1024]⟩
abbrev S4096x1024 : Shape := ⟨2, ![4096, 1024]⟩
abbrev S4096x2048 : Shape := ⟨2, ![4096, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S4096x2048, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel15.lean ====
abbrev S4096x512 : Shape := ⟨2, ![4096, 512]⟩
abbrev S512x512 : Shape := ⟨2, ![512, 512]⟩
abbrev S1x512 : Shape := ⟨2, ![1, 512]⟩
abbrev S2048x512 : Shape := ⟨2, ![2048, 512]⟩
abbrev S512x256 : Shape := ⟨2, ![512, 256]⟩
abbrev S2048x256 : Shape := ⟨2, ![2048, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S4096x512, .bf16⟩
  | .local _ .vmem, ⟨0, _⟩ => ⟨S2048x512, .bf16⟩
  | .local _ .vmem, ⟨1, _⟩ => ⟨S2048x512, .bf16⟩
  | .local _ .vmem, ⟨2, _⟩ => ⟨S512x256, .bf16⟩
  | .local _ .vmem, ⟨3, _⟩ => ⟨S512x256, .bf16⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S4096x512 : Shape := ⟨2, ![4096, 512]⟩
abbrev S512x512 : Shape := ⟨2, ![512, 512]⟩
abbrev S1x512 : Shape := ⟨2, ![1, 512]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S512x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x512 : Shape := ⟨2, ![4096, 512]⟩
abbrev S512x512 : Shape := ⟨2, ![512, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x512 : Shape := ⟨2, ![4096, 512]⟩
abbrev S1x512 : Shape := ⟨2, ![1, 512]⟩
abbrev S1024x512 : Shape := ⟨2, ![1024, 512]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S4096x512, .bf16⟩
  | .hbm, ⟨5, _⟩ => ⟨S4096x512, .f32⟩
  | .hbm, ⟨6, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | .local _ .vmem, ⟨11, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .sgt arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S4096x512 : Shape := ⟨2, ![4096, 512]⟩
abbrev S1x512 : Shape := ⟨2, ![1, 512]⟩
abbrev S_ : Shape := ⟨0, ![]⟩
abbrev S512 : Shape := ⟨1, ![512]⟩

abbrev nBuf : Space → Nat
  | .hbm => 43
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S512, .f32⟩
  | .hbm, ⟨41, _⟩ => ⟨S1x512, .f32⟩
  | .hbm, ⟨42, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel20.lean ====
abbrev S8x352x1024 : Shape := ⟨3, ![8, 352, 1024]⟩
abbrev S2x352x1024 : Shape := ⟨3, ![2, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel20Ideal.lean ====
abbrev S8x352x1024 : Shape := ⟨3, ![8, 352, 1024]⟩
abbrev S2x352x1024 : Shape := ⟨3, ![2, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel21.lean ====
abbrev S1x1x1024 : Shape := ⟨3, ![1, 1, 1024]⟩
abbrev S2x1x1024 : Shape := ⟨3, ![2, 1, 1024]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel21Ideal.lean ====
abbrev S1x1x1024 : Shape := ⟨3, ![1, 1, 1024]⟩
abbrev S2x1x1024 : Shape := ⟨3, ![2, 1, 1024]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S1x1x1024 : Shape := ⟨3, ![1, 1, 1024]⟩
abbrev S2x1x1024 : Shape := ⟨3, ![2, 1, 1024]⟩
abbrev S_ : Shape := ⟨0, ![]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1x1024, .f32⟩
  | .hbm, ⟨10, _⟩ => ⟨S1x1x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S_, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S_, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x1x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x1x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x1x1024, .f32⟩
  | .hbm, ⟨42, _⟩ => ⟨S_, .f32⟩
  | .hbm, ⟨43, _⟩ => ⟨S2x1x1024, .f32⟩
  | .hbm, ⟨44, _⟩ => ⟨S2x1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel22.lean ====
abbrev S8x1024x513 : Shape := ⟨3, ![8, 1024, 513]⟩
abbrev S2x1024x513 : Shape := ⟨3, ![2, 1024, 513]⟩
abbrev S8x128x513 : Shape := ⟨3, ![8, 128, 513]⟩
abbrev S1x128x513 : Shape := ⟨3, ![1, 128, 513]⟩
abbrev S128x513 : Shape := ⟨2, ![128, 513]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x513, .bf16⟩
  | .hbm, ⟨1, _⟩ => ⟨S8x1024x513, .bf16⟩
  | .hbm, ⟨2, _⟩ => ⟨S2x1024x513, .f32⟩
  | .hbm, ⟨3, _⟩ => ⟨S2x1024x513, .f32⟩
  | .hbm, ⟨4, _⟩ => ⟨S2x1024x513, .f32⟩
  | .hbm, ⟨5, _⟩ => ⟨S2x1024x513, .f32⟩
  | .hbm, ⟨6, _⟩ => ⟨S2x1024x513, .f32⟩
  | .hbm, ⟨7, _⟩ => ⟨S2x1024x513, .f32⟩
  | .hbm, ⟨8, _⟩ => ⟨S2x1024x513, .f32⟩
  | .local _ .vmem, ⟨0, _⟩ => ⟨S8x128x513, .bf16⟩
  | .local _ .vmem, ⟨1, _⟩ => ⟨S8x128x513, .bf16⟩
  | .local _ .vmem, ⟨2, _⟩ => ⟨S8x128x513, .bf16⟩
  | .local _ .vmem, ⟨3, _⟩ => ⟨S8x128x513, .bf16⟩
  | .local _ .vmem, ⟨4, _⟩ => ⟨S1x128x513, .f32⟩
  | .local _ .vmem, ⟨5, _⟩ => ⟨S1x128x513, .f32⟩
  | .local _ .vmem, ⟨6, _⟩ => ⟨S1x128x513, .f32⟩
  | .local _ .vmem, ⟨7, _⟩ => ⟨S1x128x513, .f32⟩
  | .local _ .vmem, ⟨8, _⟩ => ⟨S1x128x513, .f32⟩
  | .local _ .vmem, ⟨9, _⟩ => ⟨S1x128x513, .f32⟩
  | .local _ .vmem, ⟨10, _⟩ => ⟨S1x128x513, .f32⟩
  | .local _ .vmem, ⟨11, _⟩ => ⟨S1x128x513, .f32⟩
  | .local _ .vmem, ⟨12, _⟩ => ⟨S1x128x513, .f32⟩
  | .local _ .vmem, ⟨13, _⟩ => ⟨S1x128x513, .f32⟩
  | .local _ .vmem, ⟨14, _⟩ => ⟨S1x128x513, .f32⟩
  | .local _ .vmem, ⟨15, _⟩ => ⟨S1x128x513, .f32⟩
  | .local _ .vmem, ⟨16, _⟩ => ⟨S1x128x513, .f32⟩
  | .local _ .vmem, ⟨17, _⟩ => ⟨S1x128x513, .f32⟩
  | _, _ => ⟨S8x1024x513, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x513 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x513 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x513 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x513 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x513 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x513 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x513 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x513 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x513 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel22Ideal.lean ====
abbrev S8x1024x513 : Shape := ⟨3, ![8, 1024, 513]⟩
abbrev S2x1024x513 : Shape := ⟨3, ![2, 1024, 513]⟩
abbrev S8x128x513 : Shape := ⟨3, ![8, 128, 513]⟩
abbrev S1x128x513 : Shape := ⟨3, ![1, 128, 513]⟩
abbrev S128x513 : Shape := ⟨2, ![128, 513]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x513, .bf16⟩
  | .hbm, ⟨1, _⟩ => ⟨S8x1024x513, .bf16⟩
  | .hbm, ⟨2, _⟩ => ⟨S2x1024x513, .f32⟩
  | .hbm, ⟨3, _⟩ => ⟨S2x1024x513, .f32⟩
  | .hbm, ⟨4, _⟩ => ⟨S2x1024x513, .f32⟩
  | .hbm, ⟨5, _⟩ => ⟨S2x1024x513, .f32⟩
  | .hbm, ⟨6, _⟩ => ⟨S2x1024x513, .f32⟩
  | .hbm, ⟨7, _⟩ => ⟨S2x1024x513, .f32⟩
  | .hbm, ⟨8, _⟩ => ⟨S2x1024x513, .f32⟩
  | .local _ .vmem, ⟨0, _⟩ => ⟨S8x128x513, .bf16⟩
  | .local _ .vmem, ⟨1, _⟩ => ⟨S8x128x513, .bf16⟩
  | .local _ .vmem, ⟨2, _⟩ => ⟨S8x128x513, .bf16⟩
  | .local _ .vmem, ⟨3, _⟩ => ⟨S8x128x513, .bf16⟩
  | .local _ .vmem, ⟨4, _⟩ => ⟨S1x128x513, .f32⟩
  | .local _ .vmem, ⟨5, _⟩ => ⟨S1x128x513, .f32⟩
  | .local _ .vmem, ⟨6, _⟩ => ⟨S1x128x513, .f32⟩
  | .local _ .vmem, ⟨7, _⟩ => ⟨S1x128x513, .f32⟩
  | .local _ .vmem, ⟨8, _⟩ => ⟨S1x128x513, .f32⟩
  | .local _ .vmem, ⟨9, _⟩ => ⟨S1x128x513, .f32⟩
  | .local _ .vmem, ⟨10, _⟩ => ⟨S1x128x513, .f32⟩
  | .local _ .vmem, ⟨11, _⟩ => ⟨S1x128x513, .f32⟩
  | .local _ .vmem, ⟨12, _⟩ => ⟨S1x128x513, .f32⟩
  | .local _ .vmem, ⟨13, _⟩ => ⟨S1x128x513, .f32⟩
  | .local _ .vmem, ⟨14, _⟩ => ⟨S1x128x513, .f32⟩
  | .local _ .vmem, ⟨15, _⟩ => ⟨S1x128x513, .f32⟩
  | .local _ .vmem, ⟨16, _⟩ => ⟨S1x128x513, .f32⟩
  | .local _ .vmem, ⟨17, _⟩ => ⟨S1x128x513, .f32⟩
  | _, _ => ⟨S8x1024x513, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x513 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x513 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x513 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x513 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x513 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x513 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x513 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x513 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x513 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S8x1024x513 : Shape := ⟨3, ![8, 1024, 513]⟩
abbrev S2x1024x513 : Shape := ⟨3, ![2, 1024, 513]⟩
abbrev S_ : Shape := ⟨0, ![]⟩
abbrev S1024x513 : Shape := ⟨2, ![1024, 513]⟩
abbrev S1x1024x513 : Shape := ⟨3, ![1, 1024, 513]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x513, .bf16⟩
  | .hbm, ⟨1, _⟩ => ⟨S8x1024x513, .bf16⟩
  | .hbm, ⟨2, _⟩ => ⟨S2x1024x513, .f32⟩
  | .hbm, ⟨3, _⟩ => ⟨S2x1024x513, .f32⟩
  | .hbm, ⟨4, _⟩ => ⟨S2x1024x513, .f32⟩
  | .hbm, ⟨5, _⟩ => ⟨S8x1024x513, .f32⟩
  | .hbm, ⟨6, _⟩ => ⟨S_, .f32⟩
  | .hbm, ⟨7, _⟩ => ⟨S1024x513, .f32⟩
  | .hbm, ⟨8, _⟩ => ⟨S8x1024x513, .f32⟩
  | .hbm, ⟨9, _⟩ => ⟨S_, .f32⟩
  | .hbm, ⟨10, _⟩ => ⟨S1024x513, .f32⟩
  | .hbm, ⟨11, _⟩ => ⟨S1x1024x513, .f32⟩
  | .hbm, ⟨12, _⟩ => ⟨S1x1024x513, .f32⟩
  | .hbm, ⟨13, _⟩ => ⟨S2x1024x513, .f32⟩
  | .hbm, ⟨14, _⟩ => ⟨S_, .f32⟩
  | .hbm, ⟨15, _⟩ => ⟨S2x1024x513, .f32⟩
  | .hbm, ⟨16, _⟩ => ⟨S2x1024x513, .f32⟩
  | .hbm, ⟨17, _⟩ => ⟨S_, .f32⟩
  | .hbm, ⟨18, _⟩ => ⟨S2x1024x513, .f32⟩
  | .hbm, ⟨19, _⟩ => ⟨S2x1024x513, .f32⟩
  | .hbm, ⟨20, _⟩ => ⟨S2x1024x513, .f32⟩
  | .hbm, ⟨21, _⟩ => ⟨S_, .f32⟩
  | .hbm, ⟨22, _⟩ => ⟨S2x1024x513, .f32⟩
  | .hbm, ⟨23, _⟩ => ⟨S2x1024x513, .f32⟩
  | .hbm, ⟨24, _⟩ => ⟨S2x1024x513, .f32⟩
  | .hbm, ⟨25, _⟩ => ⟨S_, .f32⟩
  | .hbm, ⟨26, _⟩ => ⟨S2x1024x513, .f32⟩
  | .hbm, ⟨27, _⟩ => ⟨S2x1024x513, .f32⟩
  | .hbm, ⟨28, _⟩ => ⟨S2x1024x513, .f32⟩
  | .hbm, ⟨29, _⟩ => ⟨S_, .f32⟩
  | .hbm, ⟨30, _⟩ => ⟨S2x1024x513, .f32⟩
  | .hbm, ⟨31, _⟩ => ⟨S2x1024x513, .f32⟩
  | .hbm, ⟨32, _⟩ => ⟨S_, .f32⟩
  | .hbm, ⟨33, _⟩ => ⟨S2x1024x513, .f32⟩
  | .hbm, ⟨34, _⟩ => ⟨S2x1024x513, .f32⟩
  | .hbm, ⟨35, _⟩ => ⟨S2x1024x513, .f32⟩
  | .hbm, ⟨36, _⟩ => ⟨S_, .f32⟩
  | .hbm, ⟨37, _⟩ => ⟨S2x1024x513, .f32⟩
  | .hbm, ⟨38, _⟩ => ⟨S2x1024x513, .f32⟩
  | .hbm, ⟨39, _⟩ => ⟨S2x1024x513, .f32⟩
  | .hbm, ⟨40, _⟩ => ⟨S_, .f32⟩
  | .hbm, ⟨41, _⟩ => ⟨S2x1024x513, .f32⟩
  | .hbm, ⟨42, _⟩ => ⟨S2x1024x513, .f32⟩
  | .hbm, ⟨43, _⟩ => ⟨S2x1024x513, .f32⟩
  | .hbm, ⟨44, _⟩ => ⟨S_, .f32⟩
  | .hbm, ⟨45, _⟩ => ⟨S2x1024x513, .f32⟩
  | .hbm, ⟨46, _⟩ => ⟨S2x1024x513, .f32⟩
  | _, _ => ⟨S8x1024x513, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel23.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel23Ideal.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S8x512x128 : Shape := ⟨3, ![8, 512, 128]⟩
abbrev S2x512x128 : Shape := ⟨3, ![2, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1x512x128, .f32⟩
  | .hbm, ⟨12, _⟩ => ⟨S1x512x128, .f32⟩
  | .hbm, ⟨13, _⟩ => ⟨S2x512x128, .f32⟩
  | .hbm, ⟨14, _⟩ => ⟨S_, .f32⟩
  | .hbm, ⟨15, _⟩ => ⟨S2x512x128, .f32⟩
  | .hbm, ⟨16, _⟩ => ⟨S2x512x128, .f32⟩
  | .hbm, ⟨17, _⟩ => ⟨S_, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S_, .f32⟩
  | .hbm, ⟨22, _⟩ => ⟨S2x512x128, .f32⟩
  | .hbm, ⟨23, _⟩ => ⟨S2x512x128, .f32⟩
  | .hbm, ⟨24, _⟩ => ⟨S2x512x128, .f32⟩
  | .hbm, ⟨25, _⟩ => ⟨S_, .f32⟩
  | .hbm, ⟨26, _⟩ => ⟨S2x512x128, .f32⟩
  | .hbm, ⟨27, _⟩ => ⟨S2x512x128, .f32⟩
  | .hbm, ⟨28, _⟩ => ⟨S2x512x128, .f32⟩
  | .hbm, ⟨29, _⟩ => ⟨S_, .f32⟩
  | .hbm, ⟨30, _⟩ => ⟨S2x512x128, .f32⟩
  | .hbm, ⟨31, _⟩ => ⟨S2x512x128, .f32⟩
  | .hbm, ⟨32, _⟩ => ⟨S_, .f32⟩
  | .hbm, ⟨33, _⟩ => ⟨S2x512x128, .f32⟩
  | .hbm, ⟨34, _⟩ => ⟨S2x512x128, .f32⟩
  | .hbm, ⟨35, _⟩ => ⟨S2x512x128, .f32⟩
  | .hbm, ⟨36, _⟩ => ⟨S_, .f32⟩
  | .hbm, ⟨37, _⟩ => ⟨S2x512x128, .f32⟩
  | .hbm, ⟨38, _⟩ => ⟨S2x512x128, .f32⟩
  | .hbm, ⟨39, _⟩ => ⟨S2x512x128, .f32⟩
  | .hbm, ⟨40, _⟩ => ⟨S_, .f32⟩
  | .hbm, ⟨41, _⟩ => ⟨S2x512x128, .f32⟩
  | .hbm, ⟨42, _⟩ => ⟨S2x512x128, .f32⟩
  | .hbm, ⟨43, _⟩ => ⟨S2x512x128, .f32⟩
  | .hbm, ⟨44, _⟩ => ⟨S_, .f32⟩
  | .hbm, ⟨45, _⟩ => ⟨S2x512x128, .f32⟩
  | .hbm, ⟨46, _⟩ => ⟨S2x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel24.lean ====
abbrev S8x64x512 : Shape := ⟨3, ![8, 64, 512]⟩
abbrev S2x64x512 : Shape := ⟨3, ![2, 64, 512]⟩
abbrev S1x64x512 : Shape := ⟨3, ![1, 64, 512]⟩
abbrev S64x512 : Shape := ⟨2, ![64, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x64x512, .bf16⟩
  | .hbm, ⟨1, _⟩ => ⟨S8x64x512, .bf16⟩
  | .hbm, ⟨2, _⟩ => ⟨S2x64x512, .f32⟩
  | .hbm, ⟨3, _⟩ => ⟨S2x64x512, .f32⟩
  | .hbm, ⟨4, _⟩ => ⟨S2x64x512, .f32⟩
  | .hbm, ⟨5, _⟩ => ⟨S2x64x512, .f32⟩
  | .hbm, ⟨6, _⟩ => ⟨S2x64x512, .f32⟩
  | .hbm, ⟨7, _⟩ => ⟨S2x64x512, .f32⟩
  | .hbm, ⟨8, _⟩ => ⟨S2x64x512, .f32⟩
  | .local _ .vmem, ⟨0, _⟩ => ⟨S8x64x512, .bf16⟩
  | .local _ .vmem, ⟨1, _⟩ => ⟨S8x64x512, .bf16⟩
  | .local _ .vmem, ⟨2, _⟩ => ⟨S8x64x512, .bf16⟩
  | .local _ .vmem, ⟨3, _⟩ => ⟨S8x64x512, .bf16⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel24Ideal.lean ====
abbrev S8x64x512 : Shape := ⟨3, ![8, 64, 512]⟩
abbrev S2x64x512 : Shape := ⟨3, ![2, 64, 512]⟩
abbrev S1x64x512 : Shape := ⟨3, ![1, 64, 512]⟩
abbrev S64x512 : Shape := ⟨2, ![64, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x64x512, .bf16⟩
  | .hbm, ⟨1, _⟩ => ⟨S8x64x512, .bf16⟩
  | .hbm, ⟨2, _⟩ => ⟨S2x64x512, .f32⟩
  | .hbm, ⟨3, _⟩ => ⟨S2x64x512, .f32⟩
  | .hbm, ⟨4, _⟩ => ⟨S2x64x512, .f32⟩
  | .hbm, ⟨5, _⟩ => ⟨S2x64x512, .f32⟩
  | .hbm, ⟨6, _⟩ => ⟨S2x64x512, .f32⟩
  | .hbm, ⟨7, _⟩ => ⟨S2x64x512, .f32⟩
  | .hbm, ⟨8, _⟩ => ⟨S2x64x512, .f32⟩
  | .local _ .vmem, ⟨0, _⟩ => ⟨S8x64x512, .bf16⟩
  | .local _ .vmem, ⟨1, _⟩ => ⟨S8x64x512, .bf16⟩
  | .local _ .vmem, ⟨2, _⟩ => ⟨S8x64x512, .bf16⟩
  | .local _ .vmem, ⟨3, _⟩ => ⟨S8x64x512, .bf16⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S8x64x512 : Shape := ⟨3, ![8, 64, 512]⟩
abbrev S2x64x512 : Shape := ⟨3, ![2, 64, 512]⟩
abbrev S_ : Shape := ⟨0, ![]⟩
abbrev S64x512 : Shape := ⟨2, ![64, 512]⟩
abbrev S1x64x512 : Shape := ⟨3, ![1, 64, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x64x512, .bf16⟩
  | .hbm, ⟨1, _⟩ => ⟨S8x64x512, .bf16⟩
  | .hbm, ⟨2, _⟩ => ⟨S2x64x512, .f32⟩
  | .hbm, ⟨3, _⟩ => ⟨S2x64x512, .f32⟩
  | .hbm, ⟨4, _⟩ => ⟨S2x64x512, .f32⟩
  | .hbm, ⟨5, _⟩ => ⟨S8x64x512, .f32⟩
  | .hbm, ⟨6, _⟩ => ⟨S_, .f32⟩
  | .hbm, ⟨7, _⟩ => ⟨S64x512, .f32⟩
  | .hbm, ⟨8, _⟩ => ⟨S8x64x512, .f32⟩
  | .hbm, ⟨9, _⟩ => ⟨S_, .f32⟩
  | .hbm, ⟨10, _⟩ => ⟨S64x512, .f32⟩
  | .hbm, ⟨11, _⟩ => ⟨S1x64x512, .f32⟩
  | .hbm, ⟨12, _⟩ => ⟨S1x64x512, .f32⟩
  | .hbm, ⟨13, _⟩ => ⟨S2x64x512, .f32⟩
  | .hbm, ⟨14, _⟩ => ⟨S_, .f32⟩
  | .hbm, ⟨15, _⟩ => ⟨S2x64x512, .f32⟩
  | .hbm, ⟨16, _⟩ => ⟨S2x64x512, .f32⟩
  | .hbm, ⟨17, _⟩ => ⟨S_, .f32⟩
  | .hbm, ⟨18, _⟩ => ⟨S2x64x512, .f32⟩
  | .hbm, ⟨19, _⟩ => ⟨S2x64x512, .f32⟩
  | .hbm, ⟨20, _⟩ => ⟨S2x64x512, .f32⟩
  | .hbm, ⟨21, _⟩ => ⟨S_, .f32⟩
  | .hbm, ⟨22, _⟩ => ⟨S2x64x512, .f32⟩
  | .hbm, ⟨23, _⟩ => ⟨S2x64x512, .f32⟩
  | .hbm, ⟨24, _⟩ => ⟨S2x64x512, .f32⟩
  | .hbm, ⟨25, _⟩ => ⟨S_, .f32⟩
  | .hbm, ⟨26, _⟩ => ⟨S2x64x512, .f32⟩
  | .hbm, ⟨27, _⟩ => ⟨S2x64x512, .f32⟩
  | .hbm, ⟨28, _⟩ => ⟨S2x64x512, .f32⟩
  | .hbm, ⟨29, _⟩ => ⟨S_, .f32⟩
  | .hbm, ⟨30, _⟩ => ⟨S2x64x512, .f32⟩
  | .hbm, ⟨31, _⟩ => ⟨S2x64x512, .f32⟩
  | .hbm, ⟨32, _⟩ => ⟨S_, .f32⟩
  | .hbm, ⟨33, _⟩ => ⟨S2x64x512, .f32⟩
  | .hbm, ⟨34, _⟩ => ⟨S2x64x512, .f32⟩
  | .hbm, ⟨35, _⟩ => ⟨S2x64x512, .f32⟩
  | .hbm, ⟨36, _⟩ => ⟨S_, .f32⟩
  | .hbm, ⟨37, _⟩ => ⟨S2x64x512, .f32⟩
  | .hbm, ⟨38, _⟩ => ⟨S2x64x512, .f32⟩
  | .hbm, ⟨39, _⟩ => ⟨S2x64x512, .f32⟩
  | .hbm, ⟨40, _⟩ => ⟨S_, .f32⟩
  | .hbm, ⟨41, _⟩ => ⟨S2x64x512, .f32⟩
  | .hbm, ⟨42, _⟩ => ⟨S2x64x512, .f32⟩
  | .hbm, ⟨43, _⟩ => ⟨S2x64x512, .f32⟩
  | .hbm, ⟨44, _⟩ => ⟨S_, .f32⟩
  | .hbm, ⟨45, _⟩ => ⟨S2x64x512, .f32⟩
  | .hbm, ⟨46, _⟩ => ⟨S2x64x512, .f32⟩
  | _, _ => ⟨S8x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel25.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel25Ideal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel26.lean ====
abbrev S1x1024x768 : Shape := ⟨3, ![1, 1024, 768]⟩
abbrev S2x1024x768 : Shape := ⟨3, ![2, 1024, 768]⟩
abbrev S1x256x768 : Shape := ⟨3, ![1, 256, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel26Ideal.lean ====
abbrev S1x1024x768 : Shape := ⟨3, ![1, 1024, 768]⟩
abbrev S2x1024x768 : Shape := ⟨3, ![2, 1024, 768]⟩
abbrev S1x256x768 : Shape := ⟨3, ![1, 256, 768]⟩
abbrev S256x768 : Shape := ⟨2, ![256, 768]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference26Ideal.lean ====
abbrev S1x1024x768 : Shape := ⟨3, ![1, 1024, 768]⟩
abbrev S2x1024x768 : Shape := ⟨3, ![2, 1024, 768]⟩
abbrev S_ : Shape := ⟨0, ![]⟩
abbrev S1024x768 : Shape := ⟨2, ![1024, 768]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1x1024x768, .f32⟩
  | .hbm, ⟨10, _⟩ => ⟨S1x1024x768, .f32⟩
  | .hbm, ⟨11, _⟩ => ⟨S2x1024x768, .f32⟩
  | .hbm, ⟨12, _⟩ => ⟨S_, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S2x1024x768, .f32⟩
  | .hbm, ⟨23, _⟩ => ⟨S_, .f32⟩
  | .hbm, ⟨24, _⟩ => ⟨S2x1024x768, .f32⟩
  | .hbm, ⟨25, _⟩ => ⟨S2x1024x768, .f32⟩
  | .hbm, ⟨26, _⟩ => ⟨S2x1024x768, .f32⟩
  | .hbm, ⟨27, _⟩ => ⟨S_, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2x1024x768, .f32⟩
  | .hbm, ⟨38, _⟩ => ⟨S_, .f32⟩
  | .hbm, ⟨39, _⟩ => ⟨S2x1024x768, .f32⟩
  | .hbm, ⟨40, _⟩ => ⟨S2x1024x768, .f32⟩
  | .hbm, ⟨41, _⟩ => ⟨S2x1024x768, .f32⟩
  | .hbm, ⟨42, _⟩ => ⟨S_, .f32⟩
  | .hbm, ⟨43, _⟩ => ⟨S2x1024x768, .f32⟩
  | .hbm, ⟨44, _⟩ => ⟨S2x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel27.lean ====
abbrev S1x1x6144 : Shape := ⟨3, ![1, 1, 6144]⟩
abbrev S2x1x6144 : Shape := ⟨3, ![2, 1, 6144]⟩
abbrev S1x6144 : Shape := ⟨2, ![1, 6144]⟩

abbrev nBuf : Space → Nat
  | .hbm => 9
  | .vmem => 18
  | .smem => 0
  | _ => 0

abbrev bufTy : (tb : Table) → Fin (tcTables nBuf tb) → BufTy
  | .hbm, ⟨0, _⟩ => ⟨S1x1x6144, .f32⟩
  | .hbm, ⟨1, _⟩ => ⟨S1x1x6144, .f32⟩
  | .hbm, ⟨2, _⟩ => ⟨S2x1x6144, .f32⟩
  | .hbm, ⟨3, _⟩ => ⟨S2x1x6144, .f32⟩
  | .hbm, ⟨4, _⟩ => ⟨S2x1x6144, .f32⟩
  | .hbm, ⟨5, _⟩ => ⟨S2x1x6144, .f32⟩
  | .hbm, ⟨6, _⟩ => ⟨S2x1x6144, .f32⟩
  | .hbm, ⟨7, _⟩ => ⟨S2x1x6144, .f32⟩
  | .hbm, ⟨8, _⟩ => ⟨S2x1x6144, .f32⟩
  | .local _ .vmem, ⟨0, _⟩ => ⟨S1x1x6144, .f32⟩
  | .local _ .vmem, ⟨1, _⟩ => ⟨S1x1x6144, .f32⟩
  | .local _ .vmem, ⟨2, _⟩ => ⟨S1x1x6144, .f32⟩
  | .local _ .vmem, ⟨3, _⟩ => ⟨S1x1x6144, .f32⟩
  | .local _ .vmem, ⟨4, _⟩ => ⟨S1x1x6144, .f32⟩
  | .local _ .vmem, ⟨5, _⟩ => ⟨S1x1x6144, .f32⟩
  | .local _ .vmem, ⟨6, _⟩ => ⟨S1x1x6144, .f32⟩
  | .local _ .vmem, ⟨7, _⟩ => ⟨S1x1x6144, .f32⟩
  | .local _ .vmem, ⟨8, _⟩ => ⟨S1x1x6144, .f32⟩
  | .local _ .vmem, ⟨9, _⟩ => ⟨S1x1x6144, .f32⟩
  | .local _ .vmem, ⟨10, _⟩ => ⟨S1x1x6144, .f32⟩
  | .local _ .vmem, ⟨11, _⟩ => ⟨S1x1x6144, .f32⟩
  | .local _ .vmem, ⟨12, _⟩ => ⟨S1x1x6144, .f32⟩
  | .local _ .vmem, ⟨13, _⟩ => ⟨S1x1x6144, .f32⟩
  | .local _ .vmem, ⟨14, _⟩ => ⟨S1x1x6144, .f32⟩
  | .local _ .vmem, ⟨15, _⟩ => ⟨S1x1x6144, .f32⟩
  | .local _ .vmem, ⟨16, _⟩ => ⟨S1x1x6144, .f32⟩
  | .local _ .vmem, ⟨17, _⟩ => ⟨S1x1x6144, .f32⟩
  | _, _ => ⟨S1x1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel27Ideal.lean ====
abbrev S1x1x6144 : Shape := ⟨3, ![1, 1, 6144]⟩
abbrev S2x1x6144 : Shape := ⟨3, ![2, 1, 6144]⟩
abbrev S1x6144 : Shape := ⟨2, ![1, 6144]⟩

abbrev nBuf : Space → Nat
  | .hbm => 9
  | .vmem => 18
  | .smem => 0
  | _ => 0

abbrev bufTy : (tb : Table) → Fin (tcTables nBuf tb) → BufTy
  | .hbm, ⟨0, _⟩ => ⟨S1x1x6144, .f32⟩
  | .hbm, ⟨1, _⟩ => ⟨S1x1x6144, .f32⟩
  | .hbm, ⟨2, _⟩ => ⟨S2x1x6144, .f32⟩
  | .hbm, ⟨3, _⟩ => ⟨S2x1x6144, .f32⟩
  | .hbm, ⟨4, _⟩ => ⟨S2x1x6144, .f32⟩
  | .hbm, ⟨5, _⟩ => ⟨S2x1x6144, .f32⟩
  | .hbm, ⟨6, _⟩ => ⟨S2x1x6144, .f32⟩
  | .hbm, ⟨7, _⟩ => ⟨S2x1x6144, .f32⟩
  | .hbm, ⟨8, _⟩ => ⟨S2x1x6144, .f32⟩
  | .local _ .vmem, ⟨0, _⟩ => ⟨S1x1x6144, .f32⟩
  | .local _ .vmem, ⟨1, _⟩ => ⟨S1x1x6144, .f32⟩
  | .local _ .vmem, ⟨2, _⟩ => ⟨S1x1x6144, .f32⟩
  | .local _ .vmem, ⟨3, _⟩ => ⟨S1x1x6144, .f32⟩
  | .local _ .vmem, ⟨4, _⟩ => ⟨S1x1x6144, .f32⟩
  | .local _ .vmem, ⟨5, _⟩ => ⟨S1x1x6144, .f32⟩
  | .local _ .vmem, ⟨6, _⟩ => ⟨S1x1x6144, .f32⟩
  | .local _ .vmem, ⟨7, _⟩ => ⟨S1x1x6144, .f32⟩
  | .local _ .vmem, ⟨8, _⟩ => ⟨S1x1x6144, .f32⟩
  | .local _ .vmem, ⟨9, _⟩ => ⟨S1x1x6144, .f32⟩
  | .local _ .vmem, ⟨10, _⟩ => ⟨S1x1x6144, .f32⟩
  | .local _ .vmem, ⟨11, _⟩ => ⟨S1x1x6144, .f32⟩
  | .local _ .vmem, ⟨12, _⟩ => ⟨S1x1x6144, .f32⟩
  | .local _ .vmem, ⟨13, _⟩ => ⟨S1x1x6144, .f32⟩
  | .local _ .vmem, ⟨14, _⟩ => ⟨S1x1x6144, .f32⟩
  | .local _ .vmem, ⟨15, _⟩ => ⟨S1x1x6144, .f32⟩
  | .local _ .vmem, ⟨16, _⟩ => ⟨S1x1x6144, .f32⟩
  | .local _ .vmem, ⟨17, _⟩ => ⟨S1x1x6144, .f32⟩
  | _, _ => ⟨S1x1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x6144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S1x1x6144 : Shape := ⟨3, ![1, 1, 6144]⟩
abbrev S2x1x6144 : Shape := ⟨3, ![2, 1, 6144]⟩
abbrev S_ : Shape := ⟨0, ![]⟩
abbrev S1x6144 : Shape := ⟨2, ![1, 6144]⟩

abbrev nBuf : Space → Nat
  | .hbm => 45
  | .vmem => 0
  | .smem => 0
  | _ => 0

abbrev bufTy : (tb : Table) → Fin (tcTables nBuf tb) → BufTy
  | .hbm, ⟨0, _⟩ => ⟨S1x1x6144, .f32⟩
  | .hbm, ⟨1, _⟩ => ⟨S1x1x6144, .f32⟩
  | .hbm, ⟨2, _⟩ => ⟨S2x1x6144, .f32⟩
  | .hbm, ⟨3, _⟩ => ⟨S2x1x6144, .f32⟩
  | .hbm, ⟨4, _⟩ => ⟨S2x1x6144, .f32⟩
  | .hbm, ⟨5, _⟩ => ⟨S_, .f32⟩
  | .hbm, ⟨6, _⟩ => ⟨S1x6144, .f32⟩
  | .hbm, ⟨7, _⟩ => ⟨S_, .f32⟩
  | .hbm, ⟨8, _⟩ => ⟨S1x6144, .f32⟩
  | .hbm, ⟨9, _⟩ => ⟨S1x1x6144, .f32⟩
  | .hbm, ⟨10, _⟩ => ⟨S1x1x6144, .f32⟩
  | .hbm, ⟨11, _⟩ => ⟨S2x1x6144, .f32⟩
  | .hbm, ⟨12, _⟩ => ⟨S_, .f32⟩
  | .hbm, ⟨13, _⟩ => ⟨S2x1x6144, .f32⟩
  | .hbm, ⟨14, _⟩ => ⟨S2x1x6144, .f32⟩
  | .hbm, ⟨15, _⟩ => ⟨S_, .f32⟩
  | .hbm, ⟨16, _⟩ => ⟨S2x1x6144, .f32⟩
  | .hbm, ⟨17, _⟩ => ⟨S2x1x6144, .f32⟩
  | .hbm, ⟨18, _⟩ => ⟨S2x1x6144, .f32⟩
  | .hbm, ⟨19, _⟩ => ⟨S_, .f32⟩
  | .hbm, ⟨20, _⟩ => ⟨S2x1x6144, .f32⟩
  | .hbm, ⟨21, _⟩ => ⟨S2x1x6144, .f32⟩
  | .hbm, ⟨22, _⟩ => ⟨S2x1x6144, .f32⟩
  | .hbm, ⟨23, _⟩ => ⟨S_, .f32⟩
  | .hbm, ⟨24, _⟩ => ⟨S2x1x6144, .f32⟩
  | .hbm, ⟨25, _⟩ => ⟨S2x1x6144, .f32⟩
  | .hbm, ⟨26, _⟩ => ⟨S2x1x6144, .f32⟩
  | .hbm, ⟨27, _⟩ => ⟨S_, .f32⟩
  | .hbm, ⟨28, _⟩ => ⟨S2x1x6144, .f32⟩
  | .hbm, ⟨29, _⟩ => ⟨S2x1x6144, .f32⟩
  | .hbm, ⟨30, _⟩ => ⟨S_, .f32⟩
  | .hbm, ⟨31, _⟩ => ⟨S2x1x6144, .f32⟩
  | .hbm, ⟨32, _⟩ => ⟨S2x1x6144, .f32⟩
  | .hbm, ⟨33, _⟩ => ⟨S2x1x6144, .f32⟩
  | .hbm, ⟨34, _⟩ => ⟨S_, .f32⟩
  | .hbm, ⟨35, _⟩ => ⟨S2x1x6144, .f32⟩
  | .hbm, ⟨36, _⟩ => ⟨S2x1x6144, .f32⟩
  | .hbm, ⟨37, _⟩ => ⟨S2x1x6144, .f32⟩
  | .hbm, ⟨38, _⟩ => ⟨S_, .f32⟩
  | .hbm, ⟨39, _⟩ => ⟨S2x1x6144, .f32⟩
  | .hbm, ⟨40, _⟩ => ⟨S2x1x6144, .f32⟩
  | .hbm, ⟨41, _⟩ => ⟨S2x1x6144, .f32⟩
  | .hbm, ⟨42, _⟩ => ⟨S_, .f32⟩
  | .hbm, ⟨43, _⟩ => ⟨S2x1x6144, .f32⟩
  | .hbm, ⟨44, _⟩ => ⟨S2x1x6144, .f32⟩
  | _, _ => ⟨S1x1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel28.lean ====
abbrev S1x32x64 : Shape := ⟨3, ![1, 32, 64]⟩
abbrev S2x32x64 : Shape := ⟨3, ![2, 32, 64]⟩
abbrev S32x64 : Shape := ⟨2, ![32, 64]⟩

abbrev nBuf : Space → Nat
  | .hbm => 9
  | .vmem => 18
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S2x32x64, .f32⟩
  | .hbm, ⟨3, _⟩ => ⟨S2x32x64, .f32⟩
  | .hbm, ⟨4, _⟩ => ⟨S2x32x64, .f32⟩
  | .hbm, ⟨5, _⟩ => ⟨S2x32x64, .f32⟩
  | .hbm, ⟨6, _⟩ => ⟨S2x32x64, .f32⟩
  | .hbm, ⟨7, _⟩ => ⟨S2x32x64, .f32⟩
  | .hbm, ⟨8, _⟩ => ⟨S2x32x64, .f32⟩
  | .local _ .vmem, ⟨0, _⟩ => ⟨S1x32x64, .f32⟩
  | .local _ .vmem, ⟨1, _⟩ => ⟨S1x32x64, .f32⟩
  | .local _ .vmem, ⟨2, _⟩ => ⟨S1x32x64, .f32⟩
  | .local _ .vmem, ⟨3, _⟩ => ⟨S1x32x64, .f32⟩
  | .local _ .vmem, ⟨4, _⟩ => ⟨S1x32x64, .f32⟩
  | .local _ .vmem, ⟨5, _⟩ => ⟨S1x32x64, .f32⟩
  | .local _ .vmem, ⟨6, _⟩ => ⟨S1x32x64, .f32⟩
  | .local _ .vmem, ⟨7, _⟩ => ⟨S1x32x64, .f32⟩
  | .local _ .vmem, ⟨8, _⟩ => ⟨S1x32x64, .f32⟩
  | .local _ .vmem, ⟨9, _⟩ => ⟨S1x32x64, .f32⟩
  | .local _ .vmem, ⟨10, _⟩ => ⟨S1x32x64, .f32⟩
  | .local _ .vmem, ⟨11, _⟩ => ⟨S1x32x64, .f32⟩
  | .local _ .vmem, ⟨12, _⟩ => ⟨S1x32x64, .f32⟩
  | .local _ .vmem, ⟨13, _⟩ => ⟨S1x32x64, .f32⟩
  | .local _ .vmem, ⟨14, _⟩ => ⟨S1x32x64, .f32⟩
  | .local _ .vmem, ⟨15, _⟩ => ⟨S1x32x64, .f32⟩
  | .local _ .vmem, ⟨16, _⟩ => ⟨S1x32x64, .f32⟩
  | .local _ .vmem, ⟨17, _⟩ => ⟨S1x32x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel28Ideal.lean ====
abbrev S1x32x64 : Shape := ⟨3, ![1, 32, 64]⟩
abbrev S2x32x64 : Shape := ⟨3, ![2, 32, 64]⟩
abbrev S32x64 : Shape := ⟨2, ![32, 64]⟩

abbrev nBuf : Space → Nat
  | .hbm => 9
  | .vmem => 18
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S2x32x64, .f32⟩
  | .hbm, ⟨3, _⟩ => ⟨S2x32x64, .f32⟩
  | .hbm, ⟨4, _⟩ => ⟨S2x32x64, .f32⟩
  | .hbm, ⟨5, _⟩ => ⟨S2x32x64, .f32⟩
  | .hbm, ⟨6, _⟩ => ⟨S2x32x64, .f32⟩
  | .hbm, ⟨7, _⟩ => ⟨S2x32x64, .f32⟩
  | .hbm, ⟨8, _⟩ => ⟨S2x32x64, .f32⟩
  | .local _ .vmem, ⟨0, _⟩ => ⟨S1x32x64, .f32⟩
  | .local _ .vmem, ⟨1, _⟩ => ⟨S1x32x64, .f32⟩
  | .local _ .vmem, ⟨2, _⟩ => ⟨S1x32x64, .f32⟩
  | .local _ .vmem, ⟨3, _⟩ => ⟨S1x32x64, .f32⟩
  | .local _ .vmem, ⟨4, _⟩ => ⟨S1x32x64, .f32⟩
  | .local _ .vmem, ⟨5, _⟩ => ⟨S1x32x64, .f32⟩
  | .local _ .vmem, ⟨6, _⟩ => ⟨S1x32x64, .f32⟩
  | .local _ .vmem, ⟨7, _⟩ => ⟨S1x32x64, .f32⟩
  | .local _ .vmem, ⟨8, _⟩ => ⟨S1x32x64, .f32⟩
  | .local _ .vmem, ⟨9, _⟩ => ⟨S1x32x64, .f32⟩
  | .local _ .vmem, ⟨10, _⟩ => ⟨S1x32x64, .f32⟩
  | .local _ .vmem, ⟨11, _⟩ => ⟨S1x32x64, .f32⟩
  | .local _ .vmem, ⟨12, _⟩ => ⟨S1x32x64, .f32⟩
  | .local _ .vmem, ⟨13, _⟩ => ⟨S1x32x64, .f32⟩
  | .local _ .vmem, ⟨14, _⟩ => ⟨S1x32x64, .f32⟩
  | .local _ .vmem, ⟨15, _⟩ => ⟨S1x32x64, .f32⟩
  | .local _ .vmem, ⟨16, _⟩ => ⟨S1x32x64, .f32⟩
  | .local _ .vmem, ⟨17, _⟩ => ⟨S1x32x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference28Ideal.lean ====
abbrev S1x32x64 : Shape := ⟨3, ![1, 32, 64]⟩
abbrev S2x32x64 : Shape := ⟨3, ![2, 32, 64]⟩
abbrev S_ : Shape := ⟨0, ![]⟩
abbrev S32x64 : Shape := ⟨2, ![32, 64]⟩

abbrev nBuf : Space → Nat
  | .hbm => 45
  | .vmem => 0
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S2x32x64, .f32⟩
  | .hbm, ⟨3, _⟩ => ⟨S2x32x64, .f32⟩
  | .hbm, ⟨4, _⟩ => ⟨S2x32x64, .f32⟩
  | .hbm, ⟨5, _⟩ => ⟨S_, .f32⟩
  | .hbm, ⟨6, _⟩ => ⟨S32x64, .f32⟩
  | .hbm, ⟨7, _⟩ => ⟨S_, .f32⟩
  | .hbm, ⟨8, _⟩ => ⟨S32x64, .f32⟩
  | .hbm, ⟨9, _⟩ => ⟨S1x32x64, .f32⟩
  | .hbm, ⟨10, _⟩ => ⟨S1x32x64, .f32⟩
  | .hbm, ⟨11, _⟩ => ⟨S2x32x64, .f32⟩
  | .hbm, ⟨12, _⟩ => ⟨S_, .f32⟩
  | .hbm, ⟨13, _⟩ => ⟨S2x32x64, .f32⟩
  | .hbm, ⟨14, _⟩ => ⟨S2x32x64, .f32⟩
  | .hbm, ⟨15, _⟩ => ⟨S_, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S_, .f32⟩
  | .hbm, ⟨20, _⟩ => ⟨S2x32x64, .f32⟩
  | .hbm, ⟨21, _⟩ => ⟨S2x32x64, .f32⟩
  | .hbm, ⟨22, _⟩ => ⟨S2x32x64, .f32⟩
  | .hbm, ⟨23, _⟩ => ⟨S_, .f32⟩
  | .hbm, ⟨24, _⟩ => ⟨S2x32x64, .f32⟩
  | .hbm, ⟨25, _⟩ => ⟨S2x32x64, .f32⟩
  | .hbm, ⟨26, _⟩ => ⟨S2x32x64, .f32⟩
  | .hbm, ⟨27, _⟩ => ⟨S_, .f32⟩
  | .hbm, ⟨28, _⟩ => ⟨S2x32x64, .f32⟩
  | .hbm, ⟨29, _⟩ => ⟨S2x32x64, .f32⟩
  | .hbm, ⟨30, _⟩ => ⟨S_, .f32⟩
  | .hbm, ⟨31, _⟩ => ⟨S2x32x64, .f32⟩
  | .hbm, ⟨32, _⟩ => ⟨S2x32x64, .f32⟩
  | .hbm, ⟨33, _⟩ => ⟨S2x32x64, .f32⟩
  | .hbm, ⟨34, _⟩ => ⟨S_, .f32⟩
  | .hbm, ⟨35, _⟩ => ⟨S2x32x64, .f32⟩
  | .hbm, ⟨36, _⟩ => ⟨S2x32x64, .f32⟩
  | .hbm, ⟨37, _⟩ => ⟨S2x32x64, .f32⟩
  | .hbm, ⟨38, _⟩ => ⟨S_, .f32⟩
  | .hbm, ⟨39, _⟩ => ⟨S2x32x64, .f32⟩
  | .hbm, ⟨40, _⟩ => ⟨S2x32x64, .f32⟩
  | .hbm, ⟨41, _⟩ => ⟨S2x32x64, .f32⟩
  | .hbm, ⟨42, _⟩ => ⟨S_, .f32⟩
  | .hbm, ⟨43, _⟩ => ⟨S2x32x64, .f32⟩
  | .hbm, ⟨44, _⟩ => ⟨S2x32x64, .f32⟩
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel29.lean ====
abbrev S1x1x32 : Shape := ⟨3, ![1, 1, 32]⟩
abbrev S2x1x32 : Shape := ⟨3, ![2, 1, 32]⟩
abbrev S1x32 : Shape := ⟨2, ![1, 32]⟩

abbrev nBuf : Space → Nat
  | .hbm => 9
  | .vmem => 18
  | .smem => 0
  | _ => 0

abbrev bufTy : (tb : Table) → Fin (tcTables nBuf tb) → BufTy
  | .hbm, ⟨0, _⟩ => ⟨S1x1x32, .f32⟩
  | .hbm, ⟨1, _⟩ => ⟨S1x1x32, .f32⟩
  | .hbm, ⟨2, _⟩ => ⟨S2x1x32, .f32⟩
  | .hbm, ⟨3, _⟩ => ⟨S2x1x32, .f32⟩
  | .hbm, ⟨4, _⟩ => ⟨S2x1x32, .f32⟩
  | .hbm, ⟨5, _⟩ => ⟨S2x1x32, .f32⟩
  | .hbm, ⟨6, _⟩ => ⟨S2x1x32, .f32⟩
  | .hbm, ⟨7, _⟩ => ⟨S2x1x32, .f32⟩
  | .hbm, ⟨8, _⟩ => ⟨S2x1x32, .f32⟩
  | .local _ .vmem, ⟨0, _⟩ => ⟨S1x1x32, .f32⟩
  | .local _ .vmem, ⟨1, _⟩ => ⟨S1x1x32, .f32⟩
  | .local _ .vmem, ⟨2, _⟩ => ⟨S1x1x32, .f32⟩
  | .local _ .vmem, ⟨3, _⟩ => ⟨S1x1x32, .f32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | .local _ .vmem, ⟨10, _⟩ => ⟨S1x1x32, .f32⟩
  | .local _ .vmem, ⟨11, _⟩ => ⟨S1x1x32, .f32⟩
  | .local _ .vmem, ⟨12, _⟩ => ⟨S1x1x32, .f32⟩
  | .local _ .vmem, ⟨13, _⟩ => ⟨S1x1x32, .f32⟩
  | .local _ .vmem, ⟨14, _⟩ => ⟨S1x1x32, .f32⟩
  | .local _ .vmem, ⟨15, _⟩ => ⟨S1x1x32, .f32⟩
  | .local _ .vmem, ⟨16, _⟩ => ⟨S1x1x32, .f32⟩
  | .local _ .vmem, ⟨17, _⟩ => ⟨S1x1x32, .f32⟩
  | _, _ => ⟨S1x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel29Ideal.lean ====
abbrev S1x1x32 : Shape := ⟨3, ![1, 1, 32]⟩
abbrev S2x1x32 : Shape := ⟨3, ![2, 1, 32]⟩
abbrev S1x32 : Shape := ⟨2, ![1, 32]⟩

abbrev nBuf : Space → Nat
  | .hbm => 9
  | .vmem => 18
  | .smem => 0
  | _ => 0

abbrev bufTy : (tb : Table) → Fin (tcTables nBuf tb) → BufTy
  | .hbm, ⟨0, _⟩ => ⟨S1x1x32, .f32⟩
  | .hbm, ⟨1, _⟩ => ⟨S1x1x32, .f32⟩
  | .hbm, ⟨2, _⟩ => ⟨S2x1x32, .f32⟩
  | .hbm, ⟨3, _⟩ => ⟨S2x1x32, .f32⟩
  | .hbm, ⟨4, _⟩ => ⟨S2x1x32, .f32⟩
  | .hbm, ⟨5, _⟩ => ⟨S2x1x32, .f32⟩
  | .hbm, ⟨6, _⟩ => ⟨S2x1x32, .f32⟩
  | .hbm, ⟨7, _⟩ => ⟨S2x1x32, .f32⟩
  | .hbm, ⟨8, _⟩ => ⟨S2x1x32, .f32⟩
  | .local _ .vmem, ⟨0, _⟩ => ⟨S1x1x32, .f32⟩
  | .local _ .vmem, ⟨1, _⟩ => ⟨S1x1x32, .f32⟩
  | .local _ .vmem, ⟨2, _⟩ => ⟨S1x1x32, .f32⟩
  | .local _ .vmem, ⟨3, _⟩ => ⟨S1x1x32, .f32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | .local _ .vmem, ⟨10, _⟩ => ⟨S1x1x32, .f32⟩
  | .local _ .vmem, ⟨11, _⟩ => ⟨S1x1x32, .f32⟩
  | .local _ .vmem, ⟨12, _⟩ => ⟨S1x1x32, .f32⟩
  | .local _ .vmem, ⟨13, _⟩ => ⟨S1x1x32, .f32⟩
  | .local _ .vmem, ⟨14, _⟩ => ⟨S1x1x32, .f32⟩
  | .local _ .vmem, ⟨15, _⟩ => ⟨S1x1x32, .f32⟩
  | .local _ .vmem, ⟨16, _⟩ => ⟨S1x1x32, .f32⟩
  | .local _ .vmem, ⟨17, _⟩ => ⟨S1x1x32, .f32⟩
  | _, _ => ⟨S1x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference29Ideal.lean ====
abbrev S1x1x32 : Shape := ⟨3, ![1, 1, 32]⟩
abbrev S2x1x32 : Shape := ⟨3, ![2, 1, 32]⟩
abbrev S_ : Shape := ⟨0, ![]⟩
abbrev S1x32 : Shape := ⟨2, ![1, 32]⟩

abbrev nBuf : Space → Nat
  | .hbm => 45
  | .vmem => 0
  | .smem => 0
  | _ => 0

abbrev bufTy : (tb : Table) → Fin (tcTables nBuf tb) → BufTy
  | .hbm, ⟨0, _⟩ => ⟨S1x1x32, .f32⟩
  | .hbm, ⟨1, _⟩ => ⟨S1x1x32, .f32⟩
  | .hbm, ⟨2, _⟩ => ⟨S2x1x32, .f32⟩
  | .hbm, ⟨3, _⟩ => ⟨S2x1x32, .f32⟩
  | .hbm, ⟨4, _⟩ => ⟨S2x1x32, .f32⟩
  | .hbm, ⟨5, _⟩ => ⟨S_, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x1x32, .f32⟩
  | .hbm, ⟨10, _⟩ => ⟨S1x1x32, .f32⟩
  | .hbm, ⟨11, _⟩ => ⟨S2x1x32, .f32⟩
  | .hbm, ⟨12, _⟩ => ⟨S_, .f32⟩
  | .hbm, ⟨13, _⟩ => ⟨S2x1x32, .f32⟩
  | .hbm, ⟨14, _⟩ => ⟨S2x1x32, .f32⟩
  | .hbm, ⟨15, _⟩ => ⟨S_, .f32⟩
  | .hbm, ⟨16, _⟩ => ⟨S2x1x32, .f32⟩
  | .hbm, ⟨17, _⟩ => ⟨S2x1x32, .f32⟩
  | .hbm, ⟨18, _⟩ => ⟨S2x1x32, .f32⟩
  | .hbm, ⟨19, _⟩ => ⟨S_, .f32⟩
  | .hbm, ⟨20, _⟩ => ⟨S2x1x32, .f32⟩
  | .hbm, ⟨21, _⟩ => ⟨S2x1x32, .f32⟩
  | .hbm, ⟨22, _⟩ => ⟨S2x1x32, .f32⟩
  | .hbm, ⟨23, _⟩ => ⟨S_, .f32⟩
  | .hbm, ⟨24, _⟩ => ⟨S2x1x32, .f32⟩
  | .hbm, ⟨25, _⟩ => ⟨S2x1x32, .f32⟩
  | .hbm, ⟨26, _⟩ => ⟨S2x1x32, .f32⟩
  | .hbm, ⟨27, _⟩ => ⟨S_, .f32⟩
  | .hbm, ⟨28, _⟩ => ⟨S2x1x32, .f32⟩
  | .hbm, ⟨29, _⟩ => ⟨S2x1x32, .f32⟩
  | .hbm, ⟨30, _⟩ => ⟨S_, .f32⟩
  | .hbm, ⟨31, _⟩ => ⟨S2x1x32, .f32⟩
  | .hbm, ⟨32, _⟩ => ⟨S2x1x32, .f32⟩
  | .hbm, ⟨33, _⟩ => ⟨S2x1x32, .f32⟩
  | .hbm, ⟨34, _⟩ => ⟨S_, .f32⟩
  | .hbm, ⟨35, _⟩ => ⟨S2x1x32, .f32⟩
  | .hbm, ⟨36, _⟩ => ⟨S2x1x32, .f32⟩
  | .hbm, ⟨37, _⟩ => ⟨S2x1x32, .f32⟩
  | .hbm, ⟨38, _⟩ => ⟨S_, .f32⟩
  | .hbm, ⟨39, _⟩ => ⟨S2x1x32, .f32⟩
  | .hbm, ⟨40, _⟩ => ⟨S2x1x32, .f32⟩
  | .hbm, ⟨41, _⟩ => ⟨S2x1x32, .f32⟩
  | .hbm, ⟨42, _⟩ => ⟨S_, .f32⟩
  | .hbm, ⟨43, _⟩ => ⟨S2x1x32, .f32⟩
  | .hbm, ⟨44, _⟩ => ⟨S2x1x32, .f32⟩
  | _, _ => ⟨S1x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel30.lean ====
abbrev S1x512x64 : Shape := ⟨3, ![1, 512, 64]⟩
abbrev S2x512x64 : Shape := ⟨3, ![2, 512, 64]⟩
abbrev S512x64 : Shape := ⟨2, ![512, 64]⟩

abbrev nBuf : Space → Nat
  | .hbm => 9
  | .vmem => 18
  | .smem => 0
  | _ => 0

abbrev bufTy : (tb : Table) → Fin (tcTables nBuf tb) → BufTy
  | .hbm, ⟨0, _⟩ => ⟨S1x512x64, .f32⟩
  | .hbm, ⟨1, _⟩ => ⟨S1x512x64, .f32⟩
  | .hbm, ⟨2, _⟩ => ⟨S2x512x64, .f32⟩
  | .hbm, ⟨3, _⟩ => ⟨S2x512x64, .f32⟩
  | .hbm, ⟨4, _⟩ => ⟨S2x512x64, .f32⟩
  | .hbm, ⟨5, _⟩ => ⟨S2x512x64, .f32⟩
  | .hbm, ⟨6, _⟩ => ⟨S2x512x64, .f32⟩
  | .hbm, ⟨7, _⟩ => ⟨S2x512x64, .f32⟩
  | .hbm, ⟨8, _⟩ => ⟨S2x512x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x512x64, .f32⟩
  | .local _ .vmem, ⟨7, _⟩ => ⟨S1x512x64, .f32⟩
  | .local _ .vmem, ⟨8, _⟩ => ⟨S1x512x64, .f32⟩
  | .local _ .vmem, ⟨9, _⟩ => ⟨S1x512x64, .f32⟩
  | .local _ .vmem, ⟨10, _⟩ => ⟨S1x512x64, .f32⟩
  | .local _ .vmem, ⟨11, _⟩ => ⟨S1x512x64, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S1x512x64, .f32⟩
  | .local _ .vmem, ⟨16, _⟩ => ⟨S1x512x64, .f32⟩
  | .local _ .vmem, ⟨17, _⟩ => ⟨S1x512x64, .f32⟩
  | _, _ => ⟨S1x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel30Ideal.lean ====
abbrev S1x512x64 : Shape := ⟨3, ![1, 512, 64]⟩
abbrev S2x512x64 : Shape := ⟨3, ![2, 512, 64]⟩
abbrev S512x64 : Shape := ⟨2, ![512, 64]⟩

abbrev nBuf : Space → Nat
  | .hbm => 9
  | .vmem => 18
  | .smem => 0
  | _ => 0

abbrev bufTy : (tb : Table) → Fin (tcTables nBuf tb) → BufTy
  | .hbm, ⟨0, _⟩ => ⟨S1x512x64, .f32⟩
  | .hbm, ⟨1, _⟩ => ⟨S1x512x64, .f32⟩
  | .hbm, ⟨2, _⟩ => ⟨S2x512x64, .f32⟩
  | .hbm, ⟨3, _⟩ => ⟨S2x512x64, .f32⟩
  | .hbm, ⟨4, _⟩ => ⟨S2x512x64, .f32⟩
  | .hbm, ⟨5, _⟩ => ⟨S2x512x64, .f32⟩
  | .hbm, ⟨6, _⟩ => ⟨S2x512x64, .f32⟩
  | .hbm, ⟨7, _⟩ => ⟨S2x512x64, .f32⟩
  | .hbm, ⟨8, _⟩ => ⟨S2x512x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x512x64, .f32⟩
  | .local _ .vmem, ⟨7, _⟩ => ⟨S1x512x64, .f32⟩
  | .local _ .vmem, ⟨8, _⟩ => ⟨S1x512x64, .f32⟩
  | .local _ .vmem, ⟨9, _⟩ => ⟨S1x512x64, .f32⟩
  | .local _ .vmem, ⟨10, _⟩ => ⟨S1x512x64, .f32⟩
  | .local _ .vmem, ⟨11, _⟩ => ⟨S1x512x64, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S1x512x64, .f32⟩
  | .local _ .vmem, ⟨16, _⟩ => ⟨S1x512x64, .f32⟩
  | .local _ .vmem, ⟨17, _⟩ => ⟨S1x512x64, .f32⟩
  | _, _ => ⟨S1x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference30Ideal.lean ====
abbrev S1x512x64 : Shape := ⟨3, ![1, 512, 64]⟩
abbrev S2x512x64 : Shape := ⟨3, ![2, 512, 64]⟩
abbrev S_ : Shape := ⟨0, ![]⟩
abbrev S512x64 : Shape := ⟨2, ![512, 64]⟩

abbrev nBuf : Space → Nat
  | .hbm => 45
  | .vmem => 0
  | .smem => 0
  | _ => 0

abbrev bufTy : (tb : Table) → Fin (tcTables nBuf tb) → BufTy
  | .hbm, ⟨0, _⟩ => ⟨S1x512x64, .f32⟩
  | .hbm, ⟨1, _⟩ => ⟨S1x512x64, .f32⟩
  | .hbm, ⟨2, _⟩ => ⟨S2x512x64, .f32⟩
  | .hbm, ⟨3, _⟩ => ⟨S2x512x64, .f32⟩
  | .hbm, ⟨4, _⟩ => ⟨S2x512x64, .f32⟩
  | .hbm, ⟨5, _⟩ => ⟨S_, .f32⟩
  | .hbm, ⟨6, _⟩ => ⟨S512x64, .f32⟩
  | .hbm, ⟨7, _⟩ => ⟨S_, .f32⟩
  | .hbm, ⟨8, _⟩ => ⟨S512x64, .f32⟩
  | .hbm, ⟨9, _⟩ => ⟨S1x512x64, .f32⟩
  | .hbm, ⟨10, _⟩ => ⟨S1x512x64, .f32⟩
  | .hbm, ⟨11, _⟩ => ⟨S2x512x64, .f32⟩
  | .hbm, ⟨12, _⟩ => ⟨S_, .f32⟩
  | .hbm, ⟨13, _⟩ => ⟨S2x512x64, .f32⟩
  | .hbm, ⟨14, _⟩ => ⟨S2x512x64, .f32⟩
  | .hbm, ⟨15, _⟩ => ⟨S_, .f32⟩
  | .hbm, ⟨16, _⟩ => ⟨S2x512x64, .f32⟩
  | .hbm, ⟨17, _⟩ => ⟨S2x512x64, .f32⟩
  | .hbm, ⟨18, _⟩ => ⟨S2x512x64, .f32⟩
  | .hbm, ⟨19, _⟩ => ⟨S_, .f32⟩
  | .hbm, ⟨20, _⟩ => ⟨S2x512x64, .f32⟩
  | .hbm, ⟨21, _⟩ => ⟨S2x512x64, .f32⟩
  | .hbm, ⟨22, _⟩ => ⟨S2x512x64, .f32⟩
  | .hbm, ⟨23, _⟩ => ⟨S_, .f32⟩
  | .hbm, ⟨24, _⟩ => ⟨S2x512x64, .f32⟩
  | .hbm, ⟨25, _⟩ => ⟨S2x512x64, .f32⟩
  | .hbm, ⟨26, _⟩ => ⟨S2x512x64, .f32⟩
  | .hbm, ⟨27, _⟩ => ⟨S_, .f32⟩
  | .hbm, ⟨28, _⟩ => ⟨S2x512x64, .f32⟩
  | .hbm, ⟨29, _⟩ => ⟨S2x512x64, .f32⟩
  | .hbm, ⟨30, _⟩ => ⟨S_, .f32⟩
  | .hbm, ⟨31, _⟩ => ⟨S2x512x64, .f32⟩
  | .hbm, ⟨32, _⟩ => ⟨S2x512x64, .f32⟩
  | .hbm, ⟨33, _⟩ => ⟨S2x512x64, .f32⟩
  | .hbm, ⟨34, _⟩ => ⟨S_, .f32⟩
  | .hbm, ⟨35, _⟩ => ⟨S2x512x64, .f32⟩
  | .hbm, ⟨36, _⟩ => ⟨S2x512x64, .f32⟩
  | .hbm, ⟨37, _⟩ => ⟨S2x512x64, .f32⟩
  | .hbm, ⟨38, _⟩ => ⟨S_, .f32⟩
  | .hbm, ⟨39, _⟩ => ⟨S2x512x64, .f32⟩
  | .hbm, ⟨40, _⟩ => ⟨S2x512x64, .f32⟩
  | .hbm, ⟨41, _⟩ => ⟨S2x512x64, .f32⟩
  | .hbm, ⟨42, _⟩ => ⟨S_, .f32⟩
  | .hbm, ⟨43, _⟩ => ⟨S2x512x64, .f32⟩
  | .hbm, ⟨44, _⟩ => ⟨S2x512x64, .f32⟩
  | _, _ => ⟨S1x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel31.lean ====
abbrev S1x1x512 : Shape := ⟨3, ![1, 1, 512]⟩
abbrev S2x1x512 : Shape := ⟨3, ![2, 1, 512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S1x1x512, .f32⟩
  | .hbm, ⟨1, _⟩ => ⟨S1x1x512, .f32⟩
  | .hbm, ⟨2, _⟩ => ⟨S2x1x512, .f32⟩
  | .hbm, ⟨3, _⟩ => ⟨S2x1x512, .f32⟩
  | .hbm, ⟨4, _⟩ => ⟨S2x1x512, .f32⟩
  | .hbm, ⟨5, _⟩ => ⟨S2x1x512, .f32⟩
  | .hbm, ⟨6, _⟩ => ⟨S2x1x512, .f32⟩
  | .hbm, ⟨7, _⟩ => ⟨S2x1x512, .f32⟩
  | .hbm, ⟨8, _⟩ => ⟨S2x1x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | _, _ => ⟨S1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel31Ideal.lean ====
abbrev S1x1x512 : Shape := ⟨3, ![1, 1, 512]⟩
abbrev S2x1x512 : Shape := ⟨3, ![2, 1, 512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S1x1x512, .f32⟩
  | .hbm, ⟨1, _⟩ => ⟨S1x1x512, .f32⟩
  | .hbm, ⟨2, _⟩ => ⟨S2x1x512, .f32⟩
  | .hbm, ⟨3, _⟩ => ⟨S2x1x512, .f32⟩
  | .hbm, ⟨4, _⟩ => ⟨S2x1x512, .f32⟩
  | .hbm, ⟨5, _⟩ => ⟨S2x1x512, .f32⟩
  | .hbm, ⟨6, _⟩ => ⟨S2x1x512, .f32⟩
  | .hbm, ⟨7, _⟩ => ⟨S2x1x512, .f32⟩
  | .hbm, ⟨8, _⟩ => ⟨S2x1x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | _, _ => ⟨S1x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference31Ideal.lean ====
abbrev S1x1x512 : Shape := ⟨3, ![1, 1, 512]⟩
abbrev S2x1x512 : Shape := ⟨3, ![2, 1, 512]⟩
abbrev S_ : Shape := ⟨0, ![]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S1x1x512, .f32⟩
  | .hbm, ⟨1, _⟩ => ⟨S1x1x512, .f32⟩
  | .hbm, ⟨2, _⟩ => ⟨S2x1x512, .f32⟩
  | .hbm, ⟨3, _⟩ => ⟨S2x1x512, .f32⟩
  | .hbm, ⟨4, _⟩ => ⟨S2x1x512, .f32⟩
  | .hbm, ⟨5, _⟩ => ⟨S_, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x1x512, .f32⟩
  | .hbm, ⟨10, _⟩ => ⟨S1x1x512, .f32⟩
  | .hbm, ⟨11, _⟩ => ⟨S2x1x512, .f32⟩
  | .hbm, ⟨12, _⟩ => ⟨S_, .f32⟩
  | .hbm, ⟨13, _⟩ => ⟨S2x1x512, .f32⟩
  | .hbm, ⟨14, _⟩ => ⟨S2x1x512, .f32⟩
  | .hbm, ⟨15, _⟩ => ⟨S_, .f32⟩
  | .hbm, ⟨16, _⟩ => ⟨S2x1x512, .f32⟩
  | .hbm, ⟨17, _⟩ => ⟨S2x1x512, .f32⟩
  | .hbm, ⟨18, _⟩ => ⟨S2x1x512, .f32⟩
  | .hbm, ⟨19, _⟩ => ⟨S_, .f32⟩
  | .hbm, ⟨20, _⟩ => ⟨S2x1x512, .f32⟩
  | .hbm, ⟨21, _⟩ => ⟨S2x1x512, .f32⟩
  | .hbm, ⟨22, _⟩ => ⟨S2x1x512, .f32⟩
  | .hbm, ⟨23, _⟩ => ⟨S_, .f32⟩
  | .hbm, ⟨24, _⟩ => ⟨S2x1x512, .f32⟩
  | .hbm, ⟨25, _⟩ => ⟨S2x1x512, .f32⟩
  | .hbm, ⟨26, _⟩ => ⟨S2x1x512, .f32⟩
  | .hbm, ⟨27, _⟩ => ⟨S_, .f32⟩
  | .hbm, ⟨28, _⟩ => ⟨S2x1x512, .f32⟩
  | .hbm, ⟨29, _⟩ => ⟨S2x1x512, .f32⟩
  | .hbm, ⟨30, _⟩ => ⟨S_, .f32⟩
  | .hbm, ⟨31, _⟩ => ⟨S2x1x512, .f32⟩
  | .hbm, ⟨32, _⟩ => ⟨S2x1x512, .f32⟩
  | .hbm, ⟨33, _⟩ => ⟨S2x1x512, .f32⟩
  | .hbm, ⟨34, _⟩ => ⟨S_, .f32⟩
  | .hbm, ⟨35, _⟩ => ⟨S2x1x512, .f32⟩
  | .hbm, ⟨36, _⟩ => ⟨S2x1x512, .f32⟩
  | .hbm, ⟨37, _⟩ => ⟨S2x1x512, .f32⟩
  | .hbm, ⟨38, _⟩ => ⟨S_, .f32⟩
  | .hbm, ⟨39, _⟩ => ⟨S2x1x512, .f32⟩
  | .hbm, ⟨40, _⟩ => ⟨S2x1x512, .f32⟩
  | .hbm, ⟨41, _⟩ => ⟨S2x1x512, .f32⟩
  | .hbm, ⟨42, _⟩ => ⟨S_, .f32⟩
  | .hbm, ⟨43, _⟩ => ⟨S2x1x512, .f32⟩
  | .hbm, ⟨44, _⟩ => ⟨S2x1x512, .f32⟩
  | _, _ => ⟨S1x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel32.lean ====
abbrev S1x1x8 : Shape := ⟨3, ![1, 1, 8]⟩
abbrev S2x1x8 : Shape := ⟨3, ![2, 1, 8]⟩
abbrev S1x8 : Shape := ⟨2, ![1, 8]⟩

abbrev nBuf : Space → Nat
  | .hbm => 9
  | .vmem => 18
  | .smem => 0
  | _ => 0

abbrev bufTy : (tb : Table) → Fin (tcTables nBuf tb) → BufTy
  | .hbm, ⟨0, _⟩ => ⟨S1x1x8, .f32⟩
  | .hbm, ⟨1, _⟩ => ⟨S1x1x8, .f32⟩
  | .hbm, ⟨2, _⟩ => ⟨S2x1x8, .f32⟩
  | .hbm, ⟨3, _⟩ => ⟨S2x1x8, .f32⟩
  | .hbm, ⟨4, _⟩ => ⟨S2x1x8, .f32⟩
  | .hbm, ⟨5, _⟩ => ⟨S2x1x8, .f32⟩
  | .hbm, ⟨6, _⟩ => ⟨S2x1x8, .f32⟩
  | .hbm, ⟨7, _⟩ => ⟨S2x1x8, .f32⟩
  | .hbm, ⟨8, _⟩ => ⟨S2x1x8, .f32⟩
  | .local _ .vmem, ⟨0, _⟩ => ⟨S1x1x8, .f32⟩
  | .local _ .vmem, ⟨1, _⟩ => ⟨S1x1x8, .f32⟩
  | .local _ .vmem, ⟨2, _⟩ => ⟨S1x1x8, .f32⟩
  | .local _ .vmem, ⟨3, _⟩ => ⟨S1x1x8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .f32⟩
  | .local _ .vmem, ⟨8, _⟩ => ⟨S1x1x8, .f32⟩
  | .local _ .vmem, ⟨9, _⟩ => ⟨S1x1x8, .f32⟩
  | .local _ .vmem, ⟨10, _⟩ => ⟨S1x1x8, .f32⟩
  | .local _ .vmem, ⟨11, _⟩ => ⟨S1x1x8, .f32⟩
  | .local _ .vmem, ⟨12, _⟩ => ⟨S1x1x8, .f32⟩
  | .local _ .vmem, ⟨13, _⟩ => ⟨S1x1x8, .f32⟩
  | .local _ .vmem, ⟨14, _⟩ => ⟨S1x1x8, .f32⟩
  | .local _ .vmem, ⟨15, _⟩ => ⟨S1x1x8, .f32⟩
  | .local _ .vmem, ⟨16, _⟩ => ⟨S1x1x8, .f32⟩
  | .local _ .vmem, ⟨17, _⟩ => ⟨S1x1x8, .f32⟩
  | _, _ => ⟨S1x1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel32Ideal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== Reference32Ideal.lean ====
abbrev S1x1x8 : Shape := ⟨3, ![1, 1, 8]⟩
abbrev S2x1x8 : Shape := ⟨3, ![2, 1, 8]⟩
abbrev S_ : Shape := ⟨0, ![]⟩
abbrev S1x8 : Shape := ⟨2, ![1, 8]⟩

abbrev nBuf : Space → Nat
  | .hbm => 45
  | .vmem => 0
  | .smem => 0
  | _ => 0

abbrev bufTy : (tb : Table) → Fin (tcTables nBuf tb) → BufTy
  | .hbm, ⟨0, _⟩ => ⟨S1x1x8, .f32⟩
  | .hbm, ⟨1, _⟩ => ⟨S1x1x8, .f32⟩
  | .hbm, ⟨2, _⟩ => ⟨S2x1x8, .f32⟩
  | .hbm, ⟨3, _⟩ => ⟨S2x1x8, .f32⟩
  | .hbm, ⟨4, _⟩ => ⟨S2x1x8, .f32⟩
  | .hbm, ⟨5, _⟩ => ⟨S_, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x1x8, .f32⟩
  | .hbm, ⟨10, _⟩ => ⟨S1x1x8, .f32⟩
  | .hbm, ⟨11, _⟩ => ⟨S2x1x8, .f32⟩
  | .hbm, ⟨12, _⟩ => ⟨S_, .f32⟩
  | .hbm, ⟨13, _⟩ => ⟨S2x1x8, .f32⟩
  | .hbm, ⟨14, _⟩ => ⟨S2x1x8, .f32⟩
  | .hbm, ⟨15, _⟩ => ⟨S_, .f32⟩
  | .hbm, ⟨16, _⟩ => ⟨S2x1x8, .f32⟩
  | .hbm, ⟨17, _⟩ => ⟨S2x1x8, .f32⟩
  | .hbm, ⟨18, _⟩ => ⟨S2x1x8, .f32⟩
  | .hbm, ⟨19, _⟩ => ⟨S_, .f32⟩
  | .hbm, ⟨20, _⟩ => ⟨S2x1x8, .f32⟩
  | .hbm, ⟨21, _⟩ => ⟨S2x1x8, .f32⟩
  | .hbm, ⟨22, _⟩ => ⟨S2x1x8, .f32⟩
  | .hbm, ⟨23, _⟩ => ⟨S_, .f32⟩
  | .hbm, ⟨24, _⟩ => ⟨S2x1x8, .f32⟩
  | .hbm, ⟨25, _⟩ => ⟨S2x1x8, .f32⟩
  | .hbm, ⟨26, _⟩ => ⟨S2x1x8, .f32⟩
  | .hbm, ⟨27, _⟩ => ⟨S_, .f32⟩
  | .hbm, ⟨28, _⟩ => ⟨S2x1x8, .f32⟩
  | .hbm, ⟨29, _⟩ => ⟨S2x1x8, .f32⟩
  | .hbm, ⟨30, _⟩ => ⟨S_, .f32⟩
  | .hbm, ⟨31, _⟩ => ⟨S2x1x8, .f32⟩
  | .hbm, ⟨32, _⟩ => ⟨S2x1x8, .f32⟩
  | .hbm, ⟨33, _⟩ => ⟨S2x1x8, .f32⟩
  | .hbm, ⟨34, _⟩ => ⟨S_, .f32⟩
  | .hbm, ⟨35, _⟩ => ⟨S2x1x8, .f32⟩
  | .hbm, ⟨36, _⟩ => ⟨S2x1x8, .f32⟩
  | .hbm, ⟨37, _⟩ => ⟨S2x1x8, .f32⟩
  | .hbm, ⟨38, _⟩ => ⟨S_, .f32⟩
  | .hbm, ⟨39, _⟩ => ⟨S2x1x8, .f32⟩
  | .hbm, ⟨40, _⟩ => ⟨S2x1x8, .f32⟩
  | .hbm, ⟨41, _⟩ => ⟨S2x1x8, .f32⟩
  | .hbm, ⟨42, _⟩ => ⟨S_, .f32⟩
  | .hbm, ⟨43, _⟩ => ⟨S2x1x8, .f32⟩
  | .hbm, ⟨44, _⟩ => ⟨S2x1x8, .f32⟩
  | _, _ => ⟨S1x1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel33.lean ====
abbrev S8x2296x128 : Shape := ⟨3, ![8, 2296, 128]⟩
abbrev S2296x128 : Shape := ⟨2, ![2296, 128]⟩
abbrev S1x2296x128 : Shape := ⟨3, ![1, 2296, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2296x128, .f32⟩
  | .hbm, ⟨1, _⟩ => ⟨S2296x128, .f32⟩
  | .local _ .vmem, ⟨0, _⟩ => ⟨S8x2296x128, .f32⟩
  | .local _ .vmem, ⟨1, _⟩ => ⟨S2296x128, .f32⟩
  | _, _ => ⟨S8x2296x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2296x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2296x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference33Ideal.lean ====
abbrev S8x2296x128 : Shape := ⟨3, ![8, 2296, 128]⟩
abbrev S_ : Shape := ⟨0, ![]⟩
abbrev S2296x128 : Shape := ⟨2, ![2296, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2296x128, .f32⟩
  | .hbm, ⟨1, _⟩ => ⟨S_, .f32⟩
  | .hbm, ⟨2, _⟩ => ⟨S2296x128, .f32⟩
  | _, _ => ⟨S8x2296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel35.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference35Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel36.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference36Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel37.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference37Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Stages.lean ====
module

public import proofs.«01_k».proof.Proof.Gen.KernelIdeal.Loops
public import proofs.«01_k».proof.Proof.Gen.KernelIdeal.Skeleton
@[expose] public section

set_option maxRecDepth 16384
set_option maxHeartbeats 8000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

abbrev Own_2_3_4_5_6_7_8_14_15_16 (c : Dev nD) (arg2 : Memref sig .tc .vmem S4096x128 .f32) (arg3 : Memref sig .tc .vmem S256x128 .f32) (arg4 : Memref sig .tc .vmem S256x128 .f32) (arg5 : Memref sig .tc .vmem S4096x128 .f32) (arg6 : Memref sig .tc .vmem S4096x128 .bf16) (arg7 : Memref sig .tc .vmem S1x4096x128 .f32) (arg8 : Memref sig .tc .vmem S4096x128 .f32) (arg14 : Memref sig .tc .vmem S2x4096x128 .bf16) (arg15 : Memref sig .tc .vmem S2x4096x128 .bf16) (arg16 : Memref sig .tc .vmem S2x4096x128 .f32) (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) : sProp 𝕄G :=
  iprop((arg2.view.loc (c : Thread nD τ) ↦[arg2.view.set]{fullShare} f_arg2) ∗ (arg3.view.loc (c : Thread nD τ) ↦[arg3.view.set]{fullShare} f_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16))

abbrev Own_8 (c : Dev nD) (arg8 : Memref sig .tc .vmem S4096x128 .f32) (f_arg8 : BufTy.Contents (Elt F) arg8.view.ty) : sProp 𝕄G :=
  iprop((arg8.view.loc (c : Thread nD τ) ↦[arg8.view.set]{fullShare} f_arg8))

abbrev Own_14_15_17_18_19_21 (c : Dev nD) (arg14 : Memref sig .tc .vmem S2x4096x128 .bf16) (arg15 : Memref sig .tc .vmem S2x4096x128 .bf16) (arg17 : Memref sig .tc .vmem S2x256x128 .f32) (arg18 : Memref sig .tc .vmem S2x256x128 .f32) (arg19 : Memref sig .tc .vmem S2x256x256 .f32) (arg21 : Memref sig .tc .vmem S2x256x256 .f32) (f_arg14 : BufTy.Contents (Elt F) arg14.view.ty) (f_arg15 : BufTy.Contents (Elt F) arg15.view.ty) (f_arg17 : BufTy.Contents (Elt F) arg17.view.ty) (f_arg18 : BufTy.Contents (Elt F) arg18.view.ty) (f_arg19 : BufTy.Contents (Elt F) arg19.view.ty) (f_arg21 : BufTy.Contents (Elt F) arg21.view.ty) : sProp 𝕄G :=
  iprop((arg14.view.loc (c : Thread nD τ) ↦[arg14.view.set]{fullShare} f_arg14) ∗ (arg15.view.loc (c : Thread nD τ) ↦[arg15.view.set]{fullShare} f_arg15) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg21.view.loc (c : Thread nD τ) ↦[arg21.view.set]{fullShare} f_arg21))

abbrev Own_14_15_19_21 (c : Dev nD) (arg14 : Memref sig .tc .vmem S2x4096x128 .bf16) (arg15 : Memref sig .tc .vmem S2x4096x128 .bf16) (arg19 : Memref sig .tc .vmem S2x256x256 .f32) (arg21 : Memref sig .tc .vmem S2x256x256 .f32) (f_arg14 : BufTy.Contents (Elt F) arg14.view.ty) (f_arg15 : BufTy.Contents (Elt F) arg15.view.ty) (f_arg19 : BufTy.Contents (Elt F) arg19.view.ty) (f_arg21 : BufTy.Contents (Elt F) arg21.view.ty) : sProp 𝕄G :=
  iprop((arg14.view.loc (c : Thread nD τ) ↦[arg14.view.set]{fullShare} f_arg14) ∗ (arg15.view.loc (c : Thread nD τ) ↦[arg15.view.set]{fullShare} f_arg15) ∗ (arg19.view.loc (c : Thread nD τ) ↦[arg19.view.set]{fullShare} f_arg19) ∗ (arg21.view.loc (c : Thread nD τ) ↦[arg21.view.set]{fullShare} f_arg21))

/-- What the body does after the tiles: the outputs of this block of keys, and at the last block the outputs by queries. -/
def tail (i : grid0.Coords) (arg2 : Memref sig .tc .vmem S4096x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x2x256 .f32) (harg12 : arg12.IsWhole) (arg13 : Memref sig .tc .vmem S1x2x4096 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S2x4096x128 .f32) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S2x256x256 .bf16) (harg23 : arg23.IsWhole) (arg24 : Memref sig .tc .vmem S2x256x256 .bf16) (harg24 : arg24.IsWhole) (v5 : IVec S256x128 1) (v10 : IVec S256x128 1) (v226 : FVec F S256x128 .f32) : Prog (TpuEff nD τ sig (Elt F) Λ₀ .tc) PUnit := open Gen in do
  let v227 : Vec F S256x128 .f32 ← Prog.lift (.load arg10 (Rect.unit (s := S256x128) ![0, 0] S256x128.size inb_S256x128_S256x128_0_0).toLoadRect (View.loadsAt_vmem h_S256x128))
  Prog.lift (.store arg10 (Rect.unit (s := S256x128) ![0, 0] S256x128.size inb_S256x128_S256x128_0_0) v226 Finset.univ (View.stores_vmem_bits_univ h_S256x128 rfl) (.inl rfl))
  let v228 : Vec F S1x256x128 .f32 ← Prog.lift (.load arg18 (Rect.unit (s := S2x256x128) ![0, 0, 0] S1x256x128.size inb_S2x256x128_S1x256x128_0_0_0).toLoadRect (View.loadsAt_vmem h_S1x256x128))
  let v230 : Vec F S1x256x128 .f32 ← Prog.lift (.load arg18 (Rect.unit (s := S2x256x128) ![1, 0, 0] S1x256x128.size inb_S2x256x128_S1x256x128_1_0_0).toLoadRect (View.loadsAt_vmem h_S1x256x128))
  let v233 : Vec F S256x128 .f32 ← Prog.lift (.load arg11 (Rect.unit (s := S256x128) ![0, 0] S256x128.size inb_S256x128_S256x128_0_0).toLoadRect (View.loadsAt_vmem h_S256x128))
  Prog.lift (.store arg11 (Rect.unit (s := S256x128) ![0, 0] S256x128.size inb_S256x128_S256x128_0_0) (k0_pay1 v5 v228 v230) Finset.univ (View.stores_vmem_bits_univ h_S256x128 rfl) (.inl rfl))
  let v234 : Vec F S1x256x128 .f32 ← Prog.lift (.load arg17 (Rect.unit (s := S2x256x128) ![0, 0, 0] S1x256x128.size inb_S2x256x128_S1x256x128_0_0_0).toLoadRect (View.loadsAt_vmem h_S1x256x128))
  let v236 : Vec F S1x256x128 .f32 ← Prog.lift (.load arg17 (Rect.unit (s := S2x256x128) ![1, 0, 0] S1x256x128.size inb_S2x256x128_S1x256x128_1_0_0).toLoadRect (View.loadsAt_vmem h_S1x256x128))
  let v241 : Vec F S1x1x256 .f32 ← Prog.lift (.load arg12 (Rect.unit (s := S1x2x256) ![0, 0, 0] S1x1x256.size inb_S1x2x256_S1x1x256_0_0_0).toLoadRect (View.loadsAt_vmem h_S1x1x256))
  Prog.lift (.store arg12 (Rect.unit (s := S1x2x256) ![0, 0, 0] S1x1x256.size inb_S1x2x256_S1x1x256_0_0_0) (k0_pay3 v10 v234 v236) Finset.univ (View.stores_vmem_bits_univ h_S1x1x256 rfl) (.inl rfl))
  let v245 : Vec F S1x1x256 .f32 ← Prog.lift (.load arg12 (Rect.unit (s := S1x2x256) ![0, 1, 0] S1x1x256.size inb_S1x2x256_S1x1x256_0_1_0).toLoadRect (View.loadsAt_vmem h_S1x1x256))
  Prog.lift (.store arg12 (Rect.unit (s := S1x2x256) ![0, 1, 0] S1x1x256.size inb_S1x2x256_S1x1x256_0_1_0) (k0_pay4 v10 v234 v236) Finset.univ (View.stores_vmem_bits_univ h_S1x1x256 rfl) (.inl rfl))
  if k0_h4 : k0_cond4 i = 1#1 then do
    Scf.Loop.for k0_t4_loop (k0_t4_ok i k0_h4) ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 k0_h4)
    pure ⟨⟩
  else do
    pure ⟨⟩
  pure ⟨⟩

theorem body_eq : cc0_attn_bwd (F := F) = (fun i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 => do
  let ⟨arg1, v5, v10, v15, v16, v17, v22, v30, v32, v37⟩ : Σ' (arg1 : BitVec 32) (v5 : IVec S256x128 1) (v10 : IVec S256x128 1) (v15 : BitVec 32) (v16 : Vec F S256x128 .f32) (v17 : Vec F S256x128 .f32) (v22 : FVec F S256x128 .f32) (v30 : IVec S256x128 32) (v32 : Vec F S256x128 .f32), IVec S256x128 1 ← k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
  let ⟨v58, v71, v80, v81, v82⟩ : Σ' (v58 : FVec F S256x128 .bf16) (v71 : IVec S256x128 32) (v80 : FVec F S256x128 .f32) (v81 : FVec F S256x128 .f32), FVec F S256x128 .bf16 ← k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v15 v16 v22 v30 v32 v37
  let ⟨v99, v117, v125, v127, c0_i32_39⟩ : Σ' (v99 : FVec F S256x128 .bf16) (v117 : FVec F S256x128 .bf16) (v125 : IVec S256x128 32) (v127 : Vec F S256x128 .f32), BitVec 32 ← k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v17 v71 v80 v81 v82
  let ⟨v135, v144, v145⟩ : Σ' (v135 : FVec F S256x128 .bf16) (v144 : BitVec 32), BitVec 32 ← k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v58 v117 v125 v127 c0_i32_39
  let ⟨c0_i32_79, v195⟩ : Σ' (c0_i32_79 : BitVec 32), BitVec 32 ← k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v99 v135 v144 v145
  let v226 : FVec F S256x128 .f32 ← k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195
  tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226) := rfl

abbrev Own_16_17_18_9_10_11_12_13 (c : Dev nD) (arg16 : Memref sig .tc .vmem S2x4096x128 .f32) (arg17 : Memref sig .tc .vmem S2x256x128 .f32) (arg18 : Memref sig .tc .vmem S2x256x128 .f32) (arg9 : Memref sig .tc .vmem S4096x128 .f32) (arg10 : Memref sig .tc .vmem S256x128 .f32) (arg11 : Memref sig .tc .vmem S256x128 .f32) (arg12 : Memref sig .tc .vmem S1x2x256 .f32) (arg13 : Memref sig .tc .vmem S1x2x4096 .f32) (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : sProp 𝕄G :=
  iprop((arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13))

variable (𝒱 : Variants) (c : Dev nD) (bd : Option 𝒱.V) (i : grid0.Coords) (arg2 : Memref sig .tc .vmem S4096x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x2x256 .f32) (harg12 : arg12.IsWhole) (arg13 : Memref sig .tc .vmem S1x2x4096 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S2x4096x128 .f32) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S2x256x256 .bf16) (harg23 : arg23.IsWhole) (arg24 : Memref sig .tc .vmem S2x256x256 .bf16) (harg24 : arg24.IsWhole)
include 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

@[irreducible] def run84A   (h1 : k0_cond1 i = 1#1)
    (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) :
    Σ' (R : Σ' (arg1 : BitVec 32) (v5 : IVec S256x128 1) (v10 : IVec S256x128 1) (v15 : BitVec 32) (v16 : Vec F S256x128 .f32) (v17 : Vec F S256x128 .f32) (v22 : FVec F S256x128 .f32) (v30 : IVec S256x128 32) (v32 : Vec F S256x128 .f32), IVec S256x128 1), Σ' (G_arg14 : BufTy.Contents (Elt F) arg14.view.ty), Σ' (G_arg15 : BufTy.Contents (Elt F) arg15.view.ty), { G_arg16 : BufTy.Contents (Elt F) arg16.view.ty // ∀ (E : Set ℕ),
      Own_2_3_4_5_6_7_8_14_15_16 (F := F) c arg2 arg3 arg4 arg5 arg6 arg7 arg8 arg14 arg15 arg16 f_arg2 f_arg3 f_arg4 f_arg5 f_arg6 f_arg7 f_arg8 f_arg14 f_arg15 f_arg16
      ⊢ wp frame (wpE (defs₀ (F := F)) 𝒱 (c : Thread nD τ) bd) E (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun r => iprop(⌜r = R⌝ ∗ Own_2_3_4_5_6_7_8_14_15_16 (F := F) c arg2 arg3 arg4 arg5 arg6 arg7 arg8 arg14 arg15 arg16 f_arg2 f_arg3 f_arg4 f_arg5 f_arg6 f_arg7 f_arg8 G_arg14 G_arg15 G_arg16)) } := by
  refine ⟨?_, ?_, ?_, ?_, fun E => ?run⟩
  case run =>

    iintro ⟨H_arg2, H_arg3, H_arg4, H_arg5, H_arg6, H_arg7, H_arg8, H_arg14, H_arg15, H_arg16⟩
    sl_exec
    sl_step
    isplitr; (· ipureintro; rfl)
    sl_close

@[irreducible] def run84B   (h1 : ¬ k0_cond1 i = 1#1)
    (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) :
    Σ' (R : Σ' (arg1 : BitVec 32) (v5 : IVec S256x128 1) (v10 : IVec S256x128 1) (v15 : BitVec 32) (v16 : Vec F S256x128 .f32) (v17 : Vec F S256x128 .f32) (v22 : FVec F S256x128 .f32) (v30 : IVec S256x128 32) (v32 : Vec F S256x128 .f32), IVec S256x128 1), Σ' (G_arg14 : BufTy.Contents (Elt F) arg14.view.ty), Σ' (G_arg15 : BufTy.Contents (Elt F) arg15.view.ty), { G_arg16 : BufTy.Contents (Elt F) arg16.view.ty // ∀ (E : Set ℕ),
      Own_2_3_4_5_6_7_8_14_15_16 (F := F) c arg2 arg3 arg4 arg5 arg6 arg7 arg8 arg14 arg15 arg16 f_arg2 f_arg3 f_arg4 f_arg5 f_arg6 f_arg7 f_arg8 f_arg14 f_arg15 f_arg16
      ⊢ wp frame (wpE (defs₀ (F := F)) 𝒱 (c : Thread nD τ) bd) E (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun r => iprop(⌜r = R⌝ ∗ Own_2_3_4_5_6_7_8_14_15_16 (F := F) c arg2 arg3 arg4 arg5 arg6 arg7 arg8 arg14 arg15 arg16 f_arg2 f_arg3 f_arg4 f_arg5 f_arg6 f_arg7 f_arg8 G_arg14 G_arg15 G_arg16)) } := by
  refine ⟨?_, ?_, ?_, ?_, fun E => ?run⟩
  case run =>

    iintro ⟨H_arg2, H_arg3, H_arg4, H_arg5, H_arg6, H_arg7, H_arg8, H_arg14, H_arg15, H_arg16⟩
    sl_exec
    sl_step
    isplitr; (· ipureintro; rfl)
    sl_close

@[irreducible] def run85  (v15 : BitVec 32) (v16 : Vec F S256x128 .f32) (v22 : FVec F S256x128 .f32) (v30 : IVec S256x128 32) (v32 : Vec F S256x128 .f32) (v37 : IVec S256x128 1)
    (f_arg8 : BufTy.Contents (Elt F) arg8.view.ty) :
    Σ' (R : Σ' (v58 : FVec F S256x128 .bf16) (v71 : IVec S256x128 32) (v80 : FVec F S256x128 .f32) (v81 : FVec F S256x128 .f32), FVec F S256x128 .bf16), { G_arg8 : BufTy.Contents (Elt F) arg8.view.ty // ∀ (E : Set ℕ),
      Own_8 (F := F) c arg8 f_arg8
      ⊢ wp frame (wpE (defs₀ (F := F)) 𝒱 (c : Thread nD τ) bd) E (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v15 v16 v22 v30 v32 v37) (fun r => iprop(⌜r = R⌝ ∗ Own_8 (F := F) c arg8 G_arg8)) } := by
  refine ⟨?_, ?_, fun E => ?run⟩
  case run =>

    iintro ⟨H_arg8⟩
    sl_exec
    sl_step
    isplitr; (· ipureintro; rfl)
    sl_close

@[irreducible] def run87  (arg1 : BitVec 32) (v58 : FVec F S256x128 .bf16) (v117 : FVec F S256x128 .bf16) (v125 : IVec S256x128 32) (v127 : Vec F S256x128 .f32) (c0_i32_39 : BitVec 32)
    (f_arg14 : BufTy.Contents (Elt F) arg14.view.ty) (f_arg15 : BufTy.Contents (Elt F) arg15.view.ty) (f_arg17 : BufTy.Contents (Elt F) arg17.view.ty) (f_arg18 : BufTy.Contents (Elt F) arg18.view.ty) (f_arg19 : BufTy.Contents (Elt F) arg19.view.ty) (f_arg21 : BufTy.Contents (Elt F) arg21.view.ty) :
    Σ' (R : Σ' (v135 : FVec F S256x128 .bf16) (v144 : BitVec 32), BitVec 32), Σ' (G_arg17 : BufTy.Contents (Elt F) arg17.view.ty), Σ' (G_arg18 : BufTy.Contents (Elt F) arg18.view.ty), Σ' (G_arg19 : BufTy.Contents (Elt F) arg19.view.ty), { G_arg21 : BufTy.Contents (Elt F) arg21.view.ty // ∀ (E : Set ℕ),
      Own_14_15_17_18_19_21 (F := F) c arg14 arg15 arg17 arg18 arg19 arg21 f_arg14 f_arg15 f_arg17 f_arg18 f_arg19 f_arg21
      ⊢ wp frame (wpE (defs₀ (F := F)) 𝒱 (c : Thread nD τ) bd) E (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v58 v117 v125 v127 c0_i32_39) (fun r => iprop(⌜r = R⌝ ∗ Own_14_15_17_18_19_21 (F := F) c arg14 arg15 arg17 arg18 arg19 arg21 f_arg14 f_arg15 G_arg17 G_arg18 G_arg19 G_arg21)) } := by
  refine ⟨?_, ?_, ?_, ?_, ?_, fun E => ?run⟩
  case run =>

    iintro ⟨H_arg14, H_arg15, H_arg17, H_arg18, H_arg19, H_arg21⟩
    sl_exec
    sl_step
    isplitr; (· ipureintro; rfl)
    sl_close

@[irreducible] def run88  (v99 : FVec F S256x128 .bf16) (v135 : FVec F S256x128 .bf16) (v144 : BitVec 32) (v145 : BitVec 32)
    (f_arg14 : BufTy.Contents (Elt F) arg14.view.ty) (f_arg15 : BufTy.Contents (Elt F) arg15.view.ty) (f_arg19 : BufTy.Contents (Elt F) arg19.view.ty) (f_arg21 : BufTy.Contents (Elt F) arg21.view.ty) :
    Σ' (R : Σ' (c0_i32_79 : BitVec 32), BitVec 32), Σ' (G_arg19 : BufTy.Contents (Elt F) arg19.view.ty), { G_arg21 : BufTy.Contents (Elt F) arg21.view.ty // ∀ (E : Set ℕ),
      Own_14_15_19_21 (F := F) c arg14 arg15 arg19 arg21 f_arg14 f_arg15 f_arg19 f_arg21
      ⊢ wp frame (wpE (defs₀ (F := F)) 𝒱 (c : Thread nD τ) bd) E (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v99 v135 v144 v145) (fun r => iprop(⌜r = R⌝ ∗ Own_14_15_19_21 (F := F) c arg14 arg15 arg19 arg21 f_arg14 f_arg15 G_arg19 G_arg21)) } := by
  refine ⟨?_, ?_, ?_, fun E => ?run⟩
  case run =>

    iintro ⟨H_arg14, H_arg15, H_arg19, H_arg21⟩
    sl_exec
    sl_step
    isplitr; (· ipureintro; rfl)
    sl_close

@[irreducible] def runTailA  (v5 : IVec S256x128 1) (v10 : IVec S256x128 1) (v226 : FVec F S256x128 .f32) (h4 : k0_cond4 i = 1#1)
    (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    Σ' (G_arg9 : BufTy.Contents (Elt F) arg9.view.ty), Σ' (G_arg10 : BufTy.Contents (Elt F) arg10.view.ty), Σ' (G_arg11 : BufTy.Contents (Elt F) arg11.view.ty), Σ' (G_arg12 : BufTy.Contents (Elt F) arg12.view.ty), { G_arg13 : BufTy.Contents (Elt F) arg13.view.ty // ∀ (E : Set ℕ),
      Own_16_17_18_9_10_11_12_13 (F := F) c arg16 arg17 arg18 arg9 arg10 arg11 arg12 arg13 f_arg16 f_arg17 f_arg18 f_arg9 f_arg10 f_arg11 f_arg12 f_arg13
      ⊢ wp frame (wpE (defs₀ (F := F)) 𝒱 (c : Thread nD τ) bd) E (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226) (fun r => Own_16_17_18_9_10_11_12_13 (F := F) c arg16 arg17 arg18 arg9 arg10 arg11 arg12 arg13 f_arg16 f_arg17 f_arg18 G_arg9 G_arg10 G_arg11 G_arg12 G_arg13) } := by
  refine ⟨?_, ?_, ?_, ?_, ?_, fun E => ?run⟩
  case run =>
    unfold tail
    iintro ⟨H_arg16, H_arg17, H_arg18, H_arg9, H_arg10, H_arg11, H_arg12, H_arg13⟩
    sl_exec
    sl_step
    sl_close

@[irreducible] def runTailB  (v5 : IVec S256x128 1) (v10 : IVec S256x128 1) (v226 : FVec F S256x128 .f32) (h4 : ¬ k0_cond4 i = 1#1)
    (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    Σ' (G_arg9 : BufTy.Contents (Elt F) arg9.view.ty), Σ' (G_arg10 : BufTy.Contents (Elt F) arg10.view.ty), Σ' (G_arg11 : BufTy.Contents (Elt F) arg11.view.ty), Σ' (G_arg12 : BufTy.Contents (Elt F) arg12.view.ty), { G_arg13 : BufTy.Contents (Elt F) arg13.view.ty // ∀ (E : Set ℕ),
      Own_16_17_18_9_10_11_12_13 (F := F) c arg16 arg17 arg18 arg9 arg10 arg11 arg12 arg13 f_arg16 f_arg17 f_arg18 f_arg9 f_arg10 f_arg11 f_arg12 f_arg13
      ⊢ wp frame (wpE (defs₀ (F := F)) 𝒱 (c : Thread nD τ) bd) E (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226) (fun r => Own_16_17_18_9_10_11_12_13 (F := F) c arg16 arg17 arg18 arg9 arg10 arg11 arg12 arg13 f_arg16 f_arg17 f_arg18 G_arg9 G_arg10 G_arg11 G_arg12 G_arg13) } := by
  refine ⟨?_, ?_, ?_, ?_, ?_, fun E => ?run⟩
  case run =>
    unfold tail
    iintro ⟨H_arg16, H_arg17, H_arg18, H_arg9, H_arg10, H_arg11, H_arg12, H_arg13⟩
    sl_exec
    sl_step
    sl_close

end Cert.Proof.KernelIdeal
-- ==== Proof.T2.lean ====
module

public import proofs.«01_k».proof.Proof.Gen.KernelIdeal.Loops

@[expose] public section

set_option maxRecDepth 16384
set_option maxHeartbeats 8000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem t2_lt : ∀ (i : grid0.Coords) (k : Fin (k0_t2_loop i).trips), 2 * k.val + 2 ≤ 15 - (i 1).val := by decide +kernel
theorem off6_eq1 : ∀ (i : grid0.Coords) (k : Fin (k0_t2_loop i).trips), k0_off6 i k 1#32 = ![0, 3584 - 512 * k.val, 0] := by decide +kernel
theorem off6_eq2 : ∀ (i : grid0.Coords) (k : Fin (k0_t2_loop i).trips), k0_off6 i k 2#32 = ![0, 3328 - 512 * k.val, 0] := by decide +kernel
theorem off7_eq1 : ∀ (i : grid0.Coords) (k : Fin (k0_t2_loop i).trips), k0_off7 i k 1#32 = ![1, 3584 - 512 * k.val, 0] := by decide +kernel
theorem off7_eq2 : ∀ (i : grid0.Coords) (k : Fin (k0_t2_loop i).trips), k0_off7 i k 2#32 = ![1, 3328 - 512 * k.val, 0] := by decide +kernel
theorem off8_eq : ∀ (i : grid0.Coords) (k : Fin (k0_t2_loop i).trips), k0_off8 i k = ![0, 3840 - 512 * k.val, 0] := by decide +kernel
theorem off9_eq : ∀ (i : grid0.Coords) (k : Fin (k0_t2_loop i).trips), k0_off9 i k = ![1, 3840 - 512 * k.val, 0] := by decide +kernel
instance (i : grid0.Coords) (k : Fin (k0_t2_loop i).trips) : ClosedOff (k0_off6 i k 1#32) := ⟨_, off6_eq1 i k⟩
instance (i : grid0.Coords) (k : Fin (k0_t2_loop i).trips) : ClosedOff (k0_off6 i k 2#32) := ⟨_, off6_eq2 i k⟩
instance (i : grid0.Coords) (k : Fin (k0_t2_loop i).trips) : ClosedOff (k0_off7 i k 1#32) := ⟨_, off7_eq1 i k⟩
instance (i : grid0.Coords) (k : Fin (k0_t2_loop i).trips) : ClosedOff (k0_off7 i k 2#32) := ⟨_, off7_eq2 i k⟩
instance (i : grid0.Coords) (k : Fin (k0_t2_loop i).trips) : ClosedOff (k0_off8 i k) := ⟨_, off8_eq i k⟩
instance (i : grid0.Coords) (k : Fin (k0_t2_loop i).trips) : ClosedOff (k0_off9 i k) := ⟨_, off9_eq i k⟩

abbrev Trip_k0_t2 (c : Dev nD) (arg14 : Memref sig .tc .vmem S2x4096x128 .bf16) (arg15 : Memref sig .tc .vmem S2x4096x128 .bf16) (arg16 : Memref sig .tc .vmem S2x4096x128 .f32) (arg17 : Memref sig .tc .vmem S2x256x128 .f32) (arg18 : Memref sig .tc .vmem S2x256x128 .f32) (arg19 : Memref sig .tc .vmem S2x256x256 .f32) (arg20 : Memref sig .tc .vmem S2x256x256 .f32) (arg21 : Memref sig .tc .vmem S2x256x256 .f32) (arg22 : Memref sig .tc .vmem S2x256x256 .f32) (arg23 : Memref sig .tc .vmem S2x256x256 .bf16) (arg24 : Memref sig .tc .vmem S2x256x256 .bf16) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) : sProp 𝕄G :=
  iprop((arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22) ∗ (arg23.view.loc (c : Thread nD τ) ↦[arg23.view.set]{fullShare} f_arg23) ∗ (arg24.view.loc (c : Thread nD τ) ↦[arg24.view.set]{fullShare} f_arg24))

variable (𝒱 : Variants) (c : Dev nD) (bd : Option 𝒱.V) (i : grid0.Coords) (arg2 : Memref sig .tc .vmem S4096x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x2x256 .f32) (harg12 : arg12.IsWhole) (arg13 : Memref sig .tc .vmem S1x2x4096 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S2x4096x128 .f32) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S2x256x256 .bf16) (harg23 : arg23.IsWhole) (arg24 : Memref sig .tc .vmem S2x256x256 .bf16) (harg24 : arg24.IsWhole)
include 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

@[irreducible] def trip_k0_t2  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (k : Fin (k0_t2_loop i).trips)
    (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) :
    Σ' (L_arg16 : List (View.Piece (Elt F) S2x4096x128 .f32)), Σ' (L_arg17 : List (View.Piece (Elt F) S2x256x128 .f32)), Σ' (L_arg18 : List (View.Piece (Elt F) S2x256x128 .f32)), Σ' (L_arg19 : List (View.Piece (Elt F) S2x256x256 .f32)), Σ' (L_arg20 : List (View.Piece (Elt F) S2x256x256 .f32)), Σ' (L_arg21 : List (View.Piece (Elt F) S2x256x256 .f32)), Σ' (L_arg22 : List (View.Piece (Elt F) S2x256x256 .f32)), Σ' (L_arg23 : List (View.Piece (Elt F) S2x256x256 .bf16)), { L_arg24 : List (View.Piece (Elt F) S2x256x256 .bf16) // ∀ (E : Set ℕ),
      Trip_k0_t2 (F := F) c arg14 arg15 arg16 arg17 arg18 arg19 arg20 arg21 arg22 arg23 arg24 f_arg14 f_arg15 f_arg16 f_arg17 f_arg18 f_arg19 f_arg20 f_arg21 f_arg22 f_arg23 f_arg24
      ⊢ wp frame (wpE (defs₀ (F := F)) 𝒱 (c : Thread nD τ) bd) E (Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 k PUnit.unit) (fun _ => Trip_k0_t2 (F := F) c arg14 arg15 arg16 arg17 arg18 arg19 arg20 arg21 arg22 arg23 arg24 f_arg14 f_arg15 (arg16.view.writes (Elt F) f_arg16 L_arg16) (arg17.view.writes (Elt F) f_arg17 L_arg17) (arg18.view.writes (Elt F) f_arg18 L_arg18) (arg19.view.writes (Elt F) f_arg19 L_arg19) (arg20.view.writes (Elt F) f_arg20 L_arg20) (arg21.view.writes (Elt F) f_arg21 L_arg21) (arg22.view.writes (Elt F) f_arg22 L_arg22) (arg23.view.writes (Elt F) f_arg23 L_arg23) (arg24.view.writes (Elt F) f_arg24 L_arg24)) } := by
  have hk := t2_lt i k
  refine ⟨?_, ?_, ?_, ?_, ?_, ?_, ?_, ?_, ?_, fun E => ?run⟩
  case run =>
    unfold Gen.k0_t2_body
    iintro ⟨H_arg14, H_arg15, H_arg16, H_arg17, H_arg18, H_arg19, H_arg20, H_arg21, H_arg22, H_arg23, H_arg24⟩
    sl_exec
    sl_step
    sl_close

end Cert.Proof.KernelIdeal
-- ==== Proof.T2L.lean ====
module

public import proofs.«01_k».proof.Proof.Gen.KernelIdeal.Loops
public import proofs.«01_k».proof.Proof.T2
@[expose] public section

set_option maxRecDepth 16384
set_option maxHeartbeats 8000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What the pair loop's buffers hold. -/
structure St (F : FTy → Type) (arg16 : Memref sig .tc .vmem S2x4096x128 .f32) (arg17 : Memref sig .tc .vmem S2x256x128 .f32) (arg18 : Memref sig .tc .vmem S2x256x128 .f32) (arg19 : Memref sig .tc .vmem S2x256x256 .f32) (arg20 : Memref sig .tc .vmem S2x256x256 .f32) (arg21 : Memref sig .tc .vmem S2x256x256 .f32) (arg22 : Memref sig .tc .vmem S2x256x256 .f32) (arg23 : Memref sig .tc .vmem S2x256x256 .bf16) (arg24 : Memref sig .tc .vmem S2x256x256 .bf16) where
  x16 : BufTy.Contents (Elt F) arg16.view.ty
  x17 : BufTy.Contents (Elt F) arg17.view.ty
  x18 : BufTy.Contents (Elt F) arg18.view.ty
  x19 : BufTy.Contents (Elt F) arg19.view.ty
  x20 : BufTy.Contents (Elt F) arg20.view.ty
  x21 : BufTy.Contents (Elt F) arg21.view.ty
  x22 : BufTy.Contents (Elt F) arg22.view.ty
  x23 : BufTy.Contents (Elt F) arg23.view.ty
  x24 : BufTy.Contents (Elt F) arg24.view.ty

variable (𝒱 : Variants) (c : Dev nD) (bd : Option 𝒱.V) (i : grid0.Coords) (arg2 : Memref sig .tc .vmem S4096x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x2x256 .f32) (harg12 : arg12.IsWhole) (arg13 : Memref sig .tc .vmem S1x2x4096 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S2x4096x128 .f32) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S2x256x256 .bf16) (harg23 : arg23.IsWhole) (arg24 : Memref sig .tc .vmem S2x256x256 .bf16) (harg24 : arg24.IsWhole)
include 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

/-- One trip's effect on them. -/
def stepSt  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (k : Fin (k0_t2_loop i).trips) (f_arg14 : BufTy.Contents (Elt F) arg14.view.ty) (f_arg15 : BufTy.Contents (Elt F) arg15.view.ty) (s : St F arg16 arg17 arg18 arg19 arg20 arg21 arg22 arg23 arg24) : St F arg16 arg17 arg18 arg19 arg20 arg21 arg22 arg23 arg24 :=
  let t := trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 k f_arg14 f_arg15 s.x16 s.x17 s.x18 s.x19 s.x20 s.x21 s.x22 s.x23 s.x24
  ⟨arg16.view.writes (Elt F) s.x16 t.1, arg17.view.writes (Elt F) s.x17 t.2.1, arg18.view.writes (Elt F) s.x18 t.2.2.1, arg19.view.writes (Elt F) s.x19 t.2.2.2.1, arg20.view.writes (Elt F) s.x20 t.2.2.2.2.1, arg21.view.writes (Elt F) s.x21 t.2.2.2.2.2.1, arg22.view.writes (Elt F) s.x22 t.2.2.2.2.2.2.1, arg23.view.writes (Elt F) s.x23 t.2.2.2.2.2.2.2.1, arg24.view.writes (Elt F) s.x24 t.2.2.2.2.2.2.2.2.1⟩

def st  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (f_arg14 : BufTy.Contents (Elt F) arg14.view.ty) (f_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg23 : BufTy.Contents (Elt F) arg23.view.ty) (G_arg24 : BufTy.Contents (Elt F) arg24.view.ty) : ℕ → St F arg16 arg17 arg18 arg19 arg20 arg21 arg22 arg23 arg24
  | 0 => ⟨G_arg16, G_arg17, G_arg18, G_arg19, G_arg20, G_arg21, G_arg22, G_arg23, G_arg24⟩
  | k + 1 => if h : k < (k0_t2_loop i).trips then
      stepSt 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 ⟨k, h⟩ f_arg14 f_arg15 (st v5 v58 v99 v117 v135 v144 c0_i32_79 v195 f_arg14 f_arg15 G_arg16 G_arg17 G_arg18 G_arg19 G_arg20 G_arg21 G_arg22 G_arg23 G_arg24 k)
    else st v5 v58 v99 v117 v135 v144 c0_i32_79 v195 f_arg14 f_arg15 G_arg16 G_arg17 G_arg18 G_arg19 G_arg20 G_arg21 G_arg22 G_arg23 G_arg24 k

theorem st_succ  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (f_arg14 : BufTy.Contents (Elt F) arg14.view.ty) (f_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg23 : BufTy.Contents (Elt F) arg23.view.ty) (G_arg24 : BufTy.Contents (Elt F) arg24.view.ty) (k : Fin (k0_t2_loop i).trips) :
    st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 (k.val + 1)
      = stepSt 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 k f_arg14 f_arg15 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val) := by
  rw [st]; exact dif_pos k.isLt

abbrev inv_k0_t2  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (f_arg14 : BufTy.Contents (Elt F) arg14.view.ty) (f_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg23 : BufTy.Contents (Elt F) arg23.view.ty) (G_arg24 : BufTy.Contents (Elt F) arg24.view.ty) (k : ℕ) (_ : Unit) : sProp 𝕄G :=
  iprop((arg14.view.loc (c : Thread nD τ) ↦[arg14.view.set]{fullShare} f_arg14) ∗ (arg15.view.loc (c : Thread nD τ) ↦[arg15.view.set]{fullShare} f_arg15) ∗ (∃ f : BufTy.Contents (Elt F) arg16.view.ty, (arg16.view.loc (c : Thread nD τ) ↦[arg16.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x16⌝) ∗ (∃ f : BufTy.Contents (Elt F) arg17.view.ty, (arg17.view.loc (c : Thread nD τ) ↦[arg17.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x17⌝) ∗ (∃ f : BufTy.Contents (Elt F) arg18.view.ty, (arg18.view.loc (c : Thread nD τ) ↦[arg18.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x18⌝) ∗ (∃ f : BufTy.Contents (Elt F) arg19.view.ty, (arg19.view.loc (c : Thread nD τ) ↦[arg19.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x19⌝) ∗ (∃ f : BufTy.Contents (Elt F) arg20.view.ty, (arg20.view.loc (c : Thread nD τ) ↦[arg20.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x20⌝) ∗ (∃ f : BufTy.Contents (Elt F) arg21.view.ty, (arg21.view.loc (c : Thread nD τ) ↦[arg21.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x21⌝) ∗ (∃ f : BufTy.Contents (Elt F) arg22.view.ty, (arg22.view.loc (c : Thread nD τ) ↦[arg22.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x22⌝) ∗ (∃ f : BufTy.Contents (Elt F) arg23.view.ty, (arg23.view.loc (c : Thread nD τ) ↦[arg23.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x23⌝) ∗ (∃ f : BufTy.Contents (Elt F) arg24.view.ty, (arg24.view.loc (c : Thread nD τ) ↦[arg24.view.set]{fullShare} f) ∗ ⌜f = (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k).x24⌝))

@[sl_loop, instance_reducible] def loopInv_k0_t2 (E : Set ℕ) (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (f_arg14 : BufTy.Contents (Elt F) arg14.view.ty) (f_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg23 : BufTy.Contents (Elt F) arg23.view.ty) (G_arg24 : BufTy.Contents (Elt F) arg24.view.ty) :
    Gen.LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24
  step k acc := by
    iintro ⟨H_arg14, H_arg15, ⟨%f_arg16, H_arg16, %h_arg16⟩, ⟨%f_arg17, H_arg17, %h_arg17⟩, ⟨%f_arg18, H_arg18, %h_arg18⟩, ⟨%f_arg19, H_arg19, %h_arg19⟩, ⟨%f_arg20, H_arg20, %h_arg20⟩, ⟨%f_arg21, H_arg21, %h_arg21⟩, ⟨%f_arg22, H_arg22, %h_arg22⟩, ⟨%f_arg23, H_arg23, %h_arg23⟩, ⟨%f_arg24, H_arg24, %h_arg24⟩⟩
    subst h_arg16 h_arg17 h_arg18 h_arg19 h_arg20 h_arg21 h_arg22 h_arg23 h_arg24
    iapply (wp_wand_r Idealize.ShloMosaic.frame (wpE (defs₀ (F := F)) 𝒱 (c : Thread nD τ) bd) E)
    isplitl [H_arg14 H_arg15 H_arg16 H_arg17 H_arg18 H_arg19 H_arg20 H_arg21 H_arg22 H_arg23 H_arg24]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 k f_arg14 f_arg15 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x16 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x17 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x18 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x19 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x20 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x21 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x22 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x23 (st 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 G_arg16 G_arg17 G_arg18 G_arg19 G_arg20 G_arg21 G_arg22 G_arg23 G_arg24 k.val).x24).2.2.2.2.2.2.2.2.2 E)
      isplitl [H_arg14]; · iexact H_arg14
      isplitl [H_arg15]; · iexact H_arg15
      isplitl [H_arg16]; · iexact H_arg16
      isplitl [H_arg17]; · iexact H_arg17
      isplitl [H_arg18]; · iexact H_arg18
      isplitl [H_arg19]; · iexact H_arg19
      isplitl [H_arg20]; · iexact H_arg20
      isplitl [H_arg21]; · iexact H_arg21
      isplitl [H_arg22]; · iexact H_arg22
      isplitl [H_arg23]; · iexact H_arg23
      iexact H_arg24
    · iintro %_ ⟨H_arg14, H_arg15, H_arg16, H_arg17, H_arg18, H_arg19, H_arg20, H_arg21, H_arg22, H_arg23, H_arg24⟩
      isplitl [H_arg14]; · iexact H_arg14
      isplitl [H_arg15]; · iexact H_arg15
      rw [st_succ]
      isplitl [H_arg16]
      · iexists _; isplitl [H_arg16]; · iexact H_arg16
        ipureintro; rfl
      isplitl [H_arg17]
      · iexists _; isplitl [H_arg17]; · iexact H_arg17
        ipureintro; rfl
      isplitl [H_arg18]
      · iexists _; isplitl [H_arg18]; · iexact H_arg18
        ipureintro; rfl
      isplitl [H_arg19]
      · iexists _; isplitl [H_arg19]; · iexact H_arg19
        ipureintro; rfl
      isplitl [H_arg20]
      · iexists _; isplitl [H_arg20]; · iexact H_arg20
        ipureintro; rfl
      isplitl [H_arg21]
      · iexists _; isplitl [H_arg21]; · iexact H_arg21
        ipureintro; rfl
      isplitl [H_arg22]
      · iexists _; isplitl [H_arg22]; · iexact H_arg22
        ipureintro; rfl
      isplitl [H_arg23]
      · iexists _; isplitl [H_arg23]; · iexact H_arg23
        ipureintro; rfl
      iexists _; isplitl [H_arg24]; · iexact H_arg24
      ipureintro; rfl

@[sl_loop, instance_reducible] def loopInv_k0_t3 (E : Set ℕ) (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) :
    Gen.LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 where
  inv := fun _ _ => iprop(emp)
  step k acc := absurd k.isLt (Nat.not_lt.2 (Nat.le_trans (Gen.k0_t3_abs i).2.1 (Nat.zero_le _)))

end Cert.Proof.KernelIdeal
-- ==== Proof.P89E.lean ====
module

public import proofs.«01_k».proof.Proof.Gen.KernelIdeal.Loops
public import proofs.«01_k».proof.Proof.T2L
@[expose] public section

set_option maxRecDepth 16384
set_option maxHeartbeats 8000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

abbrev Own_14_15_16_17_18_19_20_21_22_23_24 (c : Dev nD) (arg14 : Memref sig .tc .vmem S2x4096x128 .bf16) (arg15 : Memref sig .tc .vmem S2x4096x128 .bf16) (arg16 : Memref sig .tc .vmem S2x4096x128 .f32) (arg17 : Memref sig .tc .vmem S2x256x128 .f32) (arg18 : Memref sig .tc .vmem S2x256x128 .f32) (arg19 : Memref sig .tc .vmem S2x256x256 .f32) (arg20 : Memref sig .tc .vmem S2x256x256 .f32) (arg21 : Memref sig .tc .vmem S2x256x256 .f32) (arg22 : Memref sig .tc .vmem S2x256x256 .f32) (arg23 : Memref sig .tc .vmem S2x256x256 .bf16) (arg24 : Memref sig .tc .vmem S2x256x256 .bf16) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) : sProp 𝕄G :=
  iprop((arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22) ∗ (arg23.view.loc (c : Thread nD τ) ↦[arg23.view.set]{fullShare} f_arg23) ∗ (arg24.view.loc (c : Thread nD τ) ↦[arg24.view.set]{fullShare} f_arg24))

variable (𝒱 : Variants) (c : Dev nD) (bd : Option 𝒱.V) (i : grid0.Coords) (arg2 : Memref sig .tc .vmem S4096x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x2x256 .f32) (harg12 : arg12.IsWhole) (arg13 : Memref sig .tc .vmem S1x2x4096 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S2x4096x128 .f32) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S2x256x256 .bf16) (harg23 : arg23.IsWhole) (arg24 : Memref sig .tc .vmem S2x256x256 .bf16) (harg24 : arg24.IsWhole)
include 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

@[irreducible] def run89E  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (h2 : k0_cond2 i = 1#1) (h3 : ¬ k0_cond3 i = 1#1)
    (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) :
    Σ' (R : FVec F S256x128 .f32), Σ' (G_arg16 : BufTy.Contents (Elt F) arg16.view.ty), Σ' (G_arg17 : BufTy.Contents (Elt F) arg17.view.ty), Σ' (G_arg18 : BufTy.Contents (Elt F) arg18.view.ty), Σ' (G_arg19 : BufTy.Contents (Elt F) arg19.view.ty), Σ' (G_arg20 : BufTy.Contents (Elt F) arg20.view.ty), Σ' (G_arg21 : BufTy.Contents (Elt F) arg21.view.ty), Σ' (G_arg22 : BufTy.Contents (Elt F) arg22.view.ty), Σ' (G_arg23 : BufTy.Contents (Elt F) arg23.view.ty), { G_arg24 : BufTy.Contents (Elt F) arg24.view.ty // ∀ (E : Set ℕ),
      Own_14_15_16_17_18_19_20_21_22_23_24 (F := F) c arg14 arg15 arg16 arg17 arg18 arg19 arg20 arg21 arg22 arg23 arg24 f_arg14 f_arg15 f_arg16 f_arg17 f_arg18 f_arg19 f_arg20 f_arg21 f_arg22 f_arg23 f_arg24
      ⊢ wp frame (wpE (defs₀ (F := F)) 𝒱 (c : Thread nD τ) bd) E (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195) (fun r => iprop(⌜r = R⌝ ∗ Own_14_15_16_17_18_19_20_21_22_23_24 (F := F) c arg14 arg15 arg16 arg17 arg18 arg19 arg20 arg21 arg22 arg23 arg24 f_arg14 f_arg15 G_arg16 G_arg17 G_arg18 G_arg19 G_arg20 G_arg21 G_arg22 G_arg23 G_arg24)) } := by
  refine ⟨?_, ?_, ?_, ?_, ?_, ?_, ?_, ?_, ?_, ?_, fun E => ?run⟩
  case run =>

    iintro ⟨H_arg14, H_arg15, H_arg16, H_arg17, H_arg18, H_arg19, H_arg20, H_arg21, H_arg22, H_arg23, H_arg24⟩
    sl_exec
    sl_step
    isplitr; (· ipureintro; rfl)
    sl_close

end Cert.Proof.KernelIdeal
-- ==== Proof.P89O.lean ====
module

public import proofs.«01_k».proof.Proof.Gen.KernelIdeal.Loops
public import proofs.«01_k».proof.Proof.T2L
@[expose] public section

set_option maxRecDepth 16384
set_option maxHeartbeats 8000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

abbrev OwnO_14_15_16_17_18_19_20_21_22_23_24 (c : Dev nD) (arg14 : Memref sig .tc .vmem S2x4096x128 .bf16) (arg15 : Memref sig .tc .vmem S2x4096x128 .bf16) (arg16 : Memref sig .tc .vmem S2x4096x128 .f32) (arg17 : Memref sig .tc .vmem S2x256x128 .f32) (arg18 : Memref sig .tc .vmem S2x256x128 .f32) (arg19 : Memref sig .tc .vmem S2x256x256 .f32) (arg20 : Memref sig .tc .vmem S2x256x256 .f32) (arg21 : Memref sig .tc .vmem S2x256x256 .f32) (arg22 : Memref sig .tc .vmem S2x256x256 .f32) (arg23 : Memref sig .tc .vmem S2x256x256 .bf16) (arg24 : Memref sig .tc .vmem S2x256x256 .bf16) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) : sProp 𝕄G :=
  iprop((arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22) ∗ (arg23.view.loc (c : Thread nD τ) ↦[arg23.view.set]{fullShare} f_arg23) ∗ (arg24.view.loc (c : Thread nD τ) ↦[arg24.view.set]{fullShare} f_arg24))

variable (𝒱 : Variants) (c : Dev nD) (bd : Option 𝒱.V) (i : grid0.Coords) (arg2 : Memref sig .tc .vmem S4096x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x2x256 .f32) (harg12 : arg12.IsWhole) (arg13 : Memref sig .tc .vmem S1x2x4096 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S2x4096x128 .f32) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S2x256x256 .bf16) (harg23 : arg23.IsWhole) (arg24 : Memref sig .tc .vmem S2x256x256 .bf16) (harg24 : arg24.IsWhole)
include 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

@[irreducible] def run89O  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (h2 : ¬ k0_cond2 i = 1#1) (h3 : k0_cond3 i = 1#1)
    (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) :
    Σ' (R : FVec F S256x128 .f32), Σ' (G_arg16 : BufTy.Contents (Elt F) arg16.view.ty), Σ' (G_arg17 : BufTy.Contents (Elt F) arg17.view.ty), Σ' (G_arg18 : BufTy.Contents (Elt F) arg18.view.ty), Σ' (G_arg19 : BufTy.Contents (Elt F) arg19.view.ty), Σ' (G_arg20 : BufTy.Contents (Elt F) arg20.view.ty), Σ' (G_arg21 : BufTy.Contents (Elt F) arg21.view.ty), Σ' (G_arg22 : BufTy.Contents (Elt F) arg22.view.ty), Σ' (G_arg23 : BufTy.Contents (Elt F) arg23.view.ty), { G_arg24 : BufTy.Contents (Elt F) arg24.view.ty // ∀ (E : Set ℕ),
      OwnO_14_15_16_17_18_19_20_21_22_23_24 (F := F) c arg14 arg15 arg16 arg17 arg18 arg19 arg20 arg21 arg22 arg23 arg24 f_arg14 f_arg15 f_arg16 f_arg17 f_arg18 f_arg19 f_arg20 f_arg21 f_arg22 f_arg23 f_arg24
      ⊢ wp frame (wpE (defs₀ (F := F)) 𝒱 (c : Thread nD τ) bd) E (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195) (fun r => iprop(⌜r = R⌝ ∗ OwnO_14_15_16_17_18_19_20_21_22_23_24 (F := F) c arg14 arg15 arg16 arg17 arg18 arg19 arg20 arg21 arg22 arg23 arg24 f_arg14 f_arg15 G_arg16 G_arg17 G_arg18 G_arg19 G_arg20 G_arg21 G_arg22 G_arg23 G_arg24)) } := by
  refine ⟨?_, ?_, ?_, ?_, ?_, ?_, ?_, ?_, ?_, ?_, fun E => ?run⟩
  case run =>

    iintro ⟨H_arg14, H_arg15, H_arg16, H_arg17, H_arg18, H_arg19, H_arg20, H_arg21, H_arg22, H_arg23, H_arg24⟩
    sl_exec
    sl_step
    isplitr; (· ipureintro; rfl)
    sl_close

end Cert.Proof.KernelIdeal
-- ==== Proof.Rels.lean ====
module

public import proofs.«01_k».proof.Proof.Gen.KernelIdeal.Loops
public import proofs.«01_k».proof.Proof.Stages
public import proofs.«01_k».proof.Proof.P89E
public import proofs.«01_k».proof.Proof.P89O

@[expose] public section

set_option maxRecDepth 16384
set_option maxHeartbeats 8000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem cond3_iff : ∀ i : grid0.Coords, k0_cond3 i = 1#1 ↔ ¬ k0_cond2 i = 1#1 := by decide +kernel

variable (𝒱 : Variants) (c : Dev nD) (bd : Option 𝒱.V) (i : grid0.Coords) (arg2 : Memref sig .tc .vmem S4096x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x2x256 .f32) (harg12 : arg12.IsWhole) (arg13 : Memref sig .tc .vmem S1x2x4096 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S2x4096x128 .f32) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S2x256x256 .bf16) (harg23 : arg23.IsWhole) (arg24 : Memref sig .tc .vmem S2x256x256 .bf16) (harg24 : arg24.IsWhole)
include 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

/-- The contents that `run84A` leaves. -/
def Rel84A   (h1 : k0_cond1 i = 1#1) (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) (r : Σ' (arg1 : BitVec 32) (v5 : IVec S256x128 1) (v10 : IVec S256x128 1) (v15 : BitVec 32) (v16 : Vec F S256x128 .f32) (v17 : Vec F S256x128 .f32) (v22 : FVec F S256x128 .f32) (v30 : IVec S256x128 32) (v32 : Vec F S256x128 .f32), IVec S256x128 1) (g_arg14 : BufTy.Contents (Elt F) arg14.view.ty) (g_arg15 : BufTy.Contents (Elt F) arg15.view.ty) (g_arg16 : BufTy.Contents (Elt F) arg16.view.ty) : Prop :=
  let t := (run84A (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16)
  r = t.1 ∧ g_arg14 = t.2.1 ∧ g_arg15 = t.2.2.1 ∧ g_arg16 = t.2.2.2.1

theorem run84A_ex   (h1 : k0_cond1 i = 1#1) (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) (E : Set ℕ) :
    Own_2_3_4_5_6_7_8_14_15_16 (F := F) c arg2 arg3 arg4 arg5 arg6 arg7 arg8 arg14 arg15 arg16 f_arg2 f_arg3 f_arg4 f_arg5 f_arg6 f_arg7 f_arg8 f_arg14 f_arg15 f_arg16
    ⊢ wp frame (wpE (defs₀ (F := F)) 𝒱 (c : Thread nD τ) bd) E (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun r => iprop(∃ g_arg14, ∃ g_arg15, ∃ g_arg16, ⌜Rel84A (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16 r g_arg14 g_arg15 g_arg16⌝ ∗ Own_2_3_4_5_6_7_8_14_15_16 (F := F) c arg2 arg3 arg4 arg5 arg6 arg7 arg8 arg14 arg15 arg16 f_arg2 f_arg3 f_arg4 f_arg5 f_arg6 f_arg7 f_arg8 g_arg14 g_arg15 g_arg16)) := by
  iintro H
  iapply (wp_wand_r Idealize.ShloMosaic.frame (wpE (defs₀ (F := F)) 𝒱 (c : Thread nD τ) bd) E)
  isplitl [H]
  · iapply ((run84A (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16).2.2.2.2 E)
    iexact H
  · iintro %r ⟨%hr, H⟩
    subst hr
    iexists _, _, _
    isplitr; swap; (· iexact H)
    ipureintro
    exact ⟨rfl, rfl, rfl, rfl⟩

/-- The contents that `run84B` leaves. -/
def Rel84B   (h1 : ¬ k0_cond1 i = 1#1) (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) (r : Σ' (arg1 : BitVec 32) (v5 : IVec S256x128 1) (v10 : IVec S256x128 1) (v15 : BitVec 32) (v16 : Vec F S256x128 .f32) (v17 : Vec F S256x128 .f32) (v22 : FVec F S256x128 .f32) (v30 : IVec S256x128 32) (v32 : Vec F S256x128 .f32), IVec S256x128 1) (g_arg14 : BufTy.Contents (Elt F) arg14.view.ty) (g_arg15 : BufTy.Contents (Elt F) arg15.view.ty) (g_arg16 : BufTy.Contents (Elt F) arg16.view.ty) : Prop :=
  let t := (run84B (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16)
  r = t.1 ∧ g_arg14 = t.2.1 ∧ g_arg15 = t.2.2.1 ∧ g_arg16 = t.2.2.2.1

theorem run84B_ex   (h1 : ¬ k0_cond1 i = 1#1) (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) (E : Set ℕ) :
    Own_2_3_4_5_6_7_8_14_15_16 (F := F) c arg2 arg3 arg4 arg5 arg6 arg7 arg8 arg14 arg15 arg16 f_arg2 f_arg3 f_arg4 f_arg5 f_arg6 f_arg7 f_arg8 f_arg14 f_arg15 f_arg16
    ⊢ wp frame (wpE (defs₀ (F := F)) 𝒱 (c : Thread nD τ) bd) E (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun r => iprop(∃ g_arg14, ∃ g_arg15, ∃ g_arg16, ⌜Rel84B (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16 r g_arg14 g_arg15 g_arg16⌝ ∗ Own_2_3_4_5_6_7_8_14_15_16 (F := F) c arg2 arg3 arg4 arg5 arg6 arg7 arg8 arg14 arg15 arg16 f_arg2 f_arg3 f_arg4 f_arg5 f_arg6 f_arg7 f_arg8 g_arg14 g_arg15 g_arg16)) := by
  iintro H
  iapply (wp_wand_r Idealize.ShloMosaic.frame (wpE (defs₀ (F := F)) 𝒱 (c : Thread nD τ) bd) E)
  isplitl [H]
  · iapply ((run84B (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16).2.2.2.2 E)
    iexact H
  · iintro %r ⟨%hr, H⟩
    subst hr
    iexists _, _, _
    isplitr; swap; (· iexact H)
    ipureintro
    exact ⟨rfl, rfl, rfl, rfl⟩

/-- The contents that `run85` leaves. -/
def Rel85  (v15 : BitVec 32) (v16 : Vec F S256x128 .f32) (v22 : FVec F S256x128 .f32) (v30 : IVec S256x128 32) (v32 : Vec F S256x128 .f32) (v37 : IVec S256x128 1)  (f_arg8 : BufTy.Contents (Elt F) arg8.view.ty) (r : Σ' (v58 : FVec F S256x128 .bf16) (v71 : IVec S256x128 32) (v80 : FVec F S256x128 .f32) (v81 : FVec F S256x128 .f32), FVec F S256x128 .bf16) (g_arg8 : BufTy.Contents (Elt F) arg8.view.ty) : Prop :=
  let t := (run85 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v15 v16 v22 v30 v32 v37  f_arg8)
  r = t.1 ∧ g_arg8 = t.2.1

theorem run85_ex  (v15 : BitVec 32) (v16 : Vec F S256x128 .f32) (v22 : FVec F S256x128 .f32) (v30 : IVec S256x128 32) (v32 : Vec F S256x128 .f32) (v37 : IVec S256x128 1)  (f_arg8 : BufTy.Contents (Elt F) arg8.view.ty) (E : Set ℕ) :
    Own_8 (F := F) c arg8 f_arg8
    ⊢ wp frame (wpE (defs₀ (F := F)) 𝒱 (c : Thread nD τ) bd) E (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v15 v16 v22 v30 v32 v37) (fun r => iprop(∃ g_arg8, ⌜Rel85 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v15 v16 v22 v30 v32 v37  f_arg8 r g_arg8⌝ ∗ Own_8 (F := F) c arg8 g_arg8)) := by
  iintro H
  iapply (wp_wand_r Idealize.ShloMosaic.frame (wpE (defs₀ (F := F)) 𝒱 (c : Thread nD τ) bd) E)
  isplitl [H]
  · iapply ((run85 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v15 v16 v22 v30 v32 v37  f_arg8).2.2 E)
    iexact H
  · iintro %r ⟨%hr, H⟩
    subst hr
    iexists _
    isplitr; swap; (· iexact H)
    ipureintro
    exact ⟨rfl, rfl⟩

/-- The contents that `run87` leaves. -/
def Rel87  (arg1 : BitVec 32) (v58 : FVec F S256x128 .bf16) (v117 : FVec F S256x128 .bf16) (v125 : IVec S256x128 32) (v127 : Vec F S256x128 .f32) (c0_i32_39 : BitVec 32)  (f_arg14 : BufTy.Contents (Elt F) arg14.view.ty) (f_arg15 : BufTy.Contents (Elt F) arg15.view.ty) (f_arg17 : BufTy.Contents (Elt F) arg17.view.ty) (f_arg18 : BufTy.Contents (Elt F) arg18.view.ty) (f_arg19 : BufTy.Contents (Elt F) arg19.view.ty) (f_arg21 : BufTy.Contents (Elt F) arg21.view.ty) (r : Σ' (v135 : FVec F S256x128 .bf16) (v144 : BitVec 32), BitVec 32) (g_arg17 : BufTy.Contents (Elt F) arg17.view.ty) (g_arg18 : BufTy.Contents (Elt F) arg18.view.ty) (g_arg19 : BufTy.Contents (Elt F) arg19.view.ty) (g_arg21 : BufTy.Contents (Elt F) arg21.view.ty) : Prop :=
  let t := (run87 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v58 v117 v125 v127 c0_i32_39  f_arg14 f_arg15 f_arg17 f_arg18 f_arg19 f_arg21)
  r = t.1 ∧ g_arg17 = t.2.1 ∧ g_arg18 = t.2.2.1 ∧ g_arg19 = t.2.2.2.1 ∧ g_arg21 = t.2.2.2.2.1

theorem run87_ex  (arg1 : BitVec 32) (v58 : FVec F S256x128 .bf16) (v117 : FVec F S256x128 .bf16) (v125 : IVec S256x128 32) (v127 : Vec F S256x128 .f32) (c0_i32_39 : BitVec 32)  (f_arg14 : BufTy.Contents (Elt F) arg14.view.ty) (f_arg15 : BufTy.Contents (Elt F) arg15.view.ty) (f_arg17 : BufTy.Contents (Elt F) arg17.view.ty) (f_arg18 : BufTy.Contents (Elt F) arg18.view.ty) (f_arg19 : BufTy.Contents (Elt F) arg19.view.ty) (f_arg21 : BufTy.Contents (Elt F) arg21.view.ty) (E : Set ℕ) :
    Own_14_15_17_18_19_21 (F := F) c arg14 arg15 arg17 arg18 arg19 arg21 f_arg14 f_arg15 f_arg17 f_arg18 f_arg19 f_arg21
    ⊢ wp frame (wpE (defs₀ (F := F)) 𝒱 (c : Thread nD τ) bd) E (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v58 v117 v125 v127 c0_i32_39) (fun r => iprop(∃ g_arg17, ∃ g_arg18, ∃ g_arg19, ∃ g_arg21, ⌜Rel87 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v58 v117 v125 v127 c0_i32_39  f_arg14 f_arg15 f_arg17 f_arg18 f_arg19 f_arg21 r g_arg17 g_arg18 g_arg19 g_arg21⌝ ∗ Own_14_15_17_18_19_21 (F := F) c arg14 arg15 arg17 arg18 arg19 arg21 f_arg14 f_arg15 g_arg17 g_arg18 g_arg19 g_arg21)) := by
  iintro H
  iapply (wp_wand_r Idealize.ShloMosaic.frame (wpE (defs₀ (F := F)) 𝒱 (c : Thread nD τ) bd) E)
  isplitl [H]
  · iapply ((run87 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v58 v117 v125 v127 c0_i32_39  f_arg14 f_arg15 f_arg17 f_arg18 f_arg19 f_arg21).2.2.2.2.2 E)
    iexact H
  · iintro %r ⟨%hr, H⟩
    subst hr
    iexists _, _, _, _
    isplitr; swap; (· iexact H)
    ipureintro
    exact ⟨rfl, rfl, rfl, rfl, rfl⟩

/-- The contents that `run88` leaves. -/
def Rel88  (v99 : FVec F S256x128 .bf16) (v135 : FVec F S256x128 .bf16) (v144 : BitVec 32) (v145 : BitVec 32)  (f_arg14 : BufTy.Contents (Elt F) arg14.view.ty) (f_arg15 : BufTy.Contents (Elt F) arg15.view.ty) (f_arg19 : BufTy.Contents (Elt F) arg19.view.ty) (f_arg21 : BufTy.Contents (Elt F) arg21.view.ty) (r : Σ' (c0_i32_79 : BitVec 32), BitVec 32) (g_arg19 : BufTy.Contents (Elt F) arg19.view.ty) (g_arg21 : BufTy.Contents (Elt F) arg21.view.ty) : Prop :=
  let t := (run88 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v99 v135 v144 v145  f_arg14 f_arg15 f_arg19 f_arg21)
  r = t.1 ∧ g_arg19 = t.2.1 ∧ g_arg21 = t.2.2.1

theorem run88_ex  (v99 : FVec F S256x128 .bf16) (v135 : FVec F S256x128 .bf16) (v144 : BitVec 32) (v145 : BitVec 32)  (f_arg14 : BufTy.Contents (Elt F) arg14.view.ty) (f_arg15 : BufTy.Contents (Elt F) arg15.view.ty) (f_arg19 : BufTy.Contents (Elt F) arg19.view.ty) (f_arg21 : BufTy.Contents (Elt F) arg21.view.ty) (E : Set ℕ) :
    Own_14_15_19_21 (F := F) c arg14 arg15 arg19 arg21 f_arg14 f_arg15 f_arg19 f_arg21
    ⊢ wp frame (wpE (defs₀ (F := F)) 𝒱 (c : Thread nD τ) bd) E (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v99 v135 v144 v145) (fun r => iprop(∃ g_arg19, ∃ g_arg21, ⌜Rel88 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v99 v135 v144 v145  f_arg14 f_arg15 f_arg19 f_arg21 r g_arg19 g_arg21⌝ ∗ Own_14_15_19_21 (F := F) c arg14 arg15 arg19 arg21 f_arg14 f_arg15 g_arg19 g_arg21)) := by
  iintro H
  iapply (wp_wand_r Idealize.ShloMosaic.frame (wpE (defs₀ (F := F)) 𝒱 (c : Thread nD τ) bd) E)
  isplitl [H]
  · iapply ((run88 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v99 v135 v144 v145  f_arg14 f_arg15 f_arg19 f_arg21).2.2.2 E)
    iexact H
  · iintro %r ⟨%hr, H⟩
    subst hr
    iexists _, _
    isplitr; swap; (· iexact H)
    ipureintro
    exact ⟨rfl, rfl, rfl⟩

/-- The contents that `run89E` leaves. -/
def Rel89E  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (h2 : k0_cond2 i = 1#1) (h3 : ¬ k0_cond3 i = 1#1) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) (r : FVec F S256x128 .f32) (g_arg16 : BufTy.Contents (Elt F) arg16.view.ty) (g_arg17 : BufTy.Contents (Elt F) arg17.view.ty) (g_arg18 : BufTy.Contents (Elt F) arg18.view.ty) (g_arg19 : BufTy.Contents (Elt F) arg19.view.ty) (g_arg20 : BufTy.Contents (Elt F) arg20.view.ty) (g_arg21 : BufTy.Contents (Elt F) arg21.view.ty) (g_arg22 : BufTy.Contents (Elt F) arg22.view.ty) (g_arg23 : BufTy.Contents (Elt F) arg23.view.ty) (g_arg24 : BufTy.Contents (Elt F) arg24.view.ty) : Prop :=
  let t := (run89E (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24)
  r = t.1 ∧ g_arg16 = t.2.1 ∧ g_arg17 = t.2.2.1 ∧ g_arg18 = t.2.2.2.1 ∧ g_arg19 = t.2.2.2.2.1 ∧ g_arg20 = t.2.2.2.2.2.1 ∧ g_arg21 = t.2.2.2.2.2.2.1 ∧ g_arg22 = t.2.2.2.2.2.2.2.1 ∧ g_arg23 = t.2.2.2.2.2.2.2.2.1 ∧ g_arg24 = t.2.2.2.2.2.2.2.2.2.1

theorem run89E_ex  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (h2 : k0_cond2 i = 1#1) (h3 : ¬ k0_cond3 i = 1#1) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) (E : Set ℕ) :
    Own_14_15_16_17_18_19_20_21_22_23_24 (F := F) c arg14 arg15 arg16 arg17 arg18 arg19 arg20 arg21 arg22 arg23 arg24 f_arg14 f_arg15 f_arg16 f_arg17 f_arg18 f_arg19 f_arg20 f_arg21 f_arg22 f_arg23 f_arg24
    ⊢ wp frame (wpE (defs₀ (F := F)) 𝒱 (c : Thread nD τ) bd) E (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195) (fun r => iprop(∃ g_arg16, ∃ g_arg17, ∃ g_arg18, ∃ g_arg19, ∃ g_arg20, ∃ g_arg21, ∃ g_arg22, ∃ g_arg23, ∃ g_arg24, ⌜Rel89E (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24 r g_arg16 g_arg17 g_arg18 g_arg19 g_arg20 g_arg21 g_arg22 g_arg23 g_arg24⌝ ∗ Own_14_15_16_17_18_19_20_21_22_23_24 (F := F) c arg14 arg15 arg16 arg17 arg18 arg19 arg20 arg21 arg22 arg23 arg24 f_arg14 f_arg15 g_arg16 g_arg17 g_arg18 g_arg19 g_arg20 g_arg21 g_arg22 g_arg23 g_arg24)) := by
  iintro H
  iapply (wp_wand_r Idealize.ShloMosaic.frame (wpE (defs₀ (F := F)) 𝒱 (c : Thread nD τ) bd) E)
  isplitl [H]
  · iapply ((run89E (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24).2.2.2.2.2.2.2.2.2.2 E)
    iexact H
  · iintro %r ⟨%hr, H⟩
    subst hr
    iexists _, _, _, _, _, _, _, _, _
    isplitr; swap; (· iexact H)
    ipureintro
    exact ⟨rfl, rfl, rfl, rfl, rfl, rfl, rfl, rfl, rfl, rfl⟩

/-- The contents that `run89O` leaves. -/
def Rel89O  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (h2 : ¬ k0_cond2 i = 1#1) (h3 : k0_cond3 i = 1#1) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) (r : FVec F S256x128 .f32) (g_arg16 : BufTy.Contents (Elt F) arg16.view.ty) (g_arg17 : BufTy.Contents (Elt F) arg17.view.ty) (g_arg18 : BufTy.Contents (Elt F) arg18.view.ty) (g_arg19 : BufTy.Contents (Elt F) arg19.view.ty) (g_arg20 : BufTy.Contents (Elt F) arg20.view.ty) (g_arg21 : BufTy.Contents (Elt F) arg21.view.ty) (g_arg22 : BufTy.Contents (Elt F) arg22.view.ty) (g_arg23 : BufTy.Contents (Elt F) arg23.view.ty) (g_arg24 : BufTy.Contents (Elt F) arg24.view.ty) : Prop :=
  let t := (run89O (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24)
  r = t.1 ∧ g_arg16 = t.2.1 ∧ g_arg17 = t.2.2.1 ∧ g_arg18 = t.2.2.2.1 ∧ g_arg19 = t.2.2.2.2.1 ∧ g_arg20 = t.2.2.2.2.2.1 ∧ g_arg21 = t.2.2.2.2.2.2.1 ∧ g_arg22 = t.2.2.2.2.2.2.2.1 ∧ g_arg23 = t.2.2.2.2.2.2.2.2.1 ∧ g_arg24 = t.2.2.2.2.2.2.2.2.2.1

theorem run89O_ex  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (h2 : ¬ k0_cond2 i = 1#1) (h3 : k0_cond3 i = 1#1) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) (E : Set ℕ) :
    OwnO_14_15_16_17_18_19_20_21_22_23_24 (F := F) c arg14 arg15 arg16 arg17 arg18 arg19 arg20 arg21 arg22 arg23 arg24 f_arg14 f_arg15 f_arg16 f_arg17 f_arg18 f_arg19 f_arg20 f_arg21 f_arg22 f_arg23 f_arg24
    ⊢ wp frame (wpE (defs₀ (F := F)) 𝒱 (c : Thread nD τ) bd) E (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195) (fun r => iprop(∃ g_arg16, ∃ g_arg17, ∃ g_arg18, ∃ g_arg19, ∃ g_arg20, ∃ g_arg21, ∃ g_arg22, ∃ g_arg23, ∃ g_arg24, ⌜Rel89O (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24 r g_arg16 g_arg17 g_arg18 g_arg19 g_arg20 g_arg21 g_arg22 g_arg23 g_arg24⌝ ∗ OwnO_14_15_16_17_18_19_20_21_22_23_24 (F := F) c arg14 arg15 arg16 arg17 arg18 arg19 arg20 arg21 arg22 arg23 arg24 f_arg14 f_arg15 g_arg16 g_arg17 g_arg18 g_arg19 g_arg20 g_arg21 g_arg22 g_arg23 g_arg24)) := by
  iintro H
  iapply (wp_wand_r Idealize.ShloMosaic.frame (wpE (defs₀ (F := F)) 𝒱 (c : Thread nD τ) bd) E)
  isplitl [H]
  · iapply ((run89O (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24).2.2.2.2.2.2.2.2.2.2 E)
    iexact H
  · iintro %r ⟨%hr, H⟩
    subst hr
    iexists _, _, _, _, _, _, _, _, _
    isplitr; swap; (· iexact H)
    ipureintro
    exact ⟨rfl, rfl, rfl, rfl, rfl, rfl, rfl, rfl, rfl, rfl⟩

/-- The contents that `runTailA` leaves. -/
def RelTailA  (v5 : IVec S256x128 1) (v10 : IVec S256x128 1) (v226 : FVec F S256x128 .f32) (h4 : k0_cond4 i = 1#1) (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (g_arg9 : BufTy.Contents (Elt F) arg9.view.ty) (g_arg10 : BufTy.Contents (Elt F) arg10.view.ty) (g_arg11 : BufTy.Contents (Elt F) arg11.view.ty) (g_arg12 : BufTy.Contents (Elt F) arg12.view.ty) (g_arg13 : BufTy.Contents (Elt F) arg13.view.ty) : Prop :=
  let t := (runTailA (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13)
  g_arg9 = t.1 ∧ g_arg10 = t.2.1 ∧ g_arg11 = t.2.2.1 ∧ g_arg12 = t.2.2.2.1 ∧ g_arg13 = t.2.2.2.2.1

theorem runTailA_ex  (v5 : IVec S256x128 1) (v10 : IVec S256x128 1) (v226 : FVec F S256x128 .f32) (h4 : k0_cond4 i = 1#1) (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (E : Set ℕ) :
    Own_16_17_18_9_10_11_12_13 (F := F) c arg16 arg17 arg18 arg9 arg10 arg11 arg12 arg13 f_arg16 f_arg17 f_arg18 f_arg9 f_arg10 f_arg11 f_arg12 f_arg13
    ⊢ wp frame (wpE (defs₀ (F := F)) 𝒱 (c : Thread nD τ) bd) E (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226) (fun _ => iprop(∃ g_arg9, ∃ g_arg10, ∃ g_arg11, ∃ g_arg12, ∃ g_arg13, ⌜RelTailA (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13 g_arg9 g_arg10 g_arg11 g_arg12 g_arg13⌝ ∗ Own_16_17_18_9_10_11_12_13 (F := F) c arg16 arg17 arg18 arg9 arg10 arg11 arg12 arg13 f_arg16 f_arg17 f_arg18 g_arg9 g_arg10 g_arg11 g_arg12 g_arg13)) := by
  iintro H
  iapply (wp_wand_r Idealize.ShloMosaic.frame (wpE (defs₀ (F := F)) 𝒱 (c : Thread nD τ) bd) E)
  isplitl [H]
  · iapply ((runTailA (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13).2.2.2.2.2 E)
    iexact H
  · iintro %r H
    iexists _, _, _, _, _
    isplitr; swap; (· iexact H)
    ipureintro
    exact ⟨rfl, rfl, rfl, rfl, rfl⟩

/-- The contents that `runTailB` leaves. -/
def RelTailB  (v5 : IVec S256x128 1) (v10 : IVec S256x128 1) (v226 : FVec F S256x128 .f32) (h4 : ¬ k0_cond4 i = 1#1) (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (g_arg9 : BufTy.Contents (Elt F) arg9.view.ty) (g_arg10 : BufTy.Contents (Elt F) arg10.view.ty) (g_arg11 : BufTy.Contents (Elt F) arg11.view.ty) (g_arg12 : BufTy.Contents (Elt F) arg12.view.ty) (g_arg13 : BufTy.Contents (Elt F) arg13.view.ty) : Prop :=
  let t := (runTailB (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13)
  g_arg9 = t.1 ∧ g_arg10 = t.2.1 ∧ g_arg11 = t.2.2.1 ∧ g_arg12 = t.2.2.2.1 ∧ g_arg13 = t.2.2.2.2.1

theorem runTailB_ex  (v5 : IVec S256x128 1) (v10 : IVec S256x128 1) (v226 : FVec F S256x128 .f32) (h4 : ¬ k0_cond4 i = 1#1) (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (E : Set ℕ) :
    Own_16_17_18_9_10_11_12_13 (F := F) c arg16 arg17 arg18 arg9 arg10 arg11 arg12 arg13 f_arg16 f_arg17 f_arg18 f_arg9 f_arg10 f_arg11 f_arg12 f_arg13
    ⊢ wp frame (wpE (defs₀ (F := F)) 𝒱 (c : Thread nD τ) bd) E (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226) (fun _ => iprop(∃ g_arg9, ∃ g_arg10, ∃ g_arg11, ∃ g_arg12, ∃ g_arg13, ⌜RelTailB (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13 g_arg9 g_arg10 g_arg11 g_arg12 g_arg13⌝ ∗ Own_16_17_18_9_10_11_12_13 (F := F) c arg16 arg17 arg18 arg9 arg10 arg11 arg12 arg13 f_arg16 f_arg17 f_arg18 g_arg9 g_arg10 g_arg11 g_arg12 g_arg13)) := by
  iintro H
  iapply (wp_wand_r Idealize.ShloMosaic.frame (wpE (defs₀ (F := F)) 𝒱 (c : Thread nD τ) bd) E)
  isplitl [H]
  · iapply ((runTailB (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13).2.2.2.2.2 E)
    iexact H
  · iintro %r H
    iexists _, _, _, _, _
    isplitr; swap; (· iexact H)
    ipureintro
    exact ⟨rfl, rfl, rfl, rfl, rfl⟩

def Rel84   (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) (r : Σ' (arg1 : BitVec 32) (v5 : IVec S256x128 1) (v10 : IVec S256x128 1) (v15 : BitVec 32) (v16 : Vec F S256x128 .f32) (v17 : Vec F S256x128 .f32) (v22 : FVec F S256x128 .f32) (v30 : IVec S256x128 32) (v32 : Vec F S256x128 .f32), IVec S256x128 1) (g_arg14 : BufTy.Contents (Elt F) arg14.view.ty) (g_arg15 : BufTy.Contents (Elt F) arg15.view.ty) (g_arg16 : BufTy.Contents (Elt F) arg16.view.ty) : Prop :=
  (∃ h1, Rel84A (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16 r g_arg14 g_arg15 g_arg16) ∨ (∃ h1, Rel84B (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16 r g_arg14 g_arg15 g_arg16)

theorem run84_ex   (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg14 : BufTy.Contents (Elt F) arg14.view.ty) (f_arg15 : BufTy.Contents (Elt F) arg15.view.ty) (f_arg16 : BufTy.Contents (Elt F) arg16.view.ty) (E : Set ℕ) :
    Own_2_3_4_5_6_7_8_14_15_16 (F := F) c arg2 arg3 arg4 arg5 arg6 arg7 arg8 arg14 arg15 arg16 f_arg2 f_arg3 f_arg4 f_arg5 f_arg6 f_arg7 f_arg8 f_arg14 f_arg15 f_arg16
    ⊢ wp frame (wpE (defs₀ (F := F)) 𝒱 (c : Thread nD τ) bd) E (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun r => iprop(∃ g_arg14, ∃ g_arg15, ∃ g_arg16, ⌜Rel84 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  f_arg2 f_arg3 f_arg4 f_arg5 f_arg6 f_arg7 f_arg8 f_arg14 f_arg15 f_arg16 r g_arg14 g_arg15 g_arg16⌝ ∗ Own_2_3_4_5_6_7_8_14_15_16 (F := F) c arg2 arg3 arg4 arg5 arg6 arg7 arg8 arg14 arg15 arg16 f_arg2 f_arg3 f_arg4 f_arg5 f_arg6 f_arg7 f_arg8 g_arg14 g_arg15 g_arg16)) := by
  by_cases h1 : k0_cond1 i = 1#1
  · iintro H
    iapply (wp_wand_r Idealize.ShloMosaic.frame (wpE (defs₀ (F := F)) 𝒱 (c : Thread nD τ) bd) E)
    isplitl [H]
    · iapply (run84A_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16 E)
      iexact H
    iintro %r
    iintro ⟨%g_arg14, %g_arg15, %g_arg16, %h, H⟩
    iexists _, _, _
    isplitr; swap; (· iexact H)
    ipureintro
    exact .inl ⟨h1, h⟩
  · iintro H
    iapply (wp_wand_r Idealize.ShloMosaic.frame (wpE (defs₀ (F := F)) 𝒱 (c : Thread nD τ) bd) E)
    isplitl [H]
    · iapply (run84B_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24  h1 f_arg2 f_arg3 f_arg4 f_arg5 f_arg6 f_arg7 f_arg8 f_arg14 f_arg15 f_arg16 E)
      iexact H
    iintro %r
    iintro ⟨%g_arg14, %g_arg15, %g_arg16, %h, H⟩
    iexists _, _, _
    isplitr; swap; (· iexact H)
    ipureintro
    exact .inr ⟨h1, h⟩

def Rel89  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) (r : FVec F S256x128 .f32) (g_arg16 : BufTy.Contents (Elt F) arg16.view.ty) (g_arg17 : BufTy.Contents (Elt F) arg17.view.ty) (g_arg18 : BufTy.Contents (Elt F) arg18.view.ty) (g_arg19 : BufTy.Contents (Elt F) arg19.view.ty) (g_arg20 : BufTy.Contents (Elt F) arg20.view.ty) (g_arg21 : BufTy.Contents (Elt F) arg21.view.ty) (g_arg22 : BufTy.Contents (Elt F) arg22.view.ty) (g_arg23 : BufTy.Contents (Elt F) arg23.view.ty) (g_arg24 : BufTy.Contents (Elt F) arg24.view.ty) : Prop :=
  (∃ h2 h3, Rel89E (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24 r g_arg16 g_arg17 g_arg18 g_arg19 g_arg20 g_arg21 g_arg22 g_arg23 g_arg24) ∨ (∃ h2 h3, Rel89O (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24 r g_arg16 g_arg17 g_arg18 g_arg19 g_arg20 g_arg21 g_arg22 g_arg23 g_arg24)

theorem run89_ex  (v5 : IVec S256x128 1) (v58 : FVec F S256x128 .bf16) (v99 : FVec F S256x128 .bf16) (v117 : FVec F S256x128 .bf16) (v135 : FVec F S256x128 .bf16) (v144 : BitVec 32) (c0_i32_79 : BitVec 32) (v195 : BitVec 32) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) (E : Set ℕ) :
    Own_14_15_16_17_18_19_20_21_22_23_24 (F := F) c arg14 arg15 arg16 arg17 arg18 arg19 arg20 arg21 arg22 arg23 arg24 f_arg14 f_arg15 f_arg16 f_arg17 f_arg18 f_arg19 f_arg20 f_arg21 f_arg22 f_arg23 f_arg24
    ⊢ wp frame (wpE (defs₀ (F := F)) 𝒱 (c : Thread nD τ) bd) E (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195) (fun r => iprop(∃ g_arg16, ∃ g_arg17, ∃ g_arg18, ∃ g_arg19, ∃ g_arg20, ∃ g_arg21, ∃ g_arg22, ∃ g_arg23, ∃ g_arg24, ⌜Rel89 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 f_arg14 f_arg15 f_arg16 f_arg17 f_arg18 f_arg19 f_arg20 f_arg21 f_arg22 f_arg23 f_arg24 r g_arg16 g_arg17 g_arg18 g_arg19 g_arg20 g_arg21 g_arg22 g_arg23 g_arg24⌝ ∗ Own_14_15_16_17_18_19_20_21_22_23_24 (F := F) c arg14 arg15 arg16 arg17 arg18 arg19 arg20 arg21 arg22 arg23 arg24 f_arg14 f_arg15 g_arg16 g_arg17 g_arg18 g_arg19 g_arg20 g_arg21 g_arg22 g_arg23 g_arg24)) := by
  by_cases h2 : k0_cond2 i = 1#1 <;> have h3 := h2 <;> first | rw [← cond3_iff] at h3 | rw [← not_not (a := k0_cond2 i = 1#1), ← cond3_iff] at h3
  · iintro H
    iapply (wp_wand_r Idealize.ShloMosaic.frame (wpE (defs₀ (F := F)) 𝒱 (c : Thread nD τ) bd) E)
    isplitl [H]
    · iapply (run89E_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24 E)
      iexact H
    iintro %r
    iintro ⟨%g_arg16, %g_arg17, %g_arg18, %g_arg19, %g_arg20, %g_arg21, %g_arg22, %g_arg23, %g_arg24, %h, H⟩
    iexists _, _, _, _, _, _, _, _, _
    isplitr; swap; (· iexact H)
    ipureintro
    exact .inl ⟨h2, h3, h⟩
  · iintro H
    iapply (wp_wand_r Idealize.ShloMosaic.frame (wpE (defs₀ (F := F)) 𝒱 (c : Thread nD τ) bd) E)
    isplitl [H]
    · iapply (run89O_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v58 v99 v117 v135 v144 c0_i32_79 v195 h2 h3 f_arg14 f_arg15 f_arg16 f_arg17 f_arg18 f_arg19 f_arg20 f_arg21 f_arg22 f_arg23 f_arg24 E)
      iexact H
    iintro %r
    iintro ⟨%g_arg16, %g_arg17, %g_arg18, %g_arg19, %g_arg20, %g_arg21, %g_arg22, %g_arg23, %g_arg24, %h, H⟩
    iexists _, _, _, _, _, _, _, _, _
    isplitr; swap; (· iexact H)
    ipureintro
    exact .inr ⟨h2, h3, h⟩

def RelTail  (v5 : IVec S256x128 1) (v10 : IVec S256x128 1) (v226 : FVec F S256x128 .f32) (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (g_arg9 : BufTy.Contents (Elt F) arg9.view.ty) (g_arg10 : BufTy.Contents (Elt F) arg10.view.ty) (g_arg11 : BufTy.Contents (Elt F) arg11.view.ty) (g_arg12 : BufTy.Contents (Elt F) arg12.view.ty) (g_arg13 : BufTy.Contents (Elt F) arg13.view.ty) : Prop :=
  (∃ h4, RelTailA (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13 g_arg9 g_arg10 g_arg11 g_arg12 g_arg13) ∨ (∃ h4, RelTailB (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13 g_arg9 g_arg10 g_arg11 g_arg12 g_arg13)

theorem runTail_ex  (v5 : IVec S256x128 1) (v10 : IVec S256x128 1) (v226 : FVec F S256x128 .f32) (f_arg16 : BufTy.Contents (Elt F) arg16.view.ty) (f_arg17 : BufTy.Contents (Elt F) arg17.view.ty) (f_arg18 : BufTy.Contents (Elt F) arg18.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (E : Set ℕ) :
    Own_16_17_18_9_10_11_12_13 (F := F) c arg16 arg17 arg18 arg9 arg10 arg11 arg12 arg13 f_arg16 f_arg17 f_arg18 f_arg9 f_arg10 f_arg11 f_arg12 f_arg13
    ⊢ wp frame (wpE (defs₀ (F := F)) 𝒱 (c : Thread nD τ) bd) E (tail (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226) (fun _ => iprop(∃ g_arg9, ∃ g_arg10, ∃ g_arg11, ∃ g_arg12, ∃ g_arg13, ⌜RelTail (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 f_arg16 f_arg17 f_arg18 f_arg9 f_arg10 f_arg11 f_arg12 f_arg13 g_arg9 g_arg10 g_arg11 g_arg12 g_arg13⌝ ∗ Own_16_17_18_9_10_11_12_13 (F := F) c arg16 arg17 arg18 arg9 arg10 arg11 arg12 arg13 f_arg16 f_arg17 f_arg18 g_arg9 g_arg10 g_arg11 g_arg12 g_arg13)) := by
  by_cases h4 : k0_cond4 i = 1#1
  · iintro H
    iapply (wp_wand_r Idealize.ShloMosaic.frame (wpE (defs₀ (F := F)) 𝒱 (c : Thread nD τ) bd) E)
    isplitl [H]
    · iapply (runTailA_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13 E)
      iexact H
    iintro %r
    iintro ⟨%g_arg9, %g_arg10, %g_arg11, %g_arg12, %g_arg13, %h, H⟩
    iexists _, _, _, _, _
    isplitr; swap; (· iexact H)
    ipureintro
    exact .inl ⟨h4, h⟩
  · iintro H
    iapply (wp_wand_r Idealize.ShloMosaic.frame (wpE (defs₀ (F := F)) 𝒱 (c : Thread nD τ) bd) E)
    isplitl [H]
    · iapply (runTailB_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v5 v10 v226 h4 f_arg16 f_arg17 f_arg18 f_arg9 f_arg10 f_arg11 f_arg12 f_arg13 E)
      iexact H
    iintro %r
    iintro ⟨%g_arg9, %g_arg10, %g_arg11, %g_arg12, %g_arg13, %h, H⟩
    iexists _, _, _, _, _
    isplitr; swap; (· iexact H)
    ipureintro
    exact .inr ⟨h4, h⟩

end Cert.Proof.KernelIdeal
-- ==== Proof.Body.lean ====
module

public import proofs.«01_k».proof.Proof.Gen.KernelIdeal.Loops
public import proofs.«01_k».proof.Proof.Rels
@[expose] public section

set_option maxRecDepth 16384
set_option maxHeartbeats 8000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

abbrev OwnAll (c : Dev nD) (arg2 : Memref sig .tc .vmem S4096x128 .f32) (arg3 : Memref sig .tc .vmem S256x128 .f32) (arg4 : Memref sig .tc .vmem S256x128 .f32) (arg5 : Memref sig .tc .vmem S4096x128 .f32) (arg6 : Memref sig .tc .vmem S4096x128 .bf16) (arg7 : Memref sig .tc .vmem S1x4096x128 .f32) (arg8 : Memref sig .tc .vmem S4096x128 .f32) (arg9 : Memref sig .tc .vmem S4096x128 .f32) (arg10 : Memref sig .tc .vmem S256x128 .f32) (arg11 : Memref sig .tc .vmem S256x128 .f32) (arg12 : Memref sig .tc .vmem S1x2x256 .f32) (arg13 : Memref sig .tc .vmem S1x2x4096 .f32) (arg14 : Memref sig .tc .vmem S2x4096x128 .bf16) (arg15 : Memref sig .tc .vmem S2x4096x128 .bf16) (arg16 : Memref sig .tc .vmem S2x4096x128 .f32) (arg17 : Memref sig .tc .vmem S2x256x128 .f32) (arg18 : Memref sig .tc .vmem S2x256x128 .f32) (arg19 : Memref sig .tc .vmem S2x256x256 .f32) (arg20 : Memref sig .tc .vmem S2x256x256 .f32) (arg21 : Memref sig .tc .vmem S2x256x256 .f32) (arg22 : Memref sig .tc .vmem S2x256x256 .f32) (arg23 : Memref sig .tc .vmem S2x256x256 .bf16) (arg24 : Memref sig .tc .vmem S2x256x256 .bf16) (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) : sProp 𝕄G :=
  iprop((arg2.view.loc (c : Thread nD τ) ↦[arg2.view.set]{fullShare} f_arg2) ∗ (arg3.view.loc (c : Thread nD τ) ↦[arg3.view.set]{fullShare} f_arg3) ∗ (arg4.view.loc (c : Thread nD τ) ↦[arg4.view.set]{fullShare} f_arg4) ∗ (arg5.view.loc (c : Thread nD τ) ↦[arg5.view.set]{fullShare} f_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22) ∗ (arg23.view.loc (c : Thread nD τ) ↦[arg23.view.set]{fullShare} f_arg23) ∗ (arg24.view.loc (c : Thread nD τ) ↦[arg24.view.set]{fullShare} f_arg24))

variable (𝒱 : Variants) (c : Dev nD) (bd : Option 𝒱.V) (i : grid0.Coords) (arg2 : Memref sig .tc .vmem S4096x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1x2x256 .f32) (harg12 : arg12.IsWhole) (arg13 : Memref sig .tc .vmem S1x2x4096 .f32) (harg13 : arg13.IsWhole) (arg14 : Memref sig .tc .vmem S2x4096x128 .bf16) (harg14 : arg14.IsWhole) (arg15 : Memref sig .tc .vmem S2x4096x128 .bf16) (harg15 : arg15.IsWhole) (arg16 : Memref sig .tc .vmem S2x4096x128 .f32) (harg16 : arg16.IsWhole) (arg17 : Memref sig .tc .vmem S2x256x128 .f32) (harg17 : arg17.IsWhole) (arg18 : Memref sig .tc .vmem S2x256x128 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S2x256x256 .bf16) (harg23 : arg23.IsWhole) (arg24 : Memref sig .tc .vmem S2x256x256 .bf16) (harg24 : arg24.IsWhole)
include 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

theorem body_eq'  : cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = (do
  let r84 ← k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
  let r85 ← k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 r84.2.2.2.1 r84.2.2.2.2.1 r84.2.2.2.2.2.2.1 r84.2.2.2.2.2.2.2.1 r84.2.2.2.2.2.2.2.2.1 r84.2.2.2.2.2.2.2.2.2
  let r87 ← k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 r84.1 r85.1 (Gen.k0_pay495 r84.2.2.2.2.2.1) Gen.k0_pay496 (Gen.k0_pay497 r84.2.2.2.2.2.1) 0#32
  let r88 ← k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (Gen.k0_pay494 r85.2.1 r85.2.2.1 r85.2.2.2.1 r85.2.2.2.2) r87.1 r87.2.1 r87.2.2
  let r89 ← k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 r84.2.1 r85.1 (Gen.k0_pay494 r85.2.1 r85.2.2.1 r85.2.2.2.1 r85.2.2.2.2) (Gen.k0_pay495 r84.2.2.2.2.2.1) r87.1 r87.2.1 r88.1 r88.2
  tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 r84.2.1 r84.2.2.1 r89) := rfl

theorem Rel85.keep  {a1 a2 a3 a4 a5 a6} {f_arg8 : BufTy.Contents (Elt F) arg8.view.ty} {r} {g_arg8 : BufTy.Contents (Elt F) arg8.view.ty}
    (h : Rel85 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 a1 a2 a3 a4 a5 a6 f_arg8 r g_arg8) : g_arg8 = f_arg8 := by
  rw [h.2, run85]

/-- How the contents that the body leaves come from those that it finds. -/
def BodyRel   (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) (g_arg9 : BufTy.Contents (Elt F) arg9.view.ty) (g_arg10 : BufTy.Contents (Elt F) arg10.view.ty) (g_arg11 : BufTy.Contents (Elt F) arg11.view.ty) (g_arg12 : BufTy.Contents (Elt F) arg12.view.ty) (g_arg13 : BufTy.Contents (Elt F) arg13.view.ty) (g_arg14 : BufTy.Contents (Elt F) arg14.view.ty) (g_arg15 : BufTy.Contents (Elt F) arg15.view.ty) (g_arg16 : BufTy.Contents (Elt F) arg16.view.ty) (g_arg17 : BufTy.Contents (Elt F) arg17.view.ty) (g_arg18 : BufTy.Contents (Elt F) arg18.view.ty) (g_arg19 : BufTy.Contents (Elt F) arg19.view.ty) (g_arg20 : BufTy.Contents (Elt F) arg20.view.ty) (g_arg21 : BufTy.Contents (Elt F) arg21.view.ty) (g_arg22 : BufTy.Contents (Elt F) arg22.view.ty) (g_arg23 : BufTy.Contents (Elt F) arg23.view.ty) (g_arg24 : BufTy.Contents (Elt F) arg24.view.ty) : Prop :=
  ∃ (r84 : Σ' (arg1 : BitVec 32) (v5 : IVec S256x128 1) (v10 : IVec S256x128 1) (v15 : BitVec 32) (v16 : Vec F S256x128 .f32) (v17 : Vec F S256x128 .f32) (v22 : FVec F S256x128 .f32) (v30 : IVec S256x128 32) (v32 : Vec F S256x128 .f32), IVec S256x128 1) (x_arg14 : BufTy.Contents (Elt F) arg14.view.ty) (x_arg15 : BufTy.Contents (Elt F) arg15.view.ty) (x_arg16 : BufTy.Contents (Elt F) arg16.view.ty) (r85 : Σ' (v58 : FVec F S256x128 .bf16) (v71 : IVec S256x128 32) (v80 : FVec F S256x128 .f32) (v81 : FVec F S256x128 .f32), FVec F S256x128 .bf16) (r87 : Σ' (v135 : FVec F S256x128 .bf16) (v144 : BitVec 32), BitVec 32) (z_arg17 : BufTy.Contents (Elt F) arg17.view.ty) (z_arg18 : BufTy.Contents (Elt F) arg18.view.ty) (z_arg19 : BufTy.Contents (Elt F) arg19.view.ty) (z_arg21 : BufTy.Contents (Elt F) arg21.view.ty) (r88 : Σ' (c0_i32_79 : BitVec 32), BitVec 32) (u_arg19 : BufTy.Contents (Elt F) arg19.view.ty) (u_arg21 : BufTy.Contents (Elt F) arg21.view.ty) (r89 : FVec F S256x128 .f32) (v_arg16 : BufTy.Contents (Elt F) arg16.view.ty) (v_arg17 : BufTy.Contents (Elt F) arg17.view.ty) (v_arg18 : BufTy.Contents (Elt F) arg18.view.ty) (v_arg19 : BufTy.Contents (Elt F) arg19.view.ty) (v_arg20 : BufTy.Contents (Elt F) arg20.view.ty) (v_arg21 : BufTy.Contents (Elt F) arg21.view.ty) (v_arg22 : BufTy.Contents (Elt F) arg22.view.ty) (v_arg23 : BufTy.Contents (Elt F) arg23.view.ty) (v_arg24 : BufTy.Contents (Elt F) arg24.view.ty),
    Rel84 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24   f_arg2 f_arg3 f_arg4 f_arg5 f_arg6 f_arg7 f_arg8 f_arg14 f_arg15 f_arg16 r84 x_arg14 x_arg15 x_arg16 ∧
    Rel85 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 r84.2.2.2.1 r84.2.2.2.2.1 r84.2.2.2.2.2.2.1 r84.2.2.2.2.2.2.2.1 r84.2.2.2.2.2.2.2.2.1 r84.2.2.2.2.2.2.2.2.2  f_arg8 r85 f_arg8 ∧
    Rel87 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 r84.1 r85.1 (Gen.k0_pay495 r84.2.2.2.2.2.1) Gen.k0_pay496 (Gen.k0_pay497 r84.2.2.2.2.2.1) 0#32  x_arg14 x_arg15 f_arg17 f_arg18 f_arg19 f_arg21 r87 z_arg17 z_arg18 z_arg19 z_arg21 ∧
    Rel88 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (Gen.k0_pay494 r85.2.1 r85.2.2.1 r85.2.2.2.1 r85.2.2.2.2) r87.1 r87.2.1 r87.2.2  x_arg14 x_arg15 z_arg19 z_arg21 r88 u_arg19 u_arg21 ∧
    Rel89 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 r84.2.1 r85.1 (Gen.k0_pay494 r85.2.1 r85.2.2.1 r85.2.2.2.1 r85.2.2.2.2) (Gen.k0_pay495 r84.2.2.2.2.2.1) r87.1 r87.2.1 r88.1 r88.2  x_arg14 x_arg15 x_arg16 z_arg17 z_arg18 u_arg19 f_arg20 u_arg21 f_arg22 f_arg23 f_arg24 r89 v_arg16 v_arg17 v_arg18 v_arg19 v_arg20 v_arg21 v_arg22 v_arg23 v_arg24 ∧
    RelTail (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 r84.2.1 r84.2.2.1 r89  v_arg16 v_arg17 v_arg18 f_arg9 f_arg10 f_arg11 f_arg12 f_arg13 g_arg9 g_arg10 g_arg11 g_arg12 g_arg13 ∧
    g_arg14 = x_arg14 ∧
    g_arg15 = x_arg15 ∧
    g_arg16 = v_arg16 ∧
    g_arg17 = v_arg17 ∧
    g_arg18 = v_arg18 ∧
    g_arg19 = v_arg19 ∧
    g_arg20 = v_arg20 ∧
    g_arg21 = v_arg21 ∧
    g_arg22 = v_arg22 ∧
    g_arg23 = v_arg23 ∧
    g_arg24 = v_arg24

theorem bodyRun   (f_arg2 : BufTy.Contents (Elt F) arg2.view.ty) (f_arg3 : BufTy.Contents (Elt F) arg3.view.ty) (f_arg4 : BufTy.Contents (Elt F) arg4.view.ty) (f_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg23 : BufTy.Contents (Elt F) arg23.view.ty) (f_arg24 : BufTy.Contents (Elt F) arg24.view.ty) (E : Set ℕ) :
    OwnAll (F := F) c arg2 arg3 arg4 arg5 arg6 arg7 arg8 arg9 arg10 arg11 arg12 arg13 arg14 arg15 arg16 arg17 arg18 arg19 arg20 arg21 arg22 arg23 arg24 f_arg2 f_arg3 f_arg4 f_arg5 f_arg6 f_arg7 f_arg8 f_arg9 f_arg10 f_arg11 f_arg12 f_arg13 f_arg14 f_arg15 f_arg16 f_arg17 f_arg18 f_arg19 f_arg20 f_arg21 f_arg22 f_arg23 f_arg24
    ⊢ wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun _ => iprop(∃ g_arg9, ∃ g_arg10, ∃ g_arg11, ∃ g_arg12, ∃ g_arg13, ∃ g_arg14, ∃ g_arg15, ∃ g_arg16, ∃ g_arg17, ∃ g_arg18, ∃ g_arg19, ∃ g_arg20, ∃ g_arg21, ∃ g_arg22, ∃ g_arg23, ∃ g_arg24, ⌜BodyRel (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 f_arg2 f_arg3 f_arg4 f_arg5 f_arg6 f_arg7 f_arg8 f_arg9 f_arg10 f_arg11 f_arg12 f_arg13 f_arg14 f_arg15 f_arg16 f_arg17 f_arg18 f_arg19 f_arg20 f_arg21 f_arg22 f_arg23 f_arg24 g_arg9 g_arg10 g_arg11 g_arg12 g_arg13 g_arg14 g_arg15 g_arg16 g_arg17 g_arg18 g_arg19 g_arg20 g_arg21 g_arg22 g_arg23 g_arg24⌝ ∗ OwnAll (F := F) c arg2 arg3 arg4 arg5 arg6 arg7 arg8 arg9 arg10 arg11 arg12 arg13 arg14 arg15 arg16 arg17 arg18 arg19 arg20 arg21 arg22 arg23 arg24 f_arg2 f_arg3 f_arg4 f_arg5 f_arg6 f_arg7 f_arg8 g_arg9 g_arg10 g_arg11 g_arg12 g_arg13 g_arg14 g_arg15 g_arg16 g_arg17 g_arg18 g_arg19 g_arg20 g_arg21 g_arg22 g_arg23 g_arg24)) := by
  rw [body_eq' 𝒱 c bd]
  iintro ⟨H_arg2, H_arg3, H_arg4, H_arg5, H_arg6, H_arg7, H_arg8, H_arg9, H_arg10, H_arg11, H_arg12, H_arg13, H_arg14, H_arg15, H_arg16, H_arg17, H_arg18, H_arg19, H_arg20, H_arg21, H_arg22, H_arg23, H_arg24⟩
  beta_reduce
  rw [wp_bind]
  iapply (wp_wand_r Idealize.ShloMosaic.frame (wpE (defs₀ (F := F)) 𝒱 (c : Thread nD τ) bd) E)
  isplitl [H_arg2 H_arg3 H_arg4 H_arg5 H_arg6 H_arg7 H_arg8 H_arg14 H_arg15 H_arg16]
  · iapply (run84_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24   f_arg2 f_arg3 f_arg4 f_arg5 f_arg6 f_arg7 f_arg8 f_arg14 f_arg15 f_arg16 E)
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg14]; · iexact H_arg14
    isplitl [H_arg15]; · iexact H_arg15
    iexact H_arg16
  iintro %r84 ⟨%x_arg14, %x_arg15, %x_arg16, %hs0, H_arg2, H_arg3, H_arg4, H_arg5, H_arg6, H_arg7, H_arg8, H_arg14, H_arg15, H_arg16⟩
  beta_reduce
  rw [wp_bind]
  iapply (wp_wand_r Idealize.ShloMosaic.frame (wpE (defs₀ (F := F)) 𝒱 (c : Thread nD τ) bd) E)
  isplitl [H_arg8]
  · iapply (run85_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _ _ _   f_arg8 E)
    iexact H_arg8
  iintro %r85 ⟨%w_arg8, %hs1, H_arg8⟩
  obtain rfl := Rel85.keep (F := F) (𝒱 := 𝒱) (c := c) (bd := bd) (h := hs1)
  beta_reduce
  rw [wp_bind]
  iapply (wp_wand_r Idealize.ShloMosaic.frame (wpE (defs₀ (F := F)) 𝒱 (c : Thread nD τ) bd) E)
  isplitl [H_arg14 H_arg15 H_arg17 H_arg18 H_arg19 H_arg21]
  · iapply (run87_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _ _ _   x_arg14 x_arg15 f_arg17 f_arg18 f_arg19 f_arg21 E)
    isplitl [H_arg14]; · iexact H_arg14
    isplitl [H_arg15]; · iexact H_arg15
    isplitl [H_arg17]; · iexact H_arg17
    isplitl [H_arg18]; · iexact H_arg18
    isplitl [H_arg19]; · iexact H_arg19
    iexact H_arg21
  iintro %r87 ⟨%z_arg17, %z_arg18, %z_arg19, %z_arg21, %hs2, H_arg14, H_arg15, H_arg17, H_arg18, H_arg19, H_arg21⟩
  beta_reduce
  rw [wp_bind]
  iapply (wp_wand_r Idealize.ShloMosaic.frame (wpE (defs₀ (F := F)) 𝒱 (c : Thread nD τ) bd) E)
  isplitl [H_arg14 H_arg15 H_arg19 H_arg21]
  · iapply (run88_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _   x_arg14 x_arg15 z_arg19 z_arg21 E)
    isplitl [H_arg14]; · iexact H_arg14
    isplitl [H_arg15]; · iexact H_arg15
    isplitl [H_arg19]; · iexact H_arg19
    iexact H_arg21
  iintro %r88 ⟨%u_arg19, %u_arg21, %hs3, H_arg14, H_arg15, H_arg19, H_arg21⟩
  beta_reduce
  rw [wp_bind]
  iapply (wp_wand_r Idealize.ShloMosaic.frame (wpE (defs₀ (F := F)) 𝒱 (c : Thread nD τ) bd) E)
  isplitl [H_arg14 H_arg15 H_arg16 H_arg17 H_arg18 H_arg19 H_arg20 H_arg21 H_arg22 H_arg23 H_arg24]
  · iapply (run89_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _ _ _ _ _   x_arg14 x_arg15 x_arg16 z_arg17 z_arg18 u_arg19 f_arg20 u_arg21 f_arg22 f_arg23 f_arg24 E)
    isplitl [H_arg14]; · iexact H_arg14
    isplitl [H_arg15]; · iexact H_arg15
    isplitl [H_arg16]; · iexact H_arg16
    isplitl [H_arg17]; · iexact H_arg17
    isplitl [H_arg18]; · iexact H_arg18
    isplitl [H_arg19]; · iexact H_arg19
    isplitl [H_arg20]; · iexact H_arg20
    isplitl [H_arg21]; · iexact H_arg21
    isplitl [H_arg22]; · iexact H_arg22
    isplitl [H_arg23]; · iexact H_arg23
    iexact H_arg24
  iintro %r89 ⟨%v_arg16, %v_arg17, %v_arg18, %v_arg19, %v_arg20, %v_arg21, %v_arg22, %v_arg23, %v_arg24, %hs4, H_arg14, H_arg15, H_arg16, H_arg17, H_arg18, H_arg19, H_arg20, H_arg21, H_arg22, H_arg23, H_arg24⟩
  beta_reduce
  iapply (wp_wand_r Idealize.ShloMosaic.frame (wpE (defs₀ (F := F)) 𝒱 (c : Thread nD τ) bd) E)
  isplitl [H_arg16 H_arg17 H_arg18 H_arg9 H_arg10 H_arg11 H_arg12 H_arg13]
  · iapply (runTail_ex (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _   v_arg16 v_arg17 v_arg18 f_arg9 f_arg10 f_arg11 f_arg12 f_arg13 E)
    isplitl [H_arg16]; · iexact H_arg16
    isplitl [H_arg17]; · iexact H_arg17
    isplitl [H_arg18]; · iexact H_arg18
    isplitl [H_arg9]; · iexact H_arg9
    isplitl [H_arg10]; · iexact H_arg10
    isplitl [H_arg11]; · iexact H_arg11
    isplitl [H_arg12]; · iexact H_arg12
    iexact H_arg13
  iintro %_ ⟨%g_arg9, %g_arg10, %g_arg11, %g_arg12, %g_arg13, %hs5, H_arg16, H_arg17, H_arg18, H_arg9, H_arg10, H_arg11, H_arg12, H_arg13⟩
  iexists g_arg9
  iexists g_arg10
  iexists g_arg11
  iexists g_arg12
  iexists g_arg13
  iexists x_arg14
  iexists x_arg15
  iexists v_arg16
  iexists v_arg17
  iexists v_arg18
  iexists v_arg19
  iexists v_arg20
  iexists v_arg21
  iexists v_arg22
  iexists v_arg23
  iexists v_arg24
  isplitr
  · ipureintro
    exact ⟨r84, x_arg14, x_arg15, x_arg16, r85, r87, z_arg17, z_arg18, z_arg19, z_arg21, r88, u_arg19, u_arg21, r89, v_arg16, v_arg17, v_arg18, v_arg19, v_arg20, v_arg21, v_arg22, v_arg23, v_arg24, hs0, hs1, hs2, hs3, hs4, hs5, rfl, rfl, rfl, rfl, rfl, rfl, rfl, rfl, rfl, rfl, rfl⟩
  isplitl [H_arg2]; · iexact H_arg2
  isplitl [H_arg3]; · iexact H_arg3
  isplitl [H_arg4]; · iexact H_arg4
  isplitl [H_arg5]; · iexact H_arg5
  isplitl [H_arg6]; · iexact H_arg6
  isplitl [H_arg7]; · iexact H_arg7
  isplitl [H_arg8]; · iexact H_arg8
  isplitl [H_arg9]; · iexact H_arg9
  isplitl [H_arg10]; · iexact H_arg10
  isplitl [H_arg11]; · iexact H_arg11
  isplitl [H_arg12]; · iexact H_arg12
  isplitl [H_arg13]; · iexact H_arg13
  isplitl [H_arg14]; · iexact H_arg14
  isplitl [H_arg15]; · iexact H_arg15
  isplitl [H_arg16]; · iexact H_arg16
  isplitl [H_arg17]; · iexact H_arg17
  isplitl [H_arg18]; · iexact H_arg18
  isplitl [H_arg19]; · iexact H_arg19
  isplitl [H_arg20]; · iexact H_arg20
  isplitl [H_arg21]; · iexact H_arg21
  isplitl [H_arg22]; · iexact H_arg22
  isplitl [H_arg23]; · iexact H_arg23
  iexact H_arg24

end Cert.Proof.KernelIdeal
-- ==== Proof.FrameK.lean ====
module

public import proofs.«01_k».proof.Proof.Gen.KernelIdeal.Frame
public import proofs.«01_k».proof.Proof.Body
@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf shareOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The body's relation at point `t`'s staging buffers. -/
abbrev BodyAt (c : Dev nD) (t : Fin cfg0.N) :=
  BodyRel (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

/-- What a run of the pipeline is to show: an invariant `I` of the three carried scratch buffers and, of what the body
leaves in each output window, a condition `O`. -/
structure Track where
  I : (c : Dev nD) → ℕ → Buf (Elt F) ((c : Thread nD τ).loc cc0_scratch0) → Buf (Elt F) ((c : Thread nD τ).loc cc0_scratch1) → Buf (Elt F) ((c : Thread nD τ).loc cc0_scratch2) → Prop
  O : (c : Dev nD) → (w : Fin cfg0.W) → Fin cfg0.N → ((cfg0.win w).block.Idx → Elt F (cfg0.win w).elt) → Prop
  zero : ∀ c x y z, I c 0 x y z
  step : ∀ (c : Dev nD) (t : Fin cfg0.N)
    (f_arg2 : BufTy.Contents (Elt F) (Memref.view (win0_0.stage (cfg0.slots t 0))).ty)
    (f_arg3 : BufTy.Contents (Elt F) (Memref.view (win0_1.stage (cfg0.slots t 1))).ty)
    (f_arg4 : BufTy.Contents (Elt F) (Memref.view (win0_2.stage (cfg0.slots t 2))).ty)
    (f_arg5 : BufTy.Contents (Elt F) (Memref.view (win0_3.stage (cfg0.slots t 3))).ty)
    (f_arg6 : BufTy.Contents (Elt F) (Memref.view (win0_4.stage (cfg0.slots t 4))).ty)
    (f_arg7 : BufTy.Contents (Elt F) (Memref.view (win0_5.stage (cfg0.slots t 5))).ty)
    (f_arg8 : BufTy.Contents (Elt F) (Memref.view (win0_6.stage (cfg0.slots t 6))).ty)
    (f_arg9 : BufTy.Contents (Elt F) (Memref.view (win0_7.stage (cfg0.slots t 7))).ty)
    (f_arg10 : BufTy.Contents (Elt F) (Memref.view (win0_8.stage (cfg0.slots t 8))).ty)
    (f_arg11 : BufTy.Contents (Elt F) (Memref.view (win0_9.stage (cfg0.slots t 9))).ty)
    (f_arg12 : BufTy.Contents (Elt F) (Memref.view (win0_10.stage (cfg0.slots t 10))).ty)
    (f_arg13 : BufTy.Contents (Elt F) (Memref.view (win0_11.stage (cfg0.slots t 11))).ty)
    (f_arg14 : BufTy.Contents (Elt F) (Memref.view (Memref.whole cc0_scratch0)).ty)
    (f_arg15 : BufTy.Contents (Elt F) (Memref.view (Memref.whole cc0_scratch1)).ty)
    (f_arg16 : BufTy.Contents (Elt F) (Memref.view (Memref.whole cc0_scratch2)).ty)
    (f_arg17 : BufTy.Contents (Elt F) (Memref.view (Memref.whole cc0_scratch3)).ty)
    (f_arg18 : BufTy.Contents (Elt F) (Memref.view (Memref.whole cc0_scratch4)).ty)
    (f_arg19 : BufTy.Contents (Elt F) (Memref.view (Memref.whole cc0_scratch5)).ty)
    (f_arg20 : BufTy.Contents (Elt F) (Memref.view (Memref.whole cc0_scratch6)).ty)
    (f_arg21 : BufTy.Contents (Elt F) (Memref.view (Memref.whole cc0_scratch7)).ty)
    (f_arg22 : BufTy.Contents (Elt F) (Memref.view (Memref.whole cc0_scratch8)).ty)
    (f_arg23 : BufTy.Contents (Elt F) (Memref.view (Memref.whole cc0_scratch9)).ty)
    (f_arg24 : BufTy.Contents (Elt F) (Memref.view (Memref.whole cc0_scratch10)).ty)
    (g_arg9 : BufTy.Contents (Elt F) (Memref.view (win0_7.stage (cfg0.slots t 7))).ty)
    (g_arg10 : BufTy.Contents (Elt F) (Memref.view (win0_8.stage (cfg0.slots t 8))).ty)
    (g_arg11 : BufTy.Contents (Elt F) (Memref.view (win0_9.stage (cfg0.slots t 9))).ty)
    (g_arg12 : BufTy.Contents (Elt F) (Memref.view (win0_10.stage (cfg0.slots t 10))).ty)
    (g_arg13 : BufTy.Contents (Elt F) (Memref.view (win0_11.stage (cfg0.slots t 11))).ty)
    (g_arg14 : BufTy.Contents (Elt F) (Memref.view (Memref.whole cc0_scratch0)).ty)
    (g_arg15 : BufTy.Contents (Elt F) (Memref.view (Memref.whole cc0_scratch1)).ty)
    (g_arg16 : BufTy.Contents (Elt F) (Memref.view (Memref.whole cc0_scratch2)).ty)
    (g_arg17 : BufTy.Contents (Elt F) (Memref.view (Memref.whole cc0_scratch3)).ty)
    (g_arg18 : BufTy.Contents (Elt F) (Memref.view (Memref.whole cc0_scratch4)).ty)
    (g_arg19 : BufTy.Contents (Elt F) (Memref.view (Memref.whole cc0_scratch5)).ty)
    (g_arg20 : BufTy.Contents (Elt F) (Memref.view (Memref.whole cc0_scratch6)).ty)
    (g_arg21 : BufTy.Contents (Elt F) (Memref.view (Memref.whole cc0_scratch7)).ty)
    (g_arg22 : BufTy.Contents (Elt F) (Memref.view (Memref.whole cc0_scratch8)).ty)
    (g_arg23 : BufTy.Contents (Elt F) (Memref.view (Memref.whole cc0_scratch9)).ty)
    (g_arg24 : BufTy.Contents (Elt F) (Memref.view (Memref.whole cc0_scratch10)).ty),
    (Memref.view (win0_0.stage (cfg0.slots t 0))).read (Elt F) f_arg2 = iblk m c 0 t →
    (Memref.view (win0_1.stage (cfg0.slots t 1))).read (Elt F) f_arg3 = iblk m c 1 t →
    (Memref.view (win0_2.stage (cfg0.slots t 2))).read (Elt F) f_arg4 = iblk m c 2 t →
    (Memref.view (win0_3.stage (cfg0.slots t 3))).read (Elt F) f_arg5 = iblk m c 3 t →
    (Memref.view (win0_4.stage (cfg0.slots t 4))).read (Elt F) f_arg6 = iblk m c 4 t →
    (Memref.view (win0_5.stage (cfg0.slots t 5))).read (Elt F) f_arg7 = iblk m c 5 t →
    (Memref.view (win0_6.stage (cfg0.slots t 6))).read (Elt F) f_arg8 = iblk m c 6 t →
    I c t.val f_arg14 f_arg15 f_arg16 →
    BodyAt c t f_arg2 f_arg3 f_arg4 f_arg5 f_arg6 f_arg7 f_arg8 f_arg9 f_arg10 f_arg11 f_arg12 f_arg13 f_arg14 f_arg15 f_arg16 f_arg17 f_arg18 f_arg19 f_arg20 f_arg21 f_arg22 f_arg23 f_arg24 g_arg9 g_arg10 g_arg11 g_arg12 g_arg13 g_arg14 g_arg15 g_arg16 g_arg17 g_arg18 g_arg19 g_arg20 g_arg21 g_arg22 g_arg23 g_arg24 →
    I c (t.val + 1) g_arg14 g_arg15 g_arg16
      ∧ O c 7 t ((Memref.view (win0_7.stage (cfg0.slots t 7))).read (Elt F) g_arg9)
      ∧ O c 8 t ((Memref.view (win0_8.stage (cfg0.slots t 8))).read (Elt F) g_arg10)
      ∧ O c 9 t ((Memref.view (win0_9.stage (cfg0.slots t 9))).read (Elt F) g_arg11)
      ∧ O c 10 t ((Memref.view (win0_10.stage (cfg0.slots t 10))).read (Elt F) g_arg12)
      ∧ O c 11 t ((Memref.view (win0_11.stage (cfg0.slots t 11))).read (Elt F) g_arg13)

variable (T : Track (F := F) m)

/-- The carried scratch buffers under the invariant, the others at anything, and the generator register. -/
def phi (c : Dev nD) (n : ℕ) : sProp 𝕄G :=
  iprop((∃ x14, ∃ x15, ∃ x16, ⌜T.I c n x14 x15 x16⌝ ∗ owns (c : Thread nD τ) (Memref.whole cc0_scratch0) fullShare x14
    ∗ owns (c : Thread nD τ) (Memref.whole cc0_scratch1) fullShare x15 ∗ owns (c : Thread nD τ) (Memref.whole cc0_scratch2) fullShare x16)
    ∗ (∃ f : Buf (Elt F) ((c : Thread nD τ).loc cc0_scratch3), owns (c : Thread nD τ) (Memref.whole cc0_scratch3) fullShare f)
    ∗ (∃ f : Buf (Elt F) ((c : Thread nD τ).loc cc0_scratch4), owns (c : Thread nD τ) (Memref.whole cc0_scratch4) fullShare f)
    ∗ (∃ f : Buf (Elt F) ((c : Thread nD τ).loc cc0_scratch5), owns (c : Thread nD τ) (Memref.whole cc0_scratch5) fullShare f)
    ∗ (∃ f : Buf (Elt F) ((c : Thread nD τ).loc cc0_scratch6), owns (c : Thread nD τ) (Memref.whole cc0_scratch6) fullShare f)
    ∗ (∃ f : Buf (Elt F) ((c : Thread nD τ).loc cc0_scratch7), owns (c : Thread nD τ) (Memref.whole cc0_scratch7) fullShare f)
    ∗ (∃ f : Buf (Elt F) ((c : Thread nD τ).loc cc0_scratch8), owns (c : Thread nD τ) (Memref.whole cc0_scratch8) fullShare f)
    ∗ (∃ f : Buf (Elt F) ((c : Thread nD τ).loc cc0_scratch9), owns (c : Thread nD τ) (Memref.whole cc0_scratch9) fullShare f)
    ∗ (∃ f : Buf (Elt F) ((c : Thread nD τ).loc cc0_scratch10), owns (c : Thread nD τ) (Memref.whole cc0_scratch10) fullShare f)
    ∗ (∃ r, prngReg c r))

def rdat (c : Dev nD) : RDat τ (Elt F) Unit ℕ (UR sig nD τ) ℕ cfg0 c where
  A w := V m c (Pipeline.arrRef spec0 w)
  after w t Y X := (w.val < 7 → X = Y) ∧ (7 ≤ w.val → T.O c w t X)
  Φ t := phi m T c t.val
  q w := shareOf spec0 w
  owed _ := 0

theorem rdat_A (c : Dev nD) (w : Fin cfg0.W) : (rdat m T c).A w = V m c (Pipeline.arrRef spec0 w) := by
  dsimp only [rdat]

theorem rdat_after (c : Dev nD) (w : Fin cfg0.W) (t : Fin cfg0.N) (Y X) :
    (rdat m T c).after w t Y X = ((w.val < 7 → X = Y) ∧ (7 ≤ w.val → T.O c w t X)) := by
  dsimp only [rdat]

theorem phi_in (c : Dev nD) : (Pipeline.ΦA spec0 c : sProp 𝕄G) ⊢ phi m T c 0 := by
  unfold Pipeline.ΦA phi; rw [scopedRest0_eq]; simp only [owns_whole]
  iintro ⟨⟨⟨%x14, H0⟩, ⟨%x15, H1⟩, ⟨%x16, H2⟩, H3, H4, H5, H6, H7, H8, H9, H10⟩, Hr⟩
  isplitl [H0 H1 H2]
  · iexists x14; iexists x15; iexists x16
    isplitr; · ipureintro; exact T.zero c x14 x15 x16
    isplitl [H0]; · iexact H0
    isplitl [H1]; · iexact H1
    iexact H2
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact Hr

theorem phi_out (c : Dev nD) (n : ℕ) : phi m T c n ⊢ (Pipeline.ΦA spec0 c : sProp 𝕄G) := by
  unfold Pipeline.ΦA phi; rw [scopedRest0_eq]; simp only [owns_whole]
  iintro ⟨⟨%x14, %x15, %x16, -, H0, H1, H2⟩, H3, H4, H5, H6, H7, H8, H9, H10, Hr⟩
  isplitr [Hr]
  · isplitl [H0]; · iexists x14; iexact H0
    isplitl [H1]; · iexists x15; iexact H1
    isplitl [H2]; · iexists x16; iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact Hr

theorem sound (c : Dev nD) (t : Fin cfg0.N) (Y : (w : Fin cfg0.W) → (cfg0.win w).block.Idx → Elt F (cfg0.win w).elt)
        (hY0 : Y 0 = iblk m c 0 t)
    (hY1 : Y 1 = iblk m c 1 t)
    (hY2 : Y 2 = iblk m c 2 t)
    (hY3 : Y 3 = iblk m c 3 t)
    (hY4 : Y 4 = iblk m c 4 t)
    (hY5 : Y 5 = iblk m c 5 t)
    (hY6 : Y 6 = iblk m c 6 t) :
    iprop(phi m T c t.val ∗ (rdat m T c).owesAt () t.castSucc
      ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11))
    ⊢ wp frame (wpE (defs₀ (F := F)) Variants.none c none) Set.univ (bodyAt0 t) (fun _ =>
      iprop(phi m T c (t.val + 1) ∗ (rdat m T c).owesAt () t.castSucc
        ∗ (∃ X, ⌜(rdat m T c).after 0 t (Y 0) X⌝ ∗ owns (c : Thread nD τ) (st0_0 t) fullShare X) ∗ (∃ X, ⌜(rdat m T c).after 1 t (Y 1) X⌝ ∗ owns (c : Thread nD τ) (st0_1 t) fullShare X) ∗ (∃ X, ⌜(rdat m T c).after 2 t (Y 2) X⌝ ∗ owns (c : Thread nD τ) (st0_2 t) fullShare X) ∗ (∃ X, ⌜(rdat m T c).after 3 t (Y 3) X⌝ ∗ owns (c : Thread nD τ) (st0_3 t) fullShare X) ∗ (∃ X, ⌜(rdat m T c).after 4 t (Y 4) X⌝ ∗ owns (c : Thread nD τ) (st0_4 t) fullShare X) ∗ (∃ X, ⌜(rdat m T c).after 5 t (Y 5) X⌝ ∗ owns (c : Thread nD τ) (st0_5 t) fullShare X) ∗ (∃ X, ⌜(rdat m T c).after 6 t (Y 6) X⌝ ∗ owns (c : Thread nD τ) (st0_6 t) fullShare X) ∗ (∃ X, ⌜(rdat m T c).after 7 t (Y 7) X⌝ ∗ owns (c : Thread nD τ) (st0_7 t) fullShare X) ∗ (∃ X, ⌜(rdat m T c).after 8 t (Y 8) X⌝ ∗ owns (c : Thread nD τ) (st0_8 t) fullShare X) ∗ (∃ X, ⌜(rdat m T c).after 9 t (Y 9) X⌝ ∗ owns (c : Thread nD τ) (st0_9 t) fullShare X) ∗ (∃ X, ⌜(rdat m T c).after 10 t (Y 10) X⌝ ∗ owns (c : Thread nD τ) (st0_10 t) fullShare X) ∗ (∃ X, ⌜(rdat m T c).after 11 t (Y 11) X⌝ ∗ owns (c : Thread nD τ) (st0_11 t) fullShare X))) := by
  unfold phi bodyAt0 owns
  iintro ⟨⟨⟨%x14, %x15, %x16, %hI, ⟨%f_arg14, %h_arg14, H_arg14⟩, ⟨%f_arg15, %h_arg15, H_arg15⟩, ⟨%f_arg16, %h_arg16, H_arg16⟩⟩, ⟨%x_arg17, %f_arg17, %h_arg17, H_arg17⟩, ⟨%x_arg18, %f_arg18, %h_arg18, H_arg18⟩, ⟨%x_arg19, %f_arg19, %h_arg19, H_arg19⟩, ⟨%x_arg20, %f_arg20, %h_arg20, H_arg20⟩, ⟨%x_arg21, %f_arg21, %h_arg21, H_arg21⟩, ⟨%x_arg22, %f_arg22, %h_arg22, H_arg22⟩, ⟨%x_arg23, %f_arg23, %h_arg23, H_arg23⟩, ⟨%x_arg24, %f_arg24, %h_arg24, H_arg24⟩, Hr⟩, Ho, ⟨%f_arg2, %h_arg2, H_arg2⟩, ⟨%f_arg3, %h_arg3, H_arg3⟩, ⟨%f_arg4, %h_arg4, H_arg4⟩, ⟨%f_arg5, %h_arg5, H_arg5⟩, ⟨%f_arg6, %h_arg6, H_arg6⟩, ⟨%f_arg7, %h_arg7, H_arg7⟩, ⟨%f_arg8, %h_arg8, H_arg8⟩, ⟨%f_arg9, %h_arg9, H_arg9⟩, ⟨%f_arg10, %h_arg10, H_arg10⟩, ⟨%f_arg11, %h_arg11, H_arg11⟩, ⟨%f_arg12, %h_arg12, H_arg12⟩, ⟨%f_arg13, %h_arg13, H_arg13⟩⟩
  iapply (wp_wand_r Idealize.ShloMosaic.frame (wpE (defs₀ (F := F)) Variants.none (c : Thread nD τ) none) Set.univ)
  isplitl [H_arg2 H_arg3 H_arg4 H_arg5 H_arg6 H_arg7 H_arg8 H_arg9 H_arg10 H_arg11 H_arg12 H_arg13 H_arg14 H_arg15 H_arg16 H_arg17 H_arg18 H_arg19 H_arg20 H_arg21 H_arg22 H_arg23 H_arg24]
  · iapply (bodyRun (F := F) (E := Set.univ) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) f_arg2 f_arg3 f_arg4 f_arg5 f_arg6 f_arg7 f_arg8 f_arg9 f_arg10 f_arg11 f_arg12 f_arg13 f_arg14 f_arg15 f_arg16 f_arg17 f_arg18 f_arg19 f_arg20 f_arg21 f_arg22 f_arg23 f_arg24)
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    isplitl [H_arg12]; · iexact H_arg12
    isplitl [H_arg13]; · iexact H_arg13
    isplitl [H_arg14]; · iexact H_arg14
    isplitl [H_arg15]; · iexact H_arg15
    isplitl [H_arg16]; · iexact H_arg16
    isplitl [H_arg17]; · iexact H_arg17
    isplitl [H_arg18]; · iexact H_arg18
    isplitl [H_arg19]; · iexact H_arg19
    isplitl [H_arg20]; · iexact H_arg20
    isplitl [H_arg21]; · iexact H_arg21
    isplitl [H_arg22]; · iexact H_arg22
    isplitl [H_arg23]; · iexact H_arg23
    iexact H_arg24
  iintro %_r ⟨%g_arg9, %g_arg10, %g_arg11, %g_arg12, %g_arg13, %g_arg14, %g_arg15, %g_arg16, %g_arg17, %g_arg18, %g_arg19, %g_arg20, %g_arg21, %g_arg22, %g_arg23, %g_arg24, %hb, H_arg2, H_arg3, H_arg4, H_arg5, H_arg6, H_arg7, H_arg8, H_arg9, H_arg10, H_arg11, H_arg12, H_arg13, H_arg14, H_arg15, H_arg16, H_arg17, H_arg18, H_arg19, H_arg20, H_arg21, H_arg22, H_arg23, H_arg24⟩
  have hI' : T.I c t.val f_arg14 f_arg15 f_arg16 := by
    simp only [Memref.view_whole, View.read_whole] at h_arg14 h_arg15 h_arg16
    subst h_arg14 h_arg15 h_arg16; exact hI
  have hs := T.step c t f_arg2 f_arg3 f_arg4 f_arg5 f_arg6 f_arg7 f_arg8 f_arg9 f_arg10 f_arg11 f_arg12 f_arg13 f_arg14 f_arg15 f_arg16 f_arg17 f_arg18 f_arg19 f_arg20 f_arg21 f_arg22 f_arg23 f_arg24 g_arg9 g_arg10 g_arg11 g_arg12 g_arg13 g_arg14 g_arg15 g_arg16 g_arg17 g_arg18 g_arg19 g_arg20 g_arg21 g_arg22 g_arg23 g_arg24
    (h_arg2.trans hY0) (h_arg3.trans hY1) (h_arg4.trans hY2) (h_arg5.trans hY3) (h_arg6.trans hY4) (h_arg7.trans hY5) (h_arg8.trans hY6) hI' hb
  isplitl [H_arg14 H_arg15 H_arg16 H_arg17 H_arg18 H_arg19 H_arg20 H_arg21 H_arg22 H_arg23 H_arg24 Hr]
  · isplitl [H_arg14 H_arg15 H_arg16]
    · iexists g_arg14; iexists g_arg15; iexists g_arg16
      isplitr; · ipureintro; exact hs.1
      isplitl [H_arg14]; · iexists g_arg14; isplitr; · ipureintro; simp only [Memref.view_whole, View.read_whole]
                           iexact H_arg14
      isplitl [H_arg15]; · iexists g_arg15; isplitr; · ipureintro; simp only [Memref.view_whole, View.read_whole]
                           iexact H_arg15
      iexists g_arg16; isplitr; · ipureintro; simp only [Memref.view_whole, View.read_whole]
      iexact H_arg16
    isplitl [H_arg17]
    · iexists g_arg17; iexists g_arg17; isplitr; · ipureintro; simp only [Memref.view_whole, View.read_whole]
      iexact H_arg17
    isplitl [H_arg18]
    · iexists g_arg18; iexists g_arg18; isplitr; · ipureintro; simp only [Memref.view_whole, View.read_whole]
      iexact H_arg18
    isplitl [H_arg19]
    · iexists g_arg19; iexists g_arg19; isplitr; · ipureintro; simp only [Memref.view_whole, View.read_whole]
      iexact H_arg19
    isplitl [H_arg20]
    · iexists g_arg20; iexists g_arg20; isplitr; · ipureintro; simp only [Memref.view_whole, View.read_whole]
      iexact H_arg20
    isplitl [H_arg21]
    · iexists g_arg21; iexists g_arg21; isplitr; · ipureintro; simp only [Memref.view_whole, View.read_whole]
      iexact H_arg21
    isplitl [H_arg22]
    · iexists g_arg22; iexists g_arg22; isplitr; · ipureintro; simp only [Memref.view_whole, View.read_whole]
      iexact H_arg22
    isplitl [H_arg23]
    · iexists g_arg23; iexists g_arg23; isplitr; · ipureintro; simp only [Memref.view_whole, View.read_whole]
      iexact H_arg23
    isplitl [H_arg24]
    · iexists g_arg24; iexists g_arg24; isplitr; · ipureintro; simp only [Memref.view_whole, View.read_whole]
      iexact H_arg24
    iexact Hr
  isplitl [Ho]; · iexact Ho
  isplitl [H_arg2]
  · iexists (Y 0)
    isplitr; · ipureintro; exact (by rw [rdat_after]; exact ⟨fun _ => rfl, fun h => absurd h (by decide)⟩)
    iexists f_arg2; isplitr; · ipureintro; exact h_arg2
    iexact H_arg2
  isplitl [H_arg3]
  · iexists (Y 1)
    isplitr; · ipureintro; exact (by rw [rdat_after]; exact ⟨fun _ => rfl, fun h => absurd h (by decide)⟩)
    iexists f_arg3; isplitr; · ipureintro; exact h_arg3
    iexact H_arg3
  isplitl [H_arg4]
  · iexists (Y 2)
    isplitr; · ipureintro; exact (by rw [rdat_after]; exact ⟨fun _ => rfl, fun h => absurd h (by decide)⟩)
    iexists f_arg4; isplitr; · ipureintro; exact h_arg4
    iexact H_arg4
  isplitl [H_arg5]
  · iexists (Y 3)
    isplitr; · ipureintro; exact (by rw [rdat_after]; exact ⟨fun _ => rfl, fun h => absurd h (by decide)⟩)
    iexists f_arg5; isplitr; · ipureintro; exact h_arg5
    iexact H_arg5
  isplitl [H_arg6]
  · iexists (Y 4)
    isplitr; · ipureintro; exact (by rw [rdat_after]; exact ⟨fun _ => rfl, fun h => absurd h (by decide)⟩)
    iexists f_arg6; isplitr; · ipureintro; exact h_arg6
    iexact H_arg6
  isplitl [H_arg7]
  · iexists (Y 5)
    isplitr; · ipureintro; exact (by rw [rdat_after]; exact ⟨fun _ => rfl, fun h => absurd h (by decide)⟩)
    iexists f_arg7; isplitr; · ipureintro; exact h_arg7
    iexact H_arg7
  isplitl [H_arg8]
  · iexists (Y 6)
    isplitr; · ipureintro; exact (by rw [rdat_after]; exact ⟨fun _ => rfl, fun h => absurd h (by decide)⟩)
    iexists f_arg8; isplitr; · ipureintro; exact h_arg8
    iexact H_arg8
  isplitl [H_arg9]
  · iexists ((Memref.view (win0_7.stage (cfg0.slots t 7))).read (Elt F) g_arg9)
    isplitr; · ipureintro; exact (by rw [rdat_after]; exact ⟨fun h => absurd h (by decide), fun _ => hs.2.1⟩)
    iexists g_arg9; isplitr; · ipureintro; exact rfl
    iexact H_arg9
  isplitl [H_arg10]
  · iexists ((Memref.view (win0_8.stage (cfg0.slots t 8))).read (Elt F) g_arg10)
    isplitr; · ipureintro; exact (by rw [rdat_after]; exact ⟨fun h => absurd h (by decide), fun _ => hs.2.2.1⟩)
    iexists g_arg10; isplitr; · ipureintro; exact rfl
    iexact H_arg10
  isplitl [H_arg11]
  · iexists ((Memref.view (win0_9.stage (cfg0.slots t 9))).read (Elt F) g_arg11)
    isplitr; · ipureintro; exact (by rw [rdat_after]; exact ⟨fun h => absurd h (by decide), fun _ => hs.2.2.2.1⟩)
    iexists g_arg11; isplitr; · ipureintro; exact rfl
    iexact H_arg11
  isplitl [H_arg12]
  · iexists ((Memref.view (win0_10.stage (cfg0.slots t 10))).read (Elt F) g_arg12)
    isplitr; · ipureintro; exact (by rw [rdat_after]; exact ⟨fun h => absurd h (by decide), fun _ => hs.2.2.2.2.1⟩)
    iexists g_arg12; isplitr; · ipureintro; exact rfl
    iexact H_arg12
  iexists ((Memref.view (win0_11.stage (cfg0.slots t 11))).read (Elt F) g_arg13)
  isplitr; · ipureintro; exact (by rw [rdat_after]; exact ⟨fun h => absurd h (by decide), fun _ => hs.2.2.2.2.2⟩)
  iexists g_arg13; isplitr; · ipureintro; exact rfl
  iexact H_arg13

theorem defs₀_row (t : Fin cfg0.N) :
    defs₀ (F := F) .tc cfg0.body (cfg0.bodyArgs t (cfg0.slots t)) = bodyAt0 t := by
  unfold defs₀; rw [Defs.onTc_tc]

/-- An input window finds its own block. -/
theorem finds_in (c : Dev nD) (w : Fin cfg0.W) (hw : w.val < 7) (t : Fin cfg0.N) (X) (h : (rdat m T c).Finds w t X) :
    ∃ d, X = (rdat m T c).fetched w t d := by
  have hout : (cfg0.win w).isOut = false := by clear h X; revert w; decide
  have hflush : ∀ u, (cfg0.win w).flush u = false := fun u => by unfold Window.flush; rw [hout]; rfl
  have hclip : ∀ t t' : Fin cfg0.N, (cfg0.win w).clip (cfg0.grid.coords t) = (cfg0.win w).clip (cfg0.grid.coords t') := by
    intro t t'; clear h hflush hout; fin_cases w <;> first | exact absurd hw (by decide) | rfl
  have key : ∀ n (hn : n < cfg0.N) (X), (rdat m T c).Finds w ⟨n, hn⟩ X → ∃ d, X = (rdat m T c).fetched w ⟨n, hn⟩ d := by
    intro n
    induction n with
    | zero =>
      intro hn X h
      have hf : (cfg0.win w).fetch ⟨0, hn⟩ = true := by unfold Window.fetch; rw [hout]; rfl
      exact ((rdat m T c).finds_of_fetch hf X).mp h
    | succ n ih =>
      intro hn X h
      rcases hf : (cfg0.win w).fetch ⟨n + 1, hn⟩ with _ | _
      · rw [(rdat m T c).finds_of_pos hf (Nat.succ_ne_zero n)] at h
        rcases h with h | ⟨Y, hY, ha⟩
        · exact absurd h (by rw [hflush]; exact Bool.false_ne_true)
        · rw [rdat_after] at ha
          obtain ⟨d, hd⟩ := ih _ _ hY
          refine ⟨d, (ha.1 hw).trans (hd.trans ((rdat m T c).fetched_congr w ?_ (hclip _ _) d))⟩
          unfold Window.fetch at hf; rw [hout] at hf
          simp only [Bool.not_false, Bool.true_and, Bool.or_eq_false_iff, decide_eq_false_iff_not, not_exists, not_not] at hf
          exact (hf.2 (Nat.succ_pos n)).symm
      · exact ((rdat m T c).finds_of_fetch hf X).mp h
  exact key t.val t.isLt X h

theorem obligation (c : Dev nD) : (rdat m T c).BodyObligation (defs₀ (F := F)) Variants.none () Set.univ := fun t Y hY => by
  rw [Gen.bigSep_W0, Gen.bigSep_W0, defs₀_row]
  obtain ⟨d0, e0⟩ := finds_in m T c 0 (by decide) t _ (hY 0)
  obtain ⟨d1, e1⟩ := finds_in m T c 1 (by decide) t _ (hY 1)
  obtain ⟨d2, e2⟩ := finds_in m T c 2 (by decide) t _ (hY 2)
  obtain ⟨d3, e3⟩ := finds_in m T c 3 (by decide) t _ (hY 3)
  obtain ⟨d4, e4⟩ := finds_in m T c 4 (by decide) t _ (hY 4)
  obtain ⟨d5, e5⟩ := finds_in m T c 5 (by decide) t _ (hY 5)
  obtain ⟨d6, e6⟩ := finds_in m T c 6 (by decide) t _ (hY 6)
  exact triple_restated (sound m T c t Y (e0.trans rfl) (e1.trans rfl) (e2.trans rfl) (e3.trans rfl) (e4.trans rfl) (e5.trans rfl) (e6.trans rfl)) rfl .rfl fun _ => .rfl

theorem run : θ_run defs (onTc (τ := τ) (main (F := F))) (s₀ m ρ) (fun r => Pipeline.RDat.FramePost (cfgs 0) (rdat m T) (V m) r ∧ r.2.sem = fun _ => 0) :=
  Pipeline.RDat.θ_run_frame_track_shared (Q' := _) cfgs (0 : Fin 1) launch₀0 defs₀ Variants.none (rdat m T) m ρ main
    (obligation m T) (fun _ _ _ => rfl) (fun _ _ => rfl) (V m) (hmain m Variants.none) (rdat_A m T) (phi_in m T)
    (fun c => phi_out m T c _)

/-- The argument arrays end unchanged. -/
theorem kept {r : PUnit × MemSt nD τ sig (Elt F)} (h : Pipeline.RDat.FramePost (cfgs 0) (rdat m T) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h2 := (h c).1 2
  have h3 := (h c).1 3
  rw [RDat.ArrAt_in _ 2 rfl] at h2
  rw [RDat.ArrAt_in _ 3 rfl] at h3
  exact ⟨h2.trans ((rdat_A m T c 2).trans (V_main_arg0 m c)),
    ((h c).2 main_arg1 (Pipeline.mem_restRefs_of main_arg1 (by decide) (by decide))).trans (V_main_arg1 m c),
    h3.trans ((rdat_A m T c 3).trans (V_main_arg2 m c))⟩

/-- Nothing stated of the scratch and the outputs. -/
def weak : Track (F := F) m where
  I _ _ _ _ _ := True
  O _ _ _ _ := True
  zero _ _ _ _ := trivial
  step := by intros; exact ⟨trivial, trivial, trivial, trivial, trivial, trivial⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨kept m (weak m) h.1, h.2⟩) (run m ρ (weak m))

end Cert.Proof.KernelIdeal

end
-- ==== Proof.Halves.lean ====
/- A sum over an axis, split at the blocks in which the kernels accumulate it. -/
module

public import Mathlib.Algebra.BigOperators.Fin

@[expose] public section

namespace Cert.Proof

/-- A sum over two blocks of `n`. -/
theorem sum_two {M : Type*} [AddCommMonoid M] {N : ℕ} (n : ℕ) (h : N = n + n) (f : Fin N → M) :
    ∑ k, f k = ∑ k : Fin n, f ⟨k.val, by omega⟩ + ∑ k : Fin n, f ⟨n + k.val, by omega⟩ := by
  subst h
  exact Fin.sum_univ_add f

/-- A sum over three blocks of `n`. -/
theorem sum_three {M : Type*} [AddCommMonoid M] {N : ℕ} (n : ℕ) (h : N = n + n + n) (f : Fin N → M) :
    ∑ k, f k = ∑ k : Fin n, f ⟨k.val, by omega⟩ + ∑ k : Fin n, f ⟨n + k.val, by omega⟩
      + ∑ k : Fin n, f ⟨n + n + k.val, by omega⟩ := by
  subst h
  rw [Fin.sum_univ_add f, Fin.sum_univ_add]
  rfl

/-- A sum over four blocks of `n`. -/
theorem sum_four {M : Type*} [AddCommMonoid M] {N : ℕ} (n : ℕ) (h : N = n + n + n + n) (f : Fin N → M) :
    ∑ k, f k = ∑ k : Fin n, f ⟨k.val, by omega⟩ + ∑ k : Fin n, f ⟨n + k.val, by omega⟩
      + ∑ k : Fin n, f ⟨n + n + k.val, by omega⟩ + ∑ k : Fin n, f ⟨n + n + n + k.val, by omega⟩ := by
  subst h
  rw [Fin.sum_univ_add f, Fin.sum_univ_add, Fin.sum_univ_add]
  rfl

/-- The two ways of writing the tanh form of gelu. -/
theorem gelu_form {M : Type*} [CommMonoid M] (h a y : M) (f : M → M) :
    h * y * f (a * y * y * y) = y * (h * f (a * (y * y * y))) := by
  rw [mul_comm h y, mul_assoc y h, mul_assoc a y, mul_assoc a]

end Cert.Proof

end
-- ==== Proof.V2.lean ====
/- `Kernel2Ideal` against `Reference2Ideal` at the extended reals, and the frames of the programs numbered 2. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V2

open Idealize.ShloMosaic Idealize.ShloMosaic.TcCoe Idealize.SL.Sem
open Idealize.ShloMosaic.Pipeline (Dat)
open Cert.Kernel2Ideal Cert.Kernel2Ideal.Gen Cert.Reference2Ideal.Read

variable (m : (ℓ : Loc nD τ sig) → Buf (Elt Ideal) ℓ)

/-- The blocks that the windows hold at each point of the grid. -/
theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- Output window 2's array after the run is the reference's value. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  obtain ⟨t', h'⟩ : ∃ t' : Fin cfg0.N, t'.val = t.val - 1 := ⟨⟨_, ht⟩, rfl⟩
  have e : outsAt0 m c (t.val - 1) ht = outsAt0 m c t'.val t'.isLt := by simp only [h']
  rw [after0_2, outsAt0_B m c t (by omega) h1 h1]
  frame_out
  rw [e, outsAt0_A m c t' (by omega) (by omega) (by omega)]
  frame_out
  simp only [(Memref.isWhole_whole cc0_scratch0).read_unread]
  pointwise [k0_pay4, k0_pay3, k0_pay2, k0_pay1, val_main_cst, val_main_v0, val_main_v1, val_main_v2, val_main_v3, val_main_v4, val_main_v5, val_main_v6]
  rw [sum_two 2048 rfl]
  congr 1
  all_goals refine Finset.sum_congr rfl fun k _ => ?_
  all_goals rw [mul_comm]
  all_goals congr 1 <;> blk_ext [iblk, V, idx t, idx t', h']

theorem algebraic : Cert.algebraic_Kernel2Ideal_Reference2Ideal := by
  pair_intro
  · run_from (Cert.Kernel2Ideal.Gen.run_main m g)
  · run_from (Cert.Reference2Ideal.Value.run m' g')
    · exact (final m c).symm

theorem frame : Cert.quiescent_Kernel2 := fun m g _ => Cert.Kernel2.Gen.frame m g
theorem frameIdeal : Cert.quiescent_Kernel2Ideal := fun m g _ => Cert.Kernel2Ideal.Gen.frame m g
theorem frameReference : Cert.quiescent_Reference2Ideal := fun m g _ =>
  (θ_run Cert.Reference2Ideal.defs _ _).mono (fun r h => ⟨fun c => (h c).2,
      sem_eq_zero_of_no_sems (by decide) r.2⟩)
    (Cert.Reference2Ideal.Value.run (F := Ideal) m g)

end Cert.Proof.V2

end
-- ==== Proof.V3.lean ====
/- `Kernel3Ideal` against `Reference3Ideal` at the extended reals, and the frames of the programs numbered 3. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V3

open Idealize.ShloMosaic Idealize.ShloMosaic.TcCoe Idealize.SL.Sem
open Idealize.ShloMosaic.Pipeline (Dat)
open Cert.Kernel3Ideal Cert.Kernel3Ideal.Gen Cert.Reference3Ideal.Read

variable (m : (ℓ : Loc nD τ sig) → Buf (Elt Ideal) ℓ)

/-- The blocks that the windows hold at each point of the grid. -/
theorem idx : ∀ t : Fin cfg0.N, win0_0.index t = ![t.val / 4, t.val % 2] ∧ win0_1.index t = ![t.val % 2, t.val / 2 % 2] ∧ win0_2.index t = ![t.val / 4, t.val % 2] ∧ win0_3.index t = ![t.val % 2, t.val / 2 % 2] ∧ win0_4.index t = ![t.val / 4, t.val / 2 % 2] :=
  (by decide +kernel : ∀ t : Fin grid0.N, _)

/-- Output window 4's array after the run is the reference's value. -/
theorem final (c : Dev nD) : (dats m 0 c).arrAt 4 (cfgs 0).N
    = val_main_v11 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have h1 : t.val % 2 = 1 := (flush0_4 t).mp hf
  have ht : t.val - 1 < cfg0.N := Nat.lt_of_le_of_lt (Nat.sub_le _ _) t.isLt
  obtain ⟨t', h'⟩ : ∃ t' : Fin cfg0.N, t'.val = t.val - 1 := ⟨⟨_, ht⟩, rfl⟩
  have e : outsAt0 m c (t.val - 1) ht = outsAt0 m c t'.val t'.isLt := by simp only [h']
  rw [after0_4, outsAt0_B m c t (by omega) h1 h1]
  frame_out
  rw [e, outsAt0_A m c t' (by omega) (by omega) (by omega)]
  frame_out
  simp only [(Memref.isWhole_whole cc0_scratch0).read_unread]
  pointwise [k0_pay3, k0_pay2, k0_pay1, val_main_cst, val_main_v0, val_main_v1, val_main_v2, val_main_v3, val_main_v4, val_main_v5, val_main_v6, val_main_v7, val_main_v8, val_main_v9, val_main_v10, val_main_v11]
  rw [sum_two 1408 rfl, sum_two 1408 rfl]
  have key : ∀ a1 a2 b1 b2 : EReal, b1 + a1 + (b2 + a2) = a1 + a2 + (b1 + b2) := fun a1 a2 b1 b2 => by abel
  refine Eq.trans ?_ (key _ _ _ _)
  blk_point [iblk, V, idx t, idx t', h']

theorem algebraic : Cert.algebraic_Kernel3Ideal_Reference3Ideal := by
  pair_intro
  · run_from (Cert.Kernel3Ideal.Gen.run_main m g)
  · run_from (Cert.Reference3Ideal.Value.run m' g')
    · exact (final m c).symm

theorem frame : Cert.quiescent_Kernel3 := fun m g _ => Cert.Kernel3.Gen.frame m g
theorem frameIdeal : Cert.quiescent_Kernel3Ideal := fun m g _ => Cert.Kernel3Ideal.Gen.frame m g
theorem frameReference : Cert.quiescent_Reference3Ideal := fun m g _ =>
  (θ_run Cert.Reference3Ideal.defs _ _).mono (fun r h => ⟨fun c => (h c).2,
      sem_eq_zero_of_no_sems (by decide) r.2⟩)
    (Cert.Reference3Ideal.Value.run (F := Ideal) m g)

end Cert.Proof.V3

end
-- ==== Proof.Silu.lean ====
/- The derivative of `g · sigmoid g` over the extended reals, where the factor it is multiplied by is real, and
   how an entry is read off as real from a precondition that states it finite. -/
module

public import proofs.«01_k».proof.Defs
public import proofs.«01_k».proof.Proof.Gen.Pre_finite4
public import Idealize.ShloMosaic.Lib.Pipeline.ValueKit
public import Idealize.ShloMosaic.Lib.Claim

@[expose] public section

noncomputable section

namespace Cert.Proof

open Idealize.ShloMosaic

/-- An extended real that is a real number. -/
def IsReal (a : EReal) : Prop := ∃ r : ℝ, a = (r : EReal)

theorem IsReal.mul {a b : EReal} : IsReal a → IsReal b → IsReal (a * b) := by
  rintro ⟨r, rfl⟩ ⟨s, rfl⟩; exact ⟨r * s, by push_cast; rfl⟩

theorem IsReal.sum {n : Nat} {f : Fin n → EReal} (h : ∀ k, IsReal (f k)) : IsReal (∑ k, f k) := by
  choose r hr using h
  refine ⟨∑ k, r k, ?_⟩
  rw [Finset.sum_congr rfl fun k _ => hr k]
  exact (map_sum (⟨⟨Real.toEReal, EReal.coe_zero⟩, EReal.coe_add⟩ : ℝ →+ EReal) r Finset.univ).symm

theorem IsReal.of_lt {a : EReal} (h : max a (-a) < ⊤) : IsReal a := by
  induction a with
  | bot => simp at h
  | top => simp at h
  | coe r => exact ⟨r, rfl⟩

theorem ofBits_inf : Ideal.ofBits .f32 0x7F800000#32 = ⊤ := by
  simp [Ideal.ofBits, Ideal.ieee]

theorem lt_top_of_cmp {a : EReal}
    (h : BitVec.ofBool (decide (max a (-a) < Ideal.ofBits .f32 0x7F800000#32)) = 1#1) : max a (-a) < ⊤ := by
  rw [ofBits_inf] at h
  by_contra hc
  rw [decide_eq_false hc] at h
  exact absurd h (by decide)

theorem silu_grad (d u g : EReal) (h : IsReal (d * u)) :
    d * u * (Ideal.div 1 (1 + Ideal.exp (-g)) * (1 + g * (1 - Ideal.div 1 (1 + Ideal.exp (-g)))))
      = d * u * Ideal.div 1 (1 + Ideal.exp (-g))
        + g * (d * u) * (Ideal.div 1 (1 + Ideal.exp (-g)) * (1 - Ideal.div 1 (1 + Ideal.exp (-g)))) := by
  obtain ⟨x, hx⟩ := h
  rw [hx]
  induction g with
  | bot =>
    have e : Ideal.div 1 (1 + Ideal.exp (-⊥)) = 0 := by
      rw [EReal.neg_bot, Ideal.exp_top, EReal.add_top_of_ne_bot (by rw [← EReal.coe_one]; exact EReal.coe_ne_bot _)]; simp [Ideal.div]
    rw [e]; simp
  | top =>
    have e : Ideal.div 1 (1 + Ideal.exp (-⊤)) = 1 := by
      rw [EReal.neg_top, Ideal.exp_bot, add_zero]; simp [Ideal.div]
    have e1 : (1 : EReal) - 1 = 0 := by
      rw [← EReal.coe_one, ← EReal.coe_sub]; simp
    rw [e, e1]; simp
  | coe r =>
    have p : (1 + Real.exp (-r)) ≠ 0 := by positivity
    have e : Ideal.div 1 (1 + Ideal.exp (-(r : EReal))) = ((1 / (1 + Real.exp (-r)) : ℝ) : EReal) := by
      rw [← EReal.coe_neg, Ideal.exp_coe, ← EReal.coe_one, ← EReal.coe_add, Ideal.div_coe p]
      rw [← EReal.coe_mul]; simp
    rw [e]
    generalize (1 / (1 + Real.exp (-r)) : ℝ) = s
    rw [← EReal.coe_one]
    norm_cast
    ring

end Cert.Proof

end
-- ==== Proof.V4.lean ====
/- `Kernel4Ideal` against `Reference4Ideal` at the extended reals, and the frames of the programs numbered 4. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Silu
public import Idealize.ShloMosaic.Lib.Pipeline.ValueKit
public import Idealize.ShloMosaic.Lib.Claim

@[expose] public section

set_option maxRecDepth 16384

noncomputable section

namespace Cert.Proof.V4

open Idealize.ShloMosaic Idealize.ShloMosaic.TcCoe Idealize.SL.Sem
open Idealize.ShloMosaic.Pipeline (Dat)
open Cert.Kernel4Ideal Cert.Kernel4Ideal.Gen Cert.Reference4Ideal.Read

variable (m : (ℓ : Loc nD τ sig) → Buf (Elt Ideal) ℓ)

/-- The blocks that the windows hold at each point of the grid. -/
theorem idx : ∀ t : Fin cfg0.N, win0_0.index t = ![t.val / 11, 0] ∧ win0_1.index t = ![t.val % 11, 0] ∧ win0_2.index t = ![t.val / 11, t.val % 11] ∧ win0_3.index t = ![t.val / 11, t.val % 11] ∧ win0_4.index t = ![t.val / 11, t.val % 11] ∧ win0_5.index t = ![t.val / 11, t.val % 11] :=
  (by decide +kernel : ∀ t : Fin grid0.N, _)

/-- What the precondition says of the arguments' entries. -/
theorem reals (hp : Cert.Pre_Kernel4Ideal_finite4 m) (c : Dev nD) :
    (∀ i, IsReal (m ((c : Thread nD τ).loc main_arg0) i)) ∧ (∀ i, IsReal (m ((c : Thread nD τ).loc main_arg1) i))
      ∧ ∀ i, IsReal (m ((c : Thread nD τ).loc main_arg3) i) := by
  obtain ⟨h0, h1, h2⟩ := hp c
  refine ⟨fun i => IsReal.of_lt ?_, fun i => IsReal.of_lt ?_, fun i => IsReal.of_lt ?_⟩
  · have h := congrFun h0 i
    simp only [Cert.Pre_finite4.fn] at h
    pointwise at h
    exact lt_top_of_cmp h
  · have h := congrFun h1 i
    simp only [Cert.Pre_finite4.fn] at h
    pointwise at h
    exact lt_top_of_cmp h
  · have h := congrFun h2 i
    simp only [Cert.Pre_finite4.fn] at h
    pointwise at h
    exact lt_top_of_cmp h

/-- Output window 4's array after the run is the reference's value. -/
theorem final4 (c : Dev nD) (hp : Cert.Pre_Kernel4Ideal_finite4 m) : (dats m 0 c).arrAt 4 (cfgs 0).N
    = val_main_v9 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  have r := reals m hp c
  pointwise [k0_pay4, k0_pay3, k0_pay2, k0_pay1, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v1, val_main_v2, val_main_v3, val_main_v4, val_main_v5, val_main_v6, val_main_v7, val_main_call1_v0, val_main_call1_v1, val_main_call1_v2, val_main_v8, val_main_v9, val_main_v10]
  refine Eq.trans ?_ (silu_grad _ _ _ ((IsReal.sum fun k => (r.1 _).mul (r.2.1 _)).mul (r.2.2 _)))
  simp only [zero_sub]
  blk_point [iblk, V, idx t]

/-- Output window 5's array after the run is the reference's value. -/
theorem final5 (c : Dev nD) : (dats m 0 c).arrAt 5 (cfgs 0).N
    = val_main_v10 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay4, k0_pay3, k0_pay2, k0_pay1, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v1, val_main_v2, val_main_v3, val_main_v4, val_main_v5, val_main_v6, val_main_v7, val_main_call1_v0, val_main_call1_v1, val_main_call1_v2, val_main_v8, val_main_v9, val_main_v10]
  simp only [zero_sub]
  refine (mul_comm (G := EReal) _ _).trans ?_
  blk_point [iblk, V, idx t]

theorem algebraic : Cert.algebraic_Kernel4Ideal_Reference4Ideal_pre_finite4 := by
  pair_intro
  · run_from (Cert.Kernel4Ideal.Gen.run_main m g)
  · run_from (Cert.Reference4Ideal.Value.run m' g')
    · exact (final4 m c (by assumption)).symm
    · exact (final5 m c).symm

theorem frame : Cert.quiescent_Kernel4 := fun m g _ => Cert.Kernel4.Gen.frame m g
theorem frameIdeal : Cert.quiescent_Kernel4Ideal := fun m g _ => Cert.Kernel4Ideal.Gen.frame m g
theorem frameReference : Cert.quiescent_Reference4Ideal := fun m g _ =>
  (θ_run Cert.Reference4Ideal.defs _ _).mono (fun r h => ⟨fun c => (h c).2.2,
      sem_eq_zero_of_no_sems (by decide) r.2⟩)
    (Cert.Reference4Ideal.Value.run (F := Ideal) m g)

end Cert.Proof.V4

end
-- ==== Proof.V5.lean ====
/- `Kernel5Ideal` against `Reference5Ideal` at the extended reals, and the frames of the programs numbered 5. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V5

open Idealize.ShloMosaic Idealize.ShloMosaic.TcCoe Idealize.SL.Sem
open Idealize.ShloMosaic.Pipeline (Dat)
open Cert.Kernel5Ideal Cert.Kernel5Ideal.Gen Cert.Reference5Ideal.Read

variable (m : (ℓ : Loc nD τ sig) → Buf (Elt Ideal) ℓ)

/-- The blocks that the windows hold at each point of the grid. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- Output window 2's array after the run is the reference's value. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  obtain ⟨t', h'⟩ : ∃ t' : Fin cfg0.N, t'.val = t.val - 1 := ⟨⟨_, ht⟩, rfl⟩
  have e : outsAt0 m c (t.val - 1) ht = outsAt0 m c t'.val t'.isLt := by simp only [h']
  rw [after0_2, outsAt0_B m c t (by omega) h1 h1]
  frame_out
  rw [e, outsAt0_A m c t' (by omega) (by omega) (by omega)]
  frame_out
  simp only [(Memref.isWhole_whole cc0_scratch0).read_unread]
  pointwise [k0_pay4, k0_pay3, k0_pay2, k0_pay1, val_main_cst, val_main_v0, val_main_v1, val_main_v2, val_main_v3, val_main_v4, val_main_v5, val_main_v6]
  rw [sum_two 2048 rfl]
  congr 1
  all_goals refine Finset.sum_congr rfl fun k _ => ?_
  all_goals rw [mul_comm]
  all_goals congr 1 <;> blk_ext [iblk, V, idx t, idx t', h']

theorem algebraic : Cert.algebraic_Kernel5Ideal_Reference5Ideal := by
  pair_intro
  · run_from (Cert.Kernel5Ideal.Gen.run_main m g)
  · run_from (Cert.Reference5Ideal.Value.run m' g')
    · exact (final m c).symm

theorem frame : Cert.quiescent_Kernel5 := fun m g _ => Cert.Kernel5.Gen.frame m g
theorem frameIdeal : Cert.quiescent_Kernel5Ideal := fun m g _ => Cert.Kernel5Ideal.Gen.frame m g
theorem frameReference : Cert.quiescent_Reference5Ideal := fun m g _ =>
  (θ_run Cert.Reference5Ideal.defs _ _).mono (fun r h => ⟨fun c => (h c).2,
      sem_eq_zero_of_no_sems (by decide) r.2⟩)
    (Cert.Reference5Ideal.Value.run (F := Ideal) m g)

end Cert.Proof.V5

end
-- ==== Proof.V6.lean ====
/- `Kernel6Ideal` against `Reference6Ideal` at the extended reals, and the frames of the programs numbered 6. -/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V6

open Idealize.ShloMosaic Idealize.ShloMosaic.TcCoe Idealize.SL.Sem
open Idealize.ShloMosaic.Pipeline (Dat)
open Cert.Kernel6Ideal Cert.Kernel6Ideal.Gen Cert.Reference6Ideal.Read

variable (m : (ℓ : Loc nD τ sig) → Buf (Elt Ideal) ℓ)

/-- The blocks that the windows hold at each point of the grid. -/
theorem idx : ∀ t : Fin cfg0.N, win0_0.index t = ![t.val / 6, t.val % 3] ∧ win0_1.index t = ![t.val / 3 % 2, t.val % 3] ∧ win0_2.index t = ![t.val / 6, t.val / 3 % 2] :=
  (by decide +kernel : ∀ t : Fin grid0.N, _)

/-- Output window 2's array after the run is the reference's value. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 3 = 2 := (flush0_2 t).mp hf
  have ht : t.val - 1 < cfg0.N := Nat.lt_of_le_of_lt (Nat.sub_le _ _) t.isLt
  obtain ⟨t', h'⟩ : ∃ t' : Fin cfg0.N, t'.val = t.val - 1 := ⟨⟨_, ht⟩, rfl⟩
  have e : outsAt0 m c (t.val - 1) ht = outsAt0 m c t'.val t'.isLt := by simp only [h']
  have ht' : t'.val - 1 < cfg0.N := Nat.lt_of_le_of_lt (Nat.sub_le _ _) t'.isLt
  obtain ⟨t'', h''⟩ : ∃ t'' : Fin cfg0.N, t''.val = t'.val - 1 := ⟨⟨_, ht'⟩, rfl⟩
  have e' : outsAt0 m c (t'.val - 1) ht' = outsAt0 m c t''.val t''.isLt := by simp only [h'']
  rw [after0_2, outsAt0_C m c t (by omega) (by omega) h1]
  frame_out
  rw [e, outsAt0_B m c t' (by omega) (by omega) (by omega)]
  frame_out
  rw [e', outsAt0_A m c t'' (by omega) (by omega) (by omega)]
  frame_out
  simp only [(Memref.isWhole_whole cc0_scratch0).read_unread]
  pointwise [k0_pay3, k0_pay2, k0_pay1, val_main_cst, val_main_v0, val_main_v1, val_main_v2, val_main_v3, val_main_v4]
  rw [sum_three 1408 rfl]
  blk_point [iblk, V, idx t, idx t', idx t'', h', h'']

theorem algebraic : Cert.algebraic_Kernel6Ideal_Reference6Ideal := by
  pair_intro
  · run_from (Cert.Kernel6Ideal.Gen.run_main m g)
  · run_from (Cert.Reference6Ideal.Value.run m' g')
    · exact (final m c).symm

theorem frame : Cert.quiescent_Kernel6 := fun m g _ => Cert.Kernel6.Gen.frame m g
theorem frameIdeal : Cert.quiescent_Kernel6Ideal := fun m g _ => Cert.Kernel6Ideal.Gen.frame m g
theorem frameReference : Cert.quiescent_Reference6Ideal := fun m g _ =>
  (θ_run Cert.Reference6Ideal.defs _ _).mono (fun r h => ⟨fun c => (h c).2,
      sem_eq_zero_of_no_sems (by decide) r.2⟩)
    (Cert.Reference6Ideal.Value.run (F := Ideal) m g)

end Cert.Proof.V6

end
-- ==== Proof.V7.lean ====
/- `Kernel7Ideal` against `Reference7Ideal` at the extended reals, and the frames of the programs numbered 7. -/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V7

open Idealize.ShloMosaic Idealize.ShloMosaic.TcCoe Idealize.SL.Sem
open Idealize.ShloMosaic.Pipeline (Dat)
open Cert.Kernel7Ideal Cert.Kernel7Ideal.Gen Cert.Reference7Ideal.Read

variable (m : (ℓ : Loc nD τ sig) → Buf (Elt Ideal) ℓ)

/-- The blocks that the windows hold at each point of the grid. -/
theorem idx : ∀ t : Fin cfg0.N, win0_0.index t = ![t.val / 11, 0] ∧ win0_1.index t = ![t.val % 11, 0] ∧ win0_2.index t = ![t.val % 11, 0] ∧ win0_3.index t = ![t.val / 11, t.val % 11] ∧ win0_4.index t = ![t.val / 11, t.val % 11] ∧ win0_5.index t = ![t.val / 11, t.val % 11] :=
  (by decide +kernel : ∀ t : Fin grid0.N, _)

/-- Output window 3's array after the run is the reference's value. -/
theorem final3 (c : Dev nD) : (dats m 0 c).arrAt 3 (cfgs 0).N
    = val_main_v3 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay3, k0_pay2, k0_pay1, val_main_v0, val_main_v1, val_main_v2, val_main_v3, val_main_v4, val_main_v5, val_main_v6, val_main_v7, val_main_call0_v0, val_main_call0_v1, val_main_call0_cst, val_main_call0_v2, val_main_call0_v3, val_main_call0_cst_0, val_main_call0_v4, val_main_call0_v5, val_main_v8, val_main_v9, val_main_v10]
  blk_point [iblk, V, idx t]

/-- Output window 4's array after the run is the reference's value. -/
theorem final4 (c : Dev nD) : (dats m 0 c).arrAt 4 (cfgs 0).N
    = val_main_v7 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  frame_out
  pointwise [k0_pay3, k0_pay2, k0_pay1, val_main_v0, val_main_v1, val_main_v2, val_main_v3, val_main_v4, val_main_v5, val_main_v6, val_main_v7, val_main_call0_v0, val_main_call0_v1, val_main_call0_cst, val_main_call0_v2, val_main_call0_v3, val_main_call0_cst_0, val_main_call0_v4, val_main_call0_v5, val_main_v8, val_main_v9, val_main_v10]
  blk_point [iblk, V, idx t]

/-- Output window 5's array after the run is the reference's value. -/
theorem final5 (c : Dev nD) : (dats m 0 c).arrAt 5 (cfgs 0).N
    = val_main_v10 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay3, k0_pay2, k0_pay1, val_main_v0, val_main_v1, val_main_v2, val_main_v3, val_main_v4, val_main_v5, val_main_v6, val_main_v7, val_main_call0_v0, val_main_call0_v1, val_main_call0_cst, val_main_call0_v2, val_main_call0_v3, val_main_call0_cst_0, val_main_call0_v4, val_main_call0_v5, val_main_v8, val_main_v9, val_main_v10]
  simp only [zero_sub]
  blk_point [iblk, V, idx t]

theorem algebraic : Cert.algebraic_Kernel7Ideal_Reference7Ideal := by
  pair_intro
  · run_from (Cert.Kernel7Ideal.Gen.run_main m g)
  · run_from (Cert.Reference7Ideal.Value.run m' g')
    · exact (final3 m c).symm
    · exact (final4 m c).symm
    · exact (final5 m c).symm

theorem frame : Cert.quiescent_Kernel7 := fun m g _ => Cert.Kernel7.Gen.frame m g
theorem frameIdeal : Cert.quiescent_Kernel7Ideal := fun m g _ => Cert.Kernel7Ideal.Gen.frame m g
theorem frameReference : Cert.quiescent_Reference7Ideal := fun m g _ =>
  (θ_run Cert.Reference7Ideal.defs _ _).mono (fun r h => ⟨fun c => (h c).2.2.2,
      sem_eq_zero_of_no_sems (by decide) r.2⟩)
    (Cert.Reference7Ideal.Value.run (F := Ideal) m g)

end Cert.Proof.V7

end
-- ==== Proof.V8.lean ====
/- `Kernel8Ideal` against `Reference8Ideal` at the extended reals, and the frames of the programs numbered 8. -/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V8

open Idealize.ShloMosaic Idealize.ShloMosaic.TcCoe Idealize.SL.Sem
open Idealize.ShloMosaic.Pipeline (Dat)
open Cert.Kernel8Ideal Cert.Kernel8Ideal.Gen Cert.Reference8Ideal.Read

variable (m : (ℓ : Loc nD τ sig) → Buf (Elt Ideal) ℓ)

/-- The blocks that the windows hold at each point of the grid. -/
theorem idx : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, _)

/-- Output window 2's array after the run is the reference's value. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  obtain ⟨t', h'⟩ : ∃ t' : Fin cfg0.N, t'.val = t.val - 1 := ⟨⟨_, ht⟩, rfl⟩
  have e : outsAt0 m c (t.val - 1) ht = outsAt0 m c t'.val t'.isLt := by simp only [h']
  rw [after0_2, outsAt0_B m c t (by omega) h1 h1]
  frame_out
  rw [e, outsAt0_A m c t' (by omega) (by omega) (by omega)]
  frame_out
  simp only [(Memref.isWhole_whole cc0_scratch0).read_unread]
  pointwise [k0_pay3, k0_pay2, k0_pay1, val_main_v0, val_main_v1, val_main_v2]
  rw [sum_two 1408 rfl]
  blk_point [iblk, V, idx t, idx t', h']

theorem algebraic : Cert.algebraic_Kernel8Ideal_Reference8Ideal := by
  pair_intro
  · run_from (Cert.Kernel8Ideal.Gen.run_main m g)
  · run_from (Cert.Reference8Ideal.Value.run m' g')
    · exact (final m c).symm

theorem frame : Cert.quiescent_Kernel8 := fun m g _ => Cert.Kernel8.Gen.frame m g
theorem frameIdeal : Cert.quiescent_Kernel8Ideal := fun m g _ => Cert.Kernel8Ideal.Gen.frame m g
theorem frameReference : Cert.quiescent_Reference8Ideal := fun m g _ =>
  (θ_run Cert.Reference8Ideal.defs _ _).mono (fun r h => ⟨fun c => (h c).2,
      sem_eq_zero_of_no_sems (by decide) r.2⟩)
    (Cert.Reference8Ideal.Value.run (F := Ideal) m g)

end Cert.Proof.V8

end
-- ==== Proof.V9.lean ====
/- `Kernel9Ideal` against `Reference9Ideal` at the extended reals, and the frames of the programs numbered 9. -/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V9

open Idealize.ShloMosaic Idealize.ShloMosaic.TcCoe Idealize.SL.Sem
open Idealize.ShloMosaic.Pipeline (Dat)
open Cert.Kernel9Ideal Cert.Kernel9Ideal.Gen Cert.Reference9Ideal.Read

variable (m : (ℓ : Loc nD τ sig) → Buf (Elt Ideal) ℓ)

/-- The blocks that the windows hold at each point of the grid. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- Output window 2's array after the run is the reference's value. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v0, val_main_v1, val_main_v2]
  blk_point [iblk, V, idx t]

theorem algebraic : Cert.algebraic_Kernel9Ideal_Reference9Ideal := by
  pair_intro
  · run_from (Cert.Kernel9Ideal.Gen.run_main m g)
  · run_from (Cert.Reference9Ideal.Value.run m' g')
    · exact (final m c).symm

theorem frame : Cert.quiescent_Kernel9 := fun m g _ => Cert.Kernel9.Gen.frame m g
theorem frameIdeal : Cert.quiescent_Kernel9Ideal := fun m g _ => Cert.Kernel9Ideal.Gen.frame m g
theorem frameReference : Cert.quiescent_Reference9Ideal := fun m g _ =>
  (θ_run Cert.Reference9Ideal.defs _ _).mono (fun r h => ⟨fun c => (h c).2,
      sem_eq_zero_of_no_sems (by decide) r.2⟩)
    (Cert.Reference9Ideal.Value.run (F := Ideal) m g)

end Cert.Proof.V9

end
-- ==== Proof.V10.lean ====
/- `Kernel10Ideal` against `Reference10Ideal` at the extended reals, and the frames of the programs numbered 10. -/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V10

open Idealize.ShloMosaic Idealize.ShloMosaic.TcCoe Idealize.SL.Sem
open Idealize.ShloMosaic.Pipeline (Dat)
open Cert.Kernel10Ideal Cert.Kernel10Ideal.Gen Cert.Reference10Ideal.Read

variable (m : (ℓ : Loc nD τ sig) → Buf (Elt Ideal) ℓ)

/-- The blocks that the windows hold at each point of the grid. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- Output window 2's array after the run is the reference's value. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  obtain ⟨t', h'⟩ : ∃ t' : Fin cfg0.N, t'.val = t.val - 1 := ⟨⟨_, ht⟩, rfl⟩
  have e : outsAt0 m c (t.val - 1) ht = outsAt0 m c t'.val t'.isLt := by simp only [h']
  rw [after0_2, outsAt0_B m c t (by omega) h1 h1]
  frame_out
  rw [e, outsAt0_A m c t' (by omega) (by omega) (by omega)]
  frame_out
  simp only [(Memref.isWhole_whole cc0_scratch0).read_unread]
  pointwise [k0_pay4, k0_pay3, k0_pay2, k0_pay1, val_main_cst, val_main_v0, val_main_v1, val_main_v2, val_main_v3, val_main_v4, val_main_v5, val_main_v6]
  rw [sum_two 2048 rfl]
  congr 1
  all_goals refine Finset.sum_congr rfl fun k _ => ?_
  all_goals rw [mul_comm]
  all_goals congr 1 <;> blk_ext [iblk, V, idx t, idx t', h']

theorem algebraic : Cert.algebraic_Kernel10Ideal_Reference10Ideal := by
  pair_intro
  · run_from (Cert.Kernel10Ideal.Gen.run_main m g)
  · run_from (Cert.Reference10Ideal.Value.run m' g')
    · exact (final m c).symm

theorem frame : Cert.quiescent_Kernel10 := fun m g _ => Cert.Kernel10.Gen.frame m g
theorem frameIdeal : Cert.quiescent_Kernel10Ideal := fun m g _ => Cert.Kernel10Ideal.Gen.frame m g
theorem frameReference : Cert.quiescent_Reference10Ideal := fun m g _ =>
  (θ_run Cert.Reference10Ideal.defs _ _).mono (fun r h => ⟨fun c => (h c).2,
      sem_eq_zero_of_no_sems (by decide) r.2⟩)
    (Cert.Reference10Ideal.Value.run (F := Ideal) m g)

end Cert.Proof.V10

end
-- ==== Proof.V11.lean ====
/- `Kernel11Ideal` against `Reference11Ideal` at the extended reals, and the frames of the programs numbered 11. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V11

open Idealize.ShloMosaic Idealize.ShloMosaic.TcCoe Idealize.SL.Sem
open Idealize.ShloMosaic.Pipeline (Dat)
open Cert.Kernel11Ideal Cert.Kernel11Ideal.Gen Cert.Reference11Ideal.Read

variable (m : (ℓ : Loc nD τ sig) → Buf (Elt Ideal) ℓ)

/-- The blocks that the windows hold at each point of the grid. -/
theorem idx : ∀ t : Fin cfg0.N, win0_0.index t = ![t.val, 0] ∧ win0_1.index t = ![0, 0] ∧ win0_2.index t = ![t.val, 0] :=
  (by decide +kernel : ∀ t : Fin grid0.N, _)

/-- Output window 2's array after the run is the reference's value. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_cst, val_main_v0, val_main_v1, val_main_v2, val_main_v3, val_main_v4]
  blk_point [iblk, V, idx t]

theorem algebraic : Cert.algebraic_Kernel11Ideal_Reference11Ideal := by
  pair_intro
  · run_from (Cert.Kernel11Ideal.Gen.run_main m g)
  · run_from (Cert.Reference11Ideal.Value.run m' g')
    · exact (final m c).symm

theorem frame : Cert.quiescent_Kernel11 := fun m g _ => Cert.Kernel11.Gen.frame m g
theorem frameIdeal : Cert.quiescent_Kernel11Ideal := fun m g _ => Cert.Kernel11Ideal.Gen.frame m g
theorem frameReference : Cert.quiescent_Reference11Ideal := fun m g _ =>
  (θ_run Cert.Reference11Ideal.defs _ _).mono (fun r h => ⟨fun c => (h c).2,
      sem_eq_zero_of_no_sems (by decide) r.2⟩)
    (Cert.Reference11Ideal.Value.run (F := Ideal) m g)

end Cert.Proof.V11

end
-- ==== Proof.V12.lean ====
/- `Kernel12Ideal` against `Reference12Ideal` at the extended reals, and the frames of the programs numbered 12. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V12

open Idealize.ShloMosaic Idealize.ShloMosaic.TcCoe Idealize.SL.Sem
open Idealize.ShloMosaic.Pipeline (Dat)
open Cert.Kernel12Ideal Cert.Kernel12Ideal.Gen Cert.Reference12Ideal.Read

variable (m : (ℓ : Loc nD τ sig) → Buf (Elt Ideal) ℓ)

/-- The blocks that the windows hold at each point of the grid. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- Output window 2's array after the run is the reference's value. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  obtain ⟨t', h'⟩ : ∃ t' : Fin cfg0.N, t'.val = t.val - 1 := ⟨⟨_, ht⟩, rfl⟩
  have e : outsAt0 m c (t.val - 1) ht = outsAt0 m c t'.val t'.isLt := by simp only [h']
  rw [after0_2, outsAt0_B m c t (by omega) h1 h1]
  frame_out
  rw [e, outsAt0_A m c t' (by omega) (by omega) (by omega)]
  frame_out
  simp only [(Memref.isWhole_whole cc0_scratch0).read_unread]
  pointwise [k0_pay4, k0_pay3, k0_pay2, k0_pay1, val_main_cst, val_main_v0, val_main_v1, val_main_v2, val_main_v3, val_main_v4, val_main_v5, val_main_v6]
  rw [sum_two 2048 rfl]
  congr 1
  all_goals refine Finset.sum_congr rfl fun k _ => ?_
  all_goals rw [mul_comm]
  all_goals congr 1 <;> blk_ext [iblk, V, idx t, idx t', h']

theorem algebraic : Cert.algebraic_Kernel12Ideal_Reference12Ideal := by
  pair_intro
  · run_from (Cert.Kernel12Ideal.Gen.run_main m g)
  · run_from (Cert.Reference12Ideal.Value.run m' g')
    · exact (final m c).symm

theorem frame : Cert.quiescent_Kernel12 := fun m g _ => Cert.Kernel12.Gen.frame m g
theorem frameIdeal : Cert.quiescent_Kernel12Ideal := fun m g _ => Cert.Kernel12Ideal.Gen.frame m g
theorem frameReference : Cert.quiescent_Reference12Ideal := fun m g _ =>
  (θ_run Cert.Reference12Ideal.defs _ _).mono (fun r h => ⟨fun c => (h c).2,
      sem_eq_zero_of_no_sems (by decide) r.2⟩)
    (Cert.Reference12Ideal.Value.run (F := Ideal) m g)

end Cert.Proof.V12

end
-- ==== Proof.V13.lean ====
/- `Kernel13Ideal` against `Reference13Ideal` at the extended reals, and the frames of the programs numbered 13. -/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V13

open Idealize.ShloMosaic Idealize.ShloMosaic.TcCoe Idealize.SL.Sem
open Idealize.ShloMosaic.Pipeline (Dat)
open Cert.Kernel13Ideal Cert.Kernel13Ideal.Gen Cert.Reference13Ideal.Read

variable (m : (ℓ : Loc nD τ sig) → Buf (Elt Ideal) ℓ)

/-- The blocks that the windows hold at each point of the grid. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] ∧ win0_4.index t = ![t.val / 4, t.val % 4] ∧ win0_5.index t = ![t.val / 4, 4 + t.val % 4] ∧ win0_6.index t = ![t.val / 4, t.val % 4] ∧ win0_7.index t = ![t.val / 4, t.val % 4] ∧ win0_8.index t = ![t.val / 4, t.val % 4] ∧ win0_9.index t = ![t.val / 4, t.val % 4] :=
  (by decide +kernel : ∀ t : Fin grid0.N, _)

/-- Output window 6's array after the run is the reference's value. -/
theorem final6 (c : Dev nD) : (dats m 0 c).arrAt 6 (cfgs 0).N
    = val_main_v33 (F := Ideal) (m ((c : Thread nD τ).loc main_arg0)) (m ((c : Thread nD τ).loc main_arg1)) (m ((c : Thread nD τ).loc main_arg4)) := by
  refine (dats m 0 c).arrAt_eq_of_covers 6 _ (by decide +kernel) fun t hf y => ?_
  blk_simp
  rw [after0_6]
  frame_out
  pointwise [k0_pay9, k0_pay8, k0_pay7, k0_pay6, k0_pay5, k0_pay4, k0_pay3, k0_pay2, k0_pay10, k0_pay1, val_main_v0, val_main_v2, val_main_v3, val_main_cst, val_main_v4, val_main_v5, val_main_cst_0, val_main_v6, val_main_v7, val_main_v23, val_main_v25, val_main_v26, val_main_v30, val_main_v33]
  simp only [zero_sub]
  refine (mul_comm (G := EReal) _ _).trans ?_
  blk_point [iblk, V, idx t]

/-- Output window 7's array after the run is the reference's value. -/
theorem final7 (c : Dev nD) : (dats m 0 c).arrAt 7 (cfgs 0).N
    = val_main_v34 (F := Ideal) (m ((c : Thread nD τ).loc main_arg0)) (m ((c : Thread nD τ).loc main_arg1)) (m ((c : Thread nD τ).loc main_arg4)) := by
  refine (dats m 0 c).arrAt_eq_of_covers 7 _ (by decide +kernel) fun t hf y => ?_
  blk_simp
  rw [after0_7]
  frame_out
  pointwise [k0_pay9, k0_pay8, k0_pay7, k0_pay6, k0_pay5, k0_pay4, k0_pay3, k0_pay2, k0_pay10, k0_pay1, val_main_v1, val_main_v12, val_main_v13, val_main_cst_2, val_main_v14, val_main_v15, val_main_cst_3, val_main_v16, val_main_v17, val_main_v23, val_main_v25, val_main_v26, val_main_v27, val_main_v34]
  simp only [zero_sub]
  refine (mul_comm (G := EReal) _ _).trans ?_
  blk_point [iblk, V, idx t]

/-- Output window 8's array after the run is the reference's value. -/
theorem final8 (c : Dev nD) : (dats m 0 c).arrAt 8 (cfgs 0).N
    = val_main_v35 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  pointwise [k0_pay9, k0_pay8, k0_pay7, k0_pay6, k0_pay5, k0_pay4, k0_pay3, k0_pay2, k0_pay10, k0_pay1, val_main_v0, val_main_v2, val_main_v3, val_main_cst, val_main_v4, val_main_v5, val_main_cst_0, val_main_v6, val_main_v7, val_main_cst_1, val_main_v8, val_main_v9, val_main_v10, val_main_v23, val_main_v25, val_main_v26, val_main_v31, val_main_v32, val_main_v35]
  simp only [zero_sub]
  refine (mul_assoc (G := EReal) _ _ _).trans ?_
  blk_point [iblk, V, idx t]

/-- Output window 9's array after the run is the reference's value. -/
theorem final9 (c : Dev nD) : (dats m 0 c).arrAt 9 (cfgs 0).N
    = val_main_v36 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 9 _ (by decide +kernel) fun t hf y => ?_
  blk_simp
  rw [after0_9]
  frame_out
  pointwise [k0_pay9, k0_pay8, k0_pay7, k0_pay6, k0_pay5, k0_pay4, k0_pay3, k0_pay2, k0_pay10, k0_pay1, val_main_v1, val_main_v12, val_main_v13, val_main_cst_2, val_main_v14, val_main_v15, val_main_cst_3, val_main_v16, val_main_v17, val_main_cst_4, val_main_v18, val_main_v19, val_main_v20, val_main_v23, val_main_v25, val_main_v26, val_main_v28, val_main_v29, val_main_v36]
  simp only [zero_sub]
  refine (mul_assoc (G := EReal) _ _ _).trans ?_
  blk_point [iblk, V, idx t]

theorem algebraic : Cert.algebraic_Kernel13Ideal_Reference13Ideal := by
  pair_intro
  · run_from (Cert.Kernel13Ideal.Gen.run_main m g)
  · run_from (Cert.Reference13Ideal.Value.run m' g')
    · exact (final6 m c).symm
    · exact (final7 m c).symm
    · exact (final8 m c).symm
    · exact (final9 m c).symm

theorem frame : Cert.quiescent_Kernel13 := fun m g _ => Cert.Kernel13.Gen.frame m g
theorem frameIdeal : Cert.quiescent_Kernel13Ideal := fun m g _ => Cert.Kernel13Ideal.Gen.frame m g
theorem frameReference : Cert.quiescent_Reference13Ideal := fun m g _ =>
  (θ_run Cert.Reference13Ideal.defs _ _).mono (fun r h => ⟨fun c => (h c).2.2.2.2,
      sem_eq_zero_of_no_sems (by decide) r.2⟩)
    (Cert.Reference13Ideal.Value.run (F := Ideal) m g)

end Cert.Proof.V13

end
-- ==== Proof.V14.lean ====
/- `Kernel14Ideal` against `Reference14Ideal` at the extended reals, and the frames of the programs numbered 14. -/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V14

open Idealize.ShloMosaic Idealize.ShloMosaic.TcCoe Idealize.SL.Sem
open Idealize.ShloMosaic.Pipeline (Dat)
open Cert.Kernel14Ideal Cert.Kernel14Ideal.Gen Cert.Reference14Ideal.Read

variable (m : (ℓ : Loc nD τ sig) → Buf (Elt Ideal) ℓ)

/-- The blocks that the windows hold at each point of the grid. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] ∧ win0_4.index t = ![t.val / 4, 4 + t.val % 4] ∧ win0_5.index t = ![t.val / 4, t.val % 4] ∧ win0_6.index t = ![t.val / 4, t.val % 4] :=
  (by decide +kernel : ∀ t : Fin grid0.N, _)

/-- Output window 5's array after the run is the reference's value. -/
theorem final5 (c : Dev nD) : (dats m 0 c).arrAt 5 (cfgs 0).N
    = val_main_v2 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  pointwise [k0_pay2, k0_pay1, val_main_v0, val_main_v1, val_main_v2]
  blk_point [iblk, V, idx t]

/-- Output window 6's array after the run is the reference's value. -/
theorem final6 (c : Dev nD) : (dats m 0 c).arrAt 6 (cfgs 0).N
    = val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay2, k0_pay1, val_main_v0, val_main_v1, val_main_v2, val_main_v3, val_main_v4, val_main_v5, val_main_v6, val_main_cst, val_main_v7, val_main_v8, val_main_cst_0, val_main_v9, val_main_v10, val_main_v11, val_main_v12, val_main_v13, val_main_cst_1, val_main_v14, val_main_v15, val_main_cst_2, val_main_v16, val_main_v17, val_main_v18, val_main_v19, val_main_v20]
  simp only [zero_sub]
  blk_point [iblk, V, idx t]

theorem algebraic : Cert.algebraic_Kernel14Ideal_Reference14Ideal := by
  pair_intro
  · run_from (Cert.Kernel14Ideal.Gen.run_main m g)
  · run_from (Cert.Reference14Ideal.Value.run m' g')
    · exact (final5 m c).symm
    · exact (final6 m c).symm

theorem frame : Cert.quiescent_Kernel14 := fun m g _ => Cert.Kernel14.Gen.frame m g
theorem frameIdeal : Cert.quiescent_Kernel14Ideal := fun m g _ => Cert.Kernel14Ideal.Gen.frame m g
theorem frameReference : Cert.quiescent_Reference14Ideal := fun m g _ =>
  (θ_run Cert.Reference14Ideal.defs _ _).mono (fun r h => ⟨fun c => (h c).2.2,
      sem_eq_zero_of_no_sems (by decide) r.2⟩)
    (Cert.Reference14Ideal.Value.run (F := Ideal) m g)

end Cert.Proof.V14

end
-- ==== Proof.V15.lean ====
/- `Kernel15Ideal` against `Reference15Ideal` at the extended reals, and the frames of the programs numbered 15. -/
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V15

open Idealize.ShloMosaic Idealize.ShloMosaic.TcCoe Idealize.SL.Sem
open Idealize.ShloMosaic.Pipeline (Dat)
open Cert.Kernel15Ideal Cert.Kernel15Ideal.Gen Cert.Reference15Ideal.Read

variable (m : (ℓ : Loc nD τ sig) → Buf (Elt Ideal) ℓ)

/-- The blocks that the windows hold at each point of the grid. -/
theorem idx : ∀ t : Fin cfg0.N, win0_0.index t = ![t.val / 2, 0] ∧ win0_1.index t = ![0, t.val % 2] ∧ win0_2.index t = ![t.val / 2, t.val % 2] ∧ win0_3.index t = ![0, t.val % 2] ∧ win0_4.index t = ![t.val / 2, t.val % 2] ∧ win0_5.index t = ![t.val / 2, t.val % 2] :=
  (by decide +kernel : ∀ t : Fin grid0.N, _)

/-- Output window 4's array after the run is the reference's value. -/
theorem final4 (c : Dev nD) : (dats m 0 c).arrAt 4 (cfgs 0).N
    = val_main_v2 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay2, k0_pay1, val_main_v0, val_main_v1, val_main_v2]
  blk_point [iblk, V, idx t]

/-- Output window 5's array after the run is the reference's value. -/
theorem final5 (c : Dev nD) : (dats m 0 c).arrAt 5 (cfgs 0).N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay2, k0_pay1, val_main_v0, val_main_v1, val_main_v2, val_main_v3, val_main_v4, val_main_cst, val_main_v5, val_main_v6, val_main_v7, val_main_cst_0, val_main_v8, val_main_v9, val_main_v10, val_main_cst_1, val_main_v11, val_main_v12, val_main_cst_2, val_main_v13, val_main_v14, val_main_v15, val_main_v16, val_main_v17, val_main_v18, val_main_v19, val_main_cst_3, val_main_v20, val_main_v21, val_main_cst_4, val_main_v22, val_main_v23, val_main_v24, val_main_v25]
  simp only [zero_sub]
  refine (congrArg (· * _) (gelu_form _ _ _ fun z => 1 + Ideal.tanh (_ * (_ + z)))).trans ?_
  blk_point [iblk, V, idx t]

theorem algebraic : Cert.algebraic_Kernel15Ideal_Reference15Ideal := by
  pair_intro
  · run_from (Cert.Kernel15Ideal.Gen.run_main m g)
  · run_from (Cert.Reference15Ideal.Value.run m' g')
    · exact (final4 m c).symm
    · exact (final5 m c).symm

theorem frame : Cert.quiescent_Kernel15 := fun m g _ => Cert.Kernel15.Gen.frame m g
theorem frameIdeal : Cert.quiescent_Kernel15Ideal := fun m g _ => Cert.Kernel15Ideal.Gen.frame m g
theorem frameReference : Cert.quiescent_Reference15Ideal := fun m g _ =>
  (θ_run Cert.Reference15Ideal.defs _ _).mono (fun r h => ⟨fun c => (h c).2.2,
      sem_eq_zero_of_no_sems (by decide) r.2⟩)
    (Cert.Reference15Ideal.Value.run (F := Ideal) m g)

end Cert.Proof.V15

end
-- ==== Proof.V16.lean ====
/- `Kernel16Ideal` against `Reference16Ideal` at the extended reals, and the frames of the programs numbered 16. -/
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V16

open Idealize.ShloMosaic Idealize.ShloMosaic.TcCoe Idealize.SL.Sem
open Idealize.ShloMosaic.Pipeline (Dat)
open Cert.Kernel16Ideal Cert.Kernel16Ideal.Gen Cert.Reference16Ideal.Read

variable (m : (ℓ : Loc nD τ sig) → Buf (Elt Ideal) ℓ)

/-- The blocks that the windows hold at each point of the grid. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- Output window 2's array after the run is the reference's value. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v0, val_main_v1, val_main_v2]
  blk_point [iblk, V, idx t]

theorem algebraic : Cert.algebraic_Kernel16Ideal_Reference16Ideal := by
  pair_intro
  · run_from (Cert.Kernel16Ideal.Gen.run_main m g)
  · run_from (Cert.Reference16Ideal.Value.run m' g')
    · exact (final m c).symm

theorem frame : Cert.quiescent_Kernel16 := fun m g _ => Cert.Kernel16.Gen.frame m g
theorem frameIdeal : Cert.quiescent_Kernel16Ideal := fun m g _ => Cert.Kernel16Ideal.Gen.frame m g
theorem frameReference : Cert.quiescent_Reference16Ideal := fun m g _ =>
  (θ_run Cert.Reference16Ideal.defs _ _).mono (fun r h => ⟨fun c => (h c).2,
      sem_eq_zero_of_no_sems (by decide) r.2⟩)
    (Cert.Reference16Ideal.Value.run (F := Ideal) m g)

end Cert.Proof.V16

end
-- ==== Proof.V17.lean ====
/- `Kernel17Ideal` against `Reference17Ideal` at the extended reals, and the frames of the programs numbered 17. -/
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V17

open Idealize.ShloMosaic Idealize.ShloMosaic.TcCoe Idealize.SL.Sem
open Idealize.ShloMosaic.Pipeline (Dat)
open Cert.Kernel17Ideal Cert.Kernel17Ideal.Gen Cert.Reference17Ideal.Read

variable (m : (ℓ : Loc nD τ sig) → Buf (Elt Ideal) ℓ)

/-- The blocks that the windows hold at each point of the grid. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- Output window 2's array after the run is the reference's value. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v0, val_main_v1, val_main_v2]
  blk_point [iblk, V, idx t]

theorem algebraic : Cert.algebraic_Kernel17Ideal_Reference17Ideal := by
  pair_intro
  · run_from (Cert.Kernel17Ideal.Gen.run_main m g)
  · run_from (Cert.Reference17Ideal.Value.run m' g')
    · exact (final m c).symm

theorem frame : Cert.quiescent_Kernel17 := fun m g _ => Cert.Kernel17.Gen.frame m g
theorem frameIdeal : Cert.quiescent_Kernel17Ideal := fun m g _ => Cert.Kernel17Ideal.Gen.frame m g
theorem frameReference : Cert.quiescent_Reference17Ideal := fun m g _ =>
  (θ_run Cert.Reference17Ideal.defs _ _).mono (fun r h => ⟨fun c => (h c).2,
      sem_eq_zero_of_no_sems (by decide) r.2⟩)
    (Cert.Reference17Ideal.Value.run (F := Ideal) m g)

end Cert.Proof.V17

end
-- ==== Proof.V18.lean ====
/- `Kernel18Ideal` against `Reference18Ideal` at the extended reals, and the frames of the programs numbered 18. -/
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V18

open Idealize.ShloMosaic Idealize.ShloMosaic.TcCoe Idealize.SL.Sem
open Idealize.ShloMosaic.Pipeline (Dat)
open Cert.Kernel18Ideal Cert.Kernel18Ideal.Gen Cert.Reference18Ideal.Read

variable (m : (ℓ : Loc nD τ sig) → Buf (Elt Ideal) ℓ)

/-- The blocks that the windows hold at each point of the grid. -/
theorem idx : ∀ t : Fin cfg0.N, win0_0.index t = ![t.val, 0] ∧ win0_1.index t = ![t.val, 0] ∧ win0_2.index t = ![0, 0] :=
  (by decide +kernel : ∀ t : Fin grid0.N, _)

/-- Output window 2's array after the run is the reference's value. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have ht : t.val - 1 < cfg0.N := Nat.lt_of_le_of_lt (Nat.sub_le _ _) t.isLt
  obtain ⟨t', h'⟩ : ∃ t' : Fin cfg0.N, t'.val = t.val - 1 := ⟨⟨_, ht⟩, rfl⟩
  have e : outsAt0 m c (t.val - 1) ht = outsAt0 m c t'.val t'.isLt := by simp only [h']
  rw [after0_2, outsAt0_B m c t (by omega) h1 h1]
  frame_out
  rw [e, outsAt0_A m c t' (by omega) (by omega) (by omega)]
  frame_out
  simp only [(Memref.isWhole_whole cc0_scratch0).read_unread]
  pointwise [k0_pay4, k0_pay3, k0_pay2, k0_pay1, val_main_cst, val_main_v0, val_main_v1, val_main_v2, val_main_v3, val_main_v4, val_main_v5, val_main_v6]
  rw [sum_two 2048 rfl]
  congr 1
  all_goals refine Finset.sum_congr rfl fun k _ => ?_
  all_goals rw [mul_comm]
  all_goals congr 1 <;> blk_ext [iblk, V, idx t, idx t', h']

theorem algebraic : Cert.algebraic_Kernel18Ideal_Reference18Ideal := by
  pair_intro
  · run_from (Cert.Kernel18Ideal.Gen.run_main m g)
  · run_from (Cert.Reference18Ideal.Value.run m' g')
    · exact (final m c).symm

theorem frame : Cert.quiescent_Kernel18 := fun m g _ => Cert.Kernel18.Gen.frame m g
theorem frameIdeal : Cert.quiescent_Kernel18Ideal := fun m g _ => Cert.Kernel18Ideal.Gen.frame m g
theorem frameReference : Cert.quiescent_Reference18Ideal := fun m g _ =>
  (θ_run Cert.Reference18Ideal.defs _ _).mono (fun r h => ⟨fun c => (h c).2,
      sem_eq_zero_of_no_sems (by decide) r.2⟩)
    (Cert.Reference18Ideal.Value.run (F := Ideal) m g)

end Cert.Proof.V18

end
-- ==== Proof.V19.lean ====
/- `Kernel19Ideal` against `Reference19Ideal` at the extended reals, and the frames of the programs numbered 19. -/
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import proofs.«01_k».proof.Proof.Halves
public import Idealize.ShloMosaic.Lib.Pipeline.ValueKit
public import Idealize.ShloMosaic.Lib.Claim

@[expose] public section

set_option maxRecDepth 16384

noncomputable section

namespace Cert.Proof.V19

open Idealize.ShloMosaic Idealize.ShloMosaic.TcCoe Idealize.SL.Sem
open Idealize.ShloMosaic.Pipeline (Dat)
open Cert.Kernel19Ideal Cert.Kernel19Ideal.Gen Cert.Reference19Ideal.Read

variable (m : (ℓ : Loc nD τ sig) → Buf (Elt Ideal) ℓ)

/-- The blocks that the windows hold at each point of the grid. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- The kernel's and the reference's order of the factors of the gate's gradient. -/
theorem glu_form (d h a k y s u : EReal) :
    d * (h * y * (1 + Ideal.tanh (k * (y + a * y * y * y)))) * s * u
      = y * (h * (1 + Ideal.tanh (k * (y + a * (y * y * y))))) * d * (s * u) := by
  rw [gelu_form h a y fun z => 1 + Ideal.tanh (k * (y + z)), mul_comm d, mul_assoc _ s u]

/-- Output window 4's array after the run is the reference's value. -/
theorem final4 (c : Dev nD) : (dats m 0 c).arrAt 4 (cfgs 0).N
    = val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 4 := Nat.lt_of_lt_of_eq t.isLt N_0
  by_cases h0 : t.val % 4 = 0
  · rw [outsAt0_A m c t h0 (by omega)]
    frame_out
    pointwise [k0_pay7, k0_pay6, k0_pay5, k0_pay4, k0_pay3, k0_pay2, k0_pay1, val_main_v0, val_main_v1, val_main_cst, val_main_v2, val_main_v3, val_main_v4, val_main_cst_0, val_main_v5, val_main_v6, val_main_v7, val_main_cst_1, val_main_v8, val_main_v9, val_main_cst_2, val_main_v10, val_main_v11, val_main_v12, val_main_v13, val_main_v14, val_main_v15, val_main_v16, val_main_cst_3, val_main_v17, val_main_v18, val_main_cst_4, val_main_v19, val_main_v20, val_main_cst_5, val_main_v21, val_main_v22, val_main_v23, val_main_v25, val_main_v27, val_main_v30]
    simp only [zero_sub, glu_form]
    blk_point [iblk, V, idx t]
  · rw [outsAt0_B m c t h0 (by omega)]
    frame_out
    pointwise [k0_pay7, k0_pay6, k0_pay5, k0_pay4, k0_pay3, k0_pay2, k0_pay1, val_main_v0, val_main_v1, val_main_cst, val_main_v2, val_main_v3, val_main_v4, val_main_cst_0, val_main_v5, val_main_v6, val_main_v7, val_main_cst_1, val_main_v8, val_main_v9, val_main_cst_2, val_main_v10, val_main_v11, val_main_v12, val_main_v13, val_main_v14, val_main_v15, val_main_v16, val_main_cst_3, val_main_v17, val_main_v18, val_main_cst_4, val_main_v19, val_main_v20, val_main_cst_5, val_main_v21, val_main_v22, val_main_v23, val_main_v25, val_main_v27, val_main_v30]
    simp only [zero_sub, glu_form]
    blk_point [iblk, V, idx t]

/-- Output window 5's array after the run is the reference's value. -/
theorem final5 (c : Dev nD) : (dats m 0 c).arrAt 5 (cfgs 0).N
    = val_main_v26 (F := Ideal) (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 4 := Nat.lt_of_lt_of_eq t.isLt N_0
  by_cases h0 : t.val % 4 = 0
  · rw [outsAt0_A m c t h0 (by omega)]
    frame_out
    pointwise [k0_pay7, k0_pay6, k0_pay5, k0_pay4, k0_pay3, k0_pay2, k0_pay1, val_main_v13, val_main_v14, val_main_v15, val_main_v16, val_main_cst_3, val_main_v17, val_main_v18, val_main_cst_4, val_main_v19, val_main_v20, val_main_v26]
    simp only [zero_sub]
    blk_point [iblk, V, idx t]
  · rw [outsAt0_B m c t h0 (by omega)]
    frame_out
    pointwise [k0_pay7, k0_pay6, k0_pay5, k0_pay4, k0_pay3, k0_pay2, k0_pay1, val_main_v13, val_main_v14, val_main_v15, val_main_v16, val_main_cst_3, val_main_v17, val_main_v18, val_main_cst_4, val_main_v19, val_main_v20, val_main_v26]
    simp only [zero_sub]
    blk_point [iblk, V, idx t]

/-- Output window 6's array after the run is the reference's value. -/
theorem final6 (c : Dev nD) : (dats m 0 c).arrAt 6 (cfgs 0).N
    = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have h1 : t.val % 4 = 3 := (flush0_6 t).mp hf
  have hN : t.val < 4 := Nat.lt_of_lt_of_eq t.isLt N_0
  have ht : t.val - 1 < cfg0.N := Nat.lt_of_le_of_lt (Nat.sub_le _ _) t.isLt
  obtain ⟨t1, h1'⟩ : ∃ t' : Fin cfg0.N, t'.val = t.val - 1 := ⟨⟨_, ht⟩, rfl⟩
  have e1 : outsAt0 m c (t.val - 1) ht = outsAt0 m c t1.val t1.isLt := by simp only [h1']
  have ht1 : t1.val - 1 < cfg0.N := Nat.lt_of_le_of_lt (Nat.sub_le _ _) t1.isLt
  obtain ⟨t2, h2'⟩ : ∃ t' : Fin cfg0.N, t'.val = t1.val - 1 := ⟨⟨_, ht1⟩, rfl⟩
  have e2 : outsAt0 m c (t1.val - 1) ht1 = outsAt0 m c t2.val t2.isLt := by simp only [h2']
  have ht2 : t2.val - 1 < cfg0.N := Nat.lt_of_le_of_lt (Nat.sub_le _ _) t2.isLt
  obtain ⟨t3, h3'⟩ : ∃ t' : Fin cfg0.N, t'.val = t2.val - 1 := ⟨⟨_, ht2⟩, rfl⟩
  have e3 : outsAt0 m c (t2.val - 1) ht2 = outsAt0 m c t3.val t3.isLt := by simp only [h3']
  rw [outsAt0_B m c t (by omega) (by omega)]
  frame_out
  rw [e1, outsAt0_B m c t1 (by omega) (by omega)]
  frame_out
  rw [e2, outsAt0_B m c t2 (by omega) (by omega)]
  frame_out
  rw [e3, outsAt0_A m c t3 (by omega) (by omega)]
  frame_out
  pointwise [k0_pay7, k0_pay6, k0_pay5, k0_pay4, k0_pay3, k0_pay2, k0_pay1, val_main_v0, val_main_v1, val_main_cst, val_main_v2, val_main_v3, val_main_v4, val_main_cst_0, val_main_v5, val_main_v6, val_main_v7, val_main_cst_1, val_main_v8, val_main_v9, val_main_cst_2, val_main_v10, val_main_v11, val_main_v12, val_main_v13, val_main_v14, val_main_v15, val_main_v16, val_main_cst_3, val_main_v17, val_main_v18, val_main_cst_4, val_main_v19, val_main_v20, val_main_cst_5, val_main_v21, val_main_v22, val_main_v23, val_main_v25, val_main_v27, val_main_cst_6, val_main_v28, val_main_v29]
  simp only [zero_sub, glu_form]
  rw [sum_four 1024 rfl]
  blk_point [iblk, V, idx t, idx t1, idx t2, idx t3, h1', h2', h3']

set_option maxHeartbeats 4000000 in
theorem algebraic : Cert.algebraic_Kernel19Ideal_Reference19Ideal := by
  pair_intro
  · run_from (Cert.Kernel19Ideal.Gen.run_main m g)
  · run_from (Cert.Reference19Ideal.Value.run m' g')
    · exact (final4 m c).symm
    · exact (final5 m c).symm
    · exact (final6 m c).symm

theorem frame : Cert.quiescent_Kernel19 := fun m g _ => Cert.Kernel19.Gen.frame m g
theorem frameIdeal : Cert.quiescent_Kernel19Ideal := fun m g _ => Cert.Kernel19Ideal.Gen.frame m g
theorem frameReference : Cert.quiescent_Reference19Ideal := fun m g _ =>
  (θ_run Cert.Reference19Ideal.defs _ _).mono (fun r h => ⟨fun c => (h c).2.2.2,
      sem_eq_zero_of_no_sems (by decide) r.2⟩)
    (Cert.Reference19Ideal.Value.run (F := Ideal) m g)

end Cert.Proof.V19

end
-- ==== Proof.Adam.lean ====
/- The optimiser's bias corrections: a quotient by either is the product with the real that the kernels' table names. -/
module

public import Idealize.ShloMosaic.PureOps.Ideal

@[expose] public section

noncomputable section

namespace Cert.Proof

open Idealize.ShloMosaic

theorem ofBits_bias1 : Ideal.ofBits .f32 0x3F26BD02#32 = ((5463681 / 8388608 : ℝ) : EReal) := by
  simp [Ideal.ofBits, Ideal.ieee, -EReal.coe_mul]; norm_num

theorem ofBits_bias2 : Ideal.ofBits .f32 0x3C231ACC#32 = ((2672307 / 268435456 : ℝ) : EReal) := by
  simp [Ideal.ofBits, Ideal.ieee, -EReal.coe_mul]; norm_num

theorem div_bias1 (x : EReal) :
    x * (((5463681 / 8388608)⁻¹ : ℝ) : EReal) = Ideal.div x (Ideal.ofBits .f32 0x3F26BD02#32) := by
  rw [ofBits_bias1, Ideal.div_coe (by norm_num), one_div]

theorem div_bias2 (x : EReal) :
    x * (((2672307 / 268435456)⁻¹ : ℝ) : EReal) = Ideal.div x (Ideal.ofBits .f32 0x3C231ACC#32) := by
  rw [ofBits_bias2, Ideal.div_coe (by norm_num), one_div]

end Cert.Proof

end
-- ==== Proof.V20.lean ====
/- `Kernel20Ideal` against `Reference20Ideal` at the extended reals, and the frames of the programs numbered 20. -/
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V20

open Idealize.ShloMosaic Idealize.ShloMosaic.TcCoe Idealize.SL.Sem
open Idealize.ShloMosaic.Pipeline (Dat)
open Cert.Kernel20Ideal Cert.Kernel20Ideal.Gen Cert.Reference20Ideal.Read

variable (m : (ℓ : Loc nD τ sig) → Buf (Elt Ideal) ℓ)

/-- The blocks that the windows hold at each point of the grid. -/
theorem idx : ∀ t : Fin cfg0.N, win0_0.index t = ![0, if t.val < 11 then t.val else 10, 0] ∧ win0_1.index t = ![0, if 11 ≤ t.val then t.val - 11 else 0, 0] ∧ win0_2.index t = ![t.val / 11, t.val % 11, 0] ∧ win0_3.index t = ![t.val / 11, t.val % 11, 0] ∧ win0_4.index t = ![t.val / 11, t.val % 11, 0] ∧ win0_5.index t = ![t.val / 11, t.val % 11, 0] ∧ win0_6.index t = ![t.val / 11, t.val % 11, 0] ∧ win0_7.index t = ![t.val / 11, t.val % 11, 0] ∧ win0_8.index t = ![t.val / 11, t.val % 11, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val < 11
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6]
  · have i0 : win0_0.index t = ![0, t.val, 0] := by rw [(idx t).1, if_pos h0]
    have h : (((View.whole main_v0_0).slice (win0_5.rect t)).emb y 0).val < 1 := by
      blk_simp [idx t]
      idx_bounds_all
      omega
    simp only [dif_pos h, Fin.sum_univ_eight]
    blk_point [iblk, V, i0, (idx t).2]
  · have i1 : win0_1.index t = ![0, t.val - 11, 0] := by rw [(idx t).2.1, if_pos (by omega)]
    have h : (((View.whole main_v0_0).slice (win0_5.rect t)).emb y 0).val ≥ 1 := by
      blk_simp [idx t]
      idx_bounds_all
      omega
    simp only [dif_neg (Nat.not_lt.mpr h), Fin.sum_univ_eight]
    blk_point [iblk, V, i1, (idx t).2.2]

/-- Output window 6's array after the run is the reference's value. -/
theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val < 11
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  · have i0 : win0_0.index t = ![0, t.val, 0] := by rw [(idx t).1, if_pos h0]
    have h : (((View.whole main_v0_1).slice (win0_6.rect t)).emb y 0).val < 1 := by
      blk_simp [idx t]
      idx_bounds_all
      omega
    simp only [inv1, inv2, dif_pos h, Fin.sum_univ_eight]
    blk_point [iblk, V, i0, (idx t).2]
  · have i1 : win0_1.index t = ![0, t.val - 11, 0] := by rw [(idx t).2.1, if_pos (by omega)]
    have h : (((View.whole main_v0_1).slice (win0_6.rect t)).emb y 0).val ≥ 1 := by
      blk_simp [idx t]
      idx_bounds_all
      omega
    simp only [inv1, inv2, dif_neg (Nat.not_lt.mpr h), Fin.sum_univ_eight]
    blk_point [iblk, V, i1, (idx t).2.2]

/-- Output window 7's array after the run is the reference's value. -/
theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val < 11
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11]
  · have i0 : win0_0.index t = ![0, t.val, 0] := by rw [(idx t).1, if_pos h0]
    have h : (((View.whole main_v0_2).slice (win0_7.rect t)).emb y 0).val < 1 := by
      blk_simp [idx t]
      idx_bounds_all
      omega
    simp only [dif_pos h, Fin.sum_univ_eight]
    blk_point [iblk, V, i0, (idx t).2]
  · have i1 : win0_1.index t = ![0, t.val - 11, 0] := by rw [(idx t).2.1, if_pos (by omega)]
    have h : (((View.whole main_v0_2).slice (win0_7.rect t)).emb y 0).val ≥ 1 := by
      blk_simp [idx t]
      idx_bounds_all
      omega
    simp only [dif_neg (Nat.not_lt.mpr h), Fin.sum_univ_eight]
    blk_point [iblk, V, i1, (idx t).2.2]

/-- Output window 8's array after the run is the reference's value. -/
theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val < 11
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_3, val_main_v12, val_main_v13, val_main_v14, val_main_cst_4, val_main_v15, val_main_v16, val_main_v17]
  · have i0 : win0_0.index t = ![0, t.val, 0] := by rw [(idx t).1, if_pos h0]
    have h : (((View.whole main_v0_3).slice (win0_8.rect t)).emb y 0).val < 1 := by
      blk_simp [idx t]
      idx_bounds_all
      omega
    simp only [dif_pos h, Fin.sum_univ_eight]
    blk_point [iblk, V, i0, (idx t).2]
  · have i1 : win0_1.index t = ![0, t.val - 11, 0] := by rw [(idx t).2.1, if_pos (by omega)]
    have h : (((View.whole main_v0_3).slice (win0_8.rect t)).emb y 0).val ≥ 1 := by
      blk_simp [idx t]
      idx_bounds_all
      omega
    simp only [dif_neg (Nat.not_lt.mpr h), Fin.sum_univ_eight]
    blk_point [iblk, V, i1, (idx t).2.2]

theorem algebraic : Cert.algebraic_Kernel20Ideal_Reference20Ideal := by
  pair_intro
  · run_from (Cert.Kernel20Ideal.Gen.run_main m g)
  · run_from (Cert.Reference20Ideal.Value.run m' g')
    · exact (final5 m c).symm
    · exact (final6 m c).symm
    · exact (final7 m c).symm
    · exact (final8 m c).symm

theorem frame : Cert.quiescent_Kernel20 := fun m g _ => Cert.Kernel20.Gen.frame m g
theorem frameIdeal : Cert.quiescent_Kernel20Ideal := fun m g _ => Cert.Kernel20Ideal.Gen.frame m g
theorem frameReference : Cert.quiescent_Reference20Ideal := fun m g _ =>
  (θ_run Cert.Reference20Ideal.defs _ _).mono (fun r h => ⟨fun c => (h c).2.2.2.2,
      sem_eq_zero_of_no_sems (by decide) r.2⟩)
    (Cert.Reference20Ideal.Value.run (F := Ideal) m g)

end Cert.Proof.V20

end
-- ==== Proof.V21.lean ====
/- `Kernel21Ideal` against `Reference21Ideal` at the extended reals, and the frames of the programs numbered 21. -/
module

public import proofs.«01_k».proof.Defs
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V21

open Idealize.ShloMosaic Idealize.ShloMosaic.TcCoe Idealize.SL.Sem
open Idealize.ShloMosaic.Pipeline (Dat)
open Cert.Kernel21Ideal Cert.Kernel21Ideal.Gen Cert.Reference21Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4]
  · have h : (((View.whole main_v0_0).slice (win0_5.rect t)).emb y 0).val < 1 := by
      blk_simp [idx t]
      idx_bounds_all
      omega
    simp only [dif_pos h, Fin.sum_univ_one]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_one]
    blk_point [iblk, V, idx t, h0]

/-- Output window 6's array after the run is the reference's value. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  · have h : (((View.whole main_v0_1).slice (win0_6.rect t)).emb y 0).val < 1 := by
      blk_simp [idx t]
      idx_bounds_all
      omega
    simp only [inv1, inv2, dif_pos h, Fin.sum_univ_one]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_one]
    blk_point [iblk, V, idx t, h0]

/-- Output window 7's array after the run is the reference's value. -/
theorem final7 (c : Dev nD) : (dats m 0 c).arrAt 7 (cfgs 0).N
    = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9]
  · have h : (((View.whole main_v0_2).slice (win0_7.rect t)).emb y 0).val < 1 := by
      blk_simp [idx t]
      idx_bounds_all
      omega
    simp only [dif_pos h, Fin.sum_univ_one]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_one]
    blk_point [iblk, V, idx t, h0]

/-- Output window 8's array after the run is the reference's value. -/
theorem final8 (c : Dev nD) : (dats m 0 c).arrAt 8 (cfgs 0).N
    = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_3, val_main_v10, val_main_v11, val_main_v12, val_main_cst_4, val_main_v13, val_main_v14, val_main_v15]
  · have h : (((View.whole main_v0_3).slice (win0_8.rect t)).emb y 0).val < 1 := by
      blk_simp [idx t]
      idx_bounds_all
      omega
    simp only [dif_pos h, Fin.sum_univ_one]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_one]
    blk_point [iblk, V, idx t, h0]

theorem algebraic : Cert.algebraic_Kernel21Ideal_Reference21Ideal := by
  pair_intro
  · run_from (Cert.Kernel21Ideal.Gen.run_main m g)
  · run_from (Cert.Reference21Ideal.Value.run m' g')
    · exact (final5 m c).symm
    · exact (final6 m c).symm
    · exact (final7 m c).symm
    · exact (final8 m c).symm

theorem frame : Cert.quiescent_Kernel21 := fun m g _ => Cert.Kernel21.Gen.frame m g
theorem frameIdeal : Cert.quiescent_Kernel21Ideal := fun m g _ => Cert.Kernel21Ideal.Gen.frame m g
theorem frameReference : Cert.quiescent_Reference21Ideal := fun m g _ =>
  (θ_run Cert.Reference21Ideal.defs _ _).mono (fun r h => ⟨fun c => (h c).2.2.2.2,
      sem_eq_zero_of_no_sems (by decide) r.2⟩)
    (Cert.Reference21Ideal.Value.run (F := Ideal) m g)

end Cert.Proof.V21

end
-- ==== Proof.V22.lean ====
/- `Kernel22Ideal` against `Reference22Ideal` at the extended reals, and the frames of the programs numbered 22. -/
module

public import proofs.«01_k».proof.Defs
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V22

open Idealize.ShloMosaic Idealize.ShloMosaic.TcCoe Idealize.SL.Sem
open Idealize.ShloMosaic.Pipeline (Dat)
open Cert.Kernel22Ideal Cert.Kernel22Ideal.Gen Cert.Reference22Ideal.Read

variable (m : (ℓ : Loc nD τ sig) → Buf (Elt Ideal) ℓ)

/-- The blocks that the windows hold at each point of the grid. -/
theorem idx : ∀ t : Fin cfg0.N, win0_0.index t = ![0, if t.val < 8 then t.val else 7, 0] ∧ win0_1.index t = ![0, if 8 ≤ t.val then t.val - 8 else 0, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val < 8
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6]
  · have i0 : win0_0.index t = ![0, t.val, 0] := by rw [(idx t).1, if_pos h0]
    have h : (((View.whole main_v0_0).slice (win0_5.rect t)).emb y 0).val < 1 := by
      blk_simp [idx t]
      idx_bounds_all
      omega
    simp only [dif_pos h, Fin.sum_univ_eight]
    blk_point [iblk, V, i0, (idx t).2]
  · have i1 : win0_1.index t = ![0, t.val - 8, 0] := by rw [(idx t).2.1, if_pos (by omega)]
    have h : (((View.whole main_v0_0).slice (win0_5.rect t)).emb y 0).val ≥ 1 := by
      blk_simp [idx t]
      idx_bounds_all
      omega
    simp only [dif_neg (Nat.not_lt.mpr h), Fin.sum_univ_eight]
    blk_point [iblk, V, i1, (idx t).2.2]

/-- Output window 6's array after the run is the reference's value. -/
theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val < 8
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  · have i0 : win0_0.index t = ![0, t.val, 0] := by rw [(idx t).1, if_pos h0]
    have h : (((View.whole main_v0_1).slice (win0_6.rect t)).emb y 0).val < 1 := by
      blk_simp [idx t]
      idx_bounds_all
      omega
    simp only [inv1, inv2, dif_pos h, Fin.sum_univ_eight]
    blk_point [iblk, V, i0, (idx t).2]
  · have i1 : win0_1.index t = ![0, t.val - 8, 0] := by rw [(idx t).2.1, if_pos (by omega)]
    have h : (((View.whole main_v0_1).slice (win0_6.rect t)).emb y 0).val ≥ 1 := by
      blk_simp [idx t]
      idx_bounds_all
      omega
    simp only [inv1, inv2, dif_neg (Nat.not_lt.mpr h), Fin.sum_univ_eight]
    blk_point [iblk, V, i1, (idx t).2.2]

/-- Output window 7's array after the run is the reference's value. -/
theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val < 8
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11]
  · have i0 : win0_0.index t = ![0, t.val, 0] := by rw [(idx t).1, if_pos h0]
    have h : (((View.whole main_v0_2).slice (win0_7.rect t)).emb y 0).val < 1 := by
      blk_simp [idx t]
      idx_bounds_all
      omega
    simp only [dif_pos h, Fin.sum_univ_eight]
    blk_point [iblk, V, i0, (idx t).2]
  · have i1 : win0_1.index t = ![0, t.val - 8, 0] := by rw [(idx t).2.1, if_pos (by omega)]
    have h : (((View.whole main_v0_2).slice (win0_7.rect t)).emb y 0).val ≥ 1 := by
      blk_simp [idx t]
      idx_bounds_all
      omega
    simp only [dif_neg (Nat.not_lt.mpr h), Fin.sum_univ_eight]
    blk_point [iblk, V, i1, (idx t).2.2]

/-- Output window 8's array after the run is the reference's value. -/
theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val < 8
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_3, val_main_v12, val_main_v13, val_main_v14, val_main_cst_4, val_main_v15, val_main_v16, val_main_v17]
  · have i0 : win0_0.index t = ![0, t.val, 0] := by rw [(idx t).1, if_pos h0]
    have h : (((View.whole main_v0_3).slice (win0_8.rect t)).emb y 0).val < 1 := by
      blk_simp [idx t]
      idx_bounds_all
      omega
    simp only [dif_pos h, Fin.sum_univ_eight]
    blk_point [iblk, V, i0, (idx t).2]
  · have i1 : win0_1.index t = ![0, t.val - 8, 0] := by rw [(idx t).2.1, if_pos (by omega)]
    have h : (((View.whole main_v0_3).slice (win0_8.rect t)).emb y 0).val ≥ 1 := by
      blk_simp [idx t]
      idx_bounds_all
      omega
    simp only [dif_neg (Nat.not_lt.mpr h), Fin.sum_univ_eight]
    blk_point [iblk, V, i1, (idx t).2.2]

theorem algebraic : Cert.algebraic_Kernel22Ideal_Reference22Ideal := by
  pair_intro
  · run_from (Cert.Kernel22Ideal.Gen.run_main m g)
  · run_from (Cert.Reference22Ideal.Value.run m' g')
    · exact (final5 m c).symm
    · exact (final6 m c).symm
    · exact (final7 m c).symm
    · exact (final8 m c).symm

theorem frame : Cert.quiescent_Kernel22 := fun m g _ => Cert.Kernel22.Gen.frame m g
theorem frameIdeal : Cert.quiescent_Kernel22Ideal := fun m g _ => Cert.Kernel22Ideal.Gen.frame m g
theorem frameReference : Cert.quiescent_Reference22Ideal := fun m g _ =>
  (θ_run Cert.Reference22Ideal.defs _ _).mono (fun r h => ⟨fun c => (h c).2.2.2.2,
      sem_eq_zero_of_no_sems (by decide) r.2⟩)
    (Cert.Reference22Ideal.Value.run (F := Ideal) m g)

end Cert.Proof.V22

end
-- ==== Proof.V23.lean ====
/- `Kernel23Ideal` against `Reference23Ideal` at the extended reals, and the frames of the programs numbered 23. -/
module

public import proofs.«01_k».proof.Defs
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V23

open Idealize.ShloMosaic Idealize.ShloMosaic.TcCoe Idealize.SL.Sem
open Idealize.ShloMosaic.Pipeline (Dat)
open Cert.Kernel23Ideal Cert.Kernel23Ideal.Gen Cert.Reference23Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6]
  · have h : (((View.whole main_v0_0).slice (win0_5.rect t)).emb y 0).val < 1 := by
      blk_simp [idx t]
      idx_bounds_all
      omega
    simp only [dif_pos h, Fin.sum_univ_eight]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_eight]
    blk_point [iblk, V, idx t, h0]

/-- Output window 6's array after the run is the reference's value. -/
theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  · have h : (((View.whole main_v0_1).slice (win0_6.rect t)).emb y 0).val < 1 := by
      blk_simp [idx t]
      idx_bounds_all
      omega
    simp only [inv1, inv2, dif_pos h, Fin.sum_univ_eight]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_eight]
    blk_point [iblk, V, idx t, h0]

/-- Output window 7's array after the run is the reference's value. -/
theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11]
  · have h : (((View.whole main_v0_2).slice (win0_7.rect t)).emb y 0).val < 1 := by
      blk_simp [idx t]
      idx_bounds_all
      omega
    simp only [dif_pos h, Fin.sum_univ_eight]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_eight]
    blk_point [iblk, V, idx t, h0]

/-- Output window 8's array after the run is the reference's value. -/
theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_3, val_main_v12, val_main_v13, val_main_v14, val_main_cst_4, val_main_v15, val_main_v16, val_main_v17]
  · have h : (((View.whole main_v0_3).slice (win0_8.rect t)).emb y 0).val < 1 := by
      blk_simp [idx t]
      idx_bounds_all
      omega
    simp only [dif_pos h, Fin.sum_univ_eight]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_eight]
    blk_point [iblk, V, idx t, h0]

theorem algebraic : Cert.algebraic_Kernel23Ideal_Reference23Ideal := by
  pair_intro
  · run_from (Cert.Kernel23Ideal.Gen.run_main m g)
  · run_from (Cert.Reference23Ideal.Value.run m' g')
    · exact (final5 m c).symm
    · exact (final6 m c).symm
    · exact (final7 m c).symm
    · exact (final8 m c).symm

theorem frame : Cert.quiescent_Kernel23 := fun m g _ => Cert.Kernel23.Gen.frame m g
theorem frameIdeal : Cert.quiescent_Kernel23Ideal := fun m g _ => Cert.Kernel23Ideal.Gen.frame m g
theorem frameReference : Cert.quiescent_Reference23Ideal := fun m g _ =>
  (θ_run Cert.Reference23Ideal.defs _ _).mono (fun r h => ⟨fun c => (h c).2.2.2.2,
      sem_eq_zero_of_no_sems (by decide) r.2⟩)
    (Cert.Reference23Ideal.Value.run (F := Ideal) m g)

end Cert.Proof.V23

end
-- ==== Proof.V24.lean ====
/- `Kernel24Ideal` against `Reference24Ideal` at the extended reals, and the frames of the programs numbered 24. -/
module

public import proofs.«01_k».proof.Defs
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Reference24Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V24

open Idealize.ShloMosaic Idealize.ShloMosaic.TcCoe Idealize.SL.Sem
open Idealize.ShloMosaic.Pipeline (Dat)
open Cert.Kernel24Ideal Cert.Kernel24Ideal.Gen Cert.Reference24Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6]
  · have h : (((View.whole main_v0_0).slice (win0_5.rect t)).emb y 0).val < 1 := by
      blk_simp [idx t]
      idx_bounds_all
      omega
    simp only [dif_pos h, Fin.sum_univ_eight]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_eight]
    blk_point [iblk, V, idx t, h0]

/-- Output window 6's array after the run is the reference's value. -/
theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  · have h : (((View.whole main_v0_1).slice (win0_6.rect t)).emb y 0).val < 1 := by
      blk_simp [idx t]
      idx_bounds_all
      omega
    simp only [inv1, inv2, dif_pos h, Fin.sum_univ_eight]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_eight]
    blk_point [iblk, V, idx t, h0]

/-- Output window 7's array after the run is the reference's value. -/
theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11]
  · have h : (((View.whole main_v0_2).slice (win0_7.rect t)).emb y 0).val < 1 := by
      blk_simp [idx t]
      idx_bounds_all
      omega
    simp only [dif_pos h, Fin.sum_univ_eight]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_eight]
    blk_point [iblk, V, idx t, h0]

/-- Output window 8's array after the run is the reference's value. -/
theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_3, val_main_v12, val_main_v13, val_main_v14, val_main_cst_4, val_main_v15, val_main_v16, val_main_v17]
  · have h : (((View.whole main_v0_3).slice (win0_8.rect t)).emb y 0).val < 1 := by
      blk_simp [idx t]
      idx_bounds_all
      omega
    simp only [dif_pos h, Fin.sum_univ_eight]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_eight]
    blk_point [iblk, V, idx t, h0]

theorem algebraic : Cert.algebraic_Kernel24Ideal_Reference24Ideal := by
  pair_intro
  · run_from (Cert.Kernel24Ideal.Gen.run_main m g)
  · run_from (Cert.Reference24Ideal.Value.run m' g')
    · exact (final5 m c).symm
    · exact (final6 m c).symm
    · exact (final7 m c).symm
    · exact (final8 m c).symm

theorem frame : Cert.quiescent_Kernel24 := fun m g _ => Cert.Kernel24.Gen.frame m g
theorem frameIdeal : Cert.quiescent_Kernel24Ideal := fun m g _ => Cert.Kernel24Ideal.Gen.frame m g
theorem frameReference : Cert.quiescent_Reference24Ideal := fun m g _ =>
  (θ_run Cert.Reference24Ideal.defs _ _).mono (fun r h => ⟨fun c => (h c).2.2.2.2,
      sem_eq_zero_of_no_sems (by decide) r.2⟩)
    (Cert.Reference24Ideal.Value.run (F := Ideal) m g)

end Cert.Proof.V24

end
-- ==== Proof.V25.lean ====
/- `Kernel25Ideal` against `Reference25Ideal` at the extended reals, and the frames of the programs numbered 25. -/
module

public import proofs.«01_k».proof.Defs
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Reference25Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V25

open Idealize.ShloMosaic Idealize.ShloMosaic.TcCoe Idealize.SL.Sem
open Idealize.ShloMosaic.Pipeline (Dat)
open Cert.Kernel25Ideal Cert.Kernel25Ideal.Gen Cert.Reference25Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6]
  · have h : (((View.whole main_v0_0).slice (win0_5.rect t)).emb y 0).val < 1 := by
      blk_simp [idx t]
      idx_bounds_all
      omega
    simp only [dif_pos h, Fin.sum_univ_eight]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_eight]
    blk_point [iblk, V, idx t, h0]

/-- Output window 6's array after the run is the reference's value. -/
theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  · have h : (((View.whole main_v0_1).slice (win0_6.rect t)).emb y 0).val < 1 := by
      blk_simp [idx t]
      idx_bounds_all
      omega
    simp only [inv1, inv2, dif_pos h, Fin.sum_univ_eight]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_eight]
    blk_point [iblk, V, idx t, h0]

/-- Output window 7's array after the run is the reference's value. -/
theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_1, val_main_v7, val_main_v8, val_main_cst_2, val_main_v9, val_main_v10, val_main_v11]
  · have h : (((View.whole main_v0_2).slice (win0_7.rect t)).emb y 0).val < 1 := by
      blk_simp [idx t]
      idx_bounds_all
      omega
    simp only [dif_pos h, Fin.sum_univ_eight]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_eight]
    blk_point [iblk, V, idx t, h0]

/-- Output window 8's array after the run is the reference's value. -/
theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_v0, val_main_cst, val_main_v1, val_main_v2, val_main_cst_0, val_main_v3, val_main_v4, val_main_v5, val_main_v6, val_main_cst_3, val_main_v12, val_main_v13, val_main_v14, val_main_cst_4, val_main_v15, val_main_v16, val_main_v17]
  · have h : (((View.whole main_v0_3).slice (win0_8.rect t)).emb y 0).val < 1 := by
      blk_simp [idx t]
      idx_bounds_all
      omega
    simp only [dif_pos h, Fin.sum_univ_eight]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_eight]
    blk_point [iblk, V, idx t, h0]

theorem algebraic : Cert.algebraic_Kernel25Ideal_Reference25Ideal := by
  pair_intro
  · run_from (Cert.Kernel25Ideal.Gen.run_main m g)
  · run_from (Cert.Reference25Ideal.Value.run m' g')
    · exact (final5 m c).symm
    · exact (final6 m c).symm
    · exact (final7 m c).symm
    · exact (final8 m c).symm

theorem frame : Cert.quiescent_Kernel25 := fun m g _ => Cert.Kernel25.Gen.frame m g
theorem frameIdeal : Cert.quiescent_Kernel25Ideal := fun m g _ => Cert.Kernel25Ideal.Gen.frame m g
theorem frameReference : Cert.quiescent_Reference25Ideal := fun m g _ =>
  (θ_run Cert.Reference25Ideal.defs _ _).mono (fun r h => ⟨fun c => (h c).2.2.2.2,
      sem_eq_zero_of_no_sems (by decide) r.2⟩)
    (Cert.Reference25Ideal.Value.run (F := Ideal) m g)

end Cert.Proof.V25

end
-- ==== Proof.V26.lean ====
/- `Kernel26Ideal` against `Reference26Ideal` at the extended reals, and the frames of the programs numbered 26. -/
module

public import proofs.«01_k».proof.Defs
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Reference26Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V26

open Idealize.ShloMosaic Idealize.ShloMosaic.TcCoe Idealize.SL.Sem
open Idealize.ShloMosaic.Pipeline (Dat)
open Cert.Kernel26Ideal Cert.Kernel26Ideal.Gen Cert.Reference26Ideal.Read

variable (m : (ℓ : Loc nD τ sig) → Buf (Elt Ideal) ℓ)

/-- The blocks that the windows hold at each point of the grid. -/
theorem idx : ∀ t : Fin cfg0.N, win0_0.index t = ![0, if t.val < 4 then t.val else 3, 0] ∧ win0_1.index t = ![0, if 4 ≤ t.val then t.val - 4 else 0, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val < 4
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4]
  · have i0 : win0_0.index t = ![0, t.val, 0] := by rw [(idx t).1, if_pos h0]
    have h : (((View.whole main_v0_0).slice (win0_5.rect t)).emb y 0).val < 1 := by
      blk_simp [idx t]
      idx_bounds_all
      omega
    simp only [dif_pos h, Fin.sum_univ_one]
    blk_point [iblk, V, i0, (idx t).2]
  · have i1 : win0_1.index t = ![0, t.val - 4, 0] := by rw [(idx t).2.1, if_pos (by omega)]
    have h : (((View.whole main_v0_0).slice (win0_5.rect t)).emb y 0).val ≥ 1 := by
      blk_simp [idx t]
      idx_bounds_all
      omega
    simp only [dif_neg (Nat.not_lt.mpr h), Fin.sum_univ_one]
    blk_point [iblk, V, i1, (idx t).2.2]

/-- Output window 6's array after the run is the reference's value. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val < 4
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  · have i0 : win0_0.index t = ![0, t.val, 0] := by rw [(idx t).1, if_pos h0]
    have h : (((View.whole main_v0_1).slice (win0_6.rect t)).emb y 0).val < 1 := by
      blk_simp [idx t]
      idx_bounds_all
      omega
    simp only [inv1, inv2, dif_pos h, Fin.sum_univ_one]
    blk_point [iblk, V, i0, (idx t).2]
  · have i1 : win0_1.index t = ![0, t.val - 4, 0] := by rw [(idx t).2.1, if_pos (by omega)]
    have h : (((View.whole main_v0_1).slice (win0_6.rect t)).emb y 0).val ≥ 1 := by
      blk_simp [idx t]
      idx_bounds_all
      omega
    simp only [inv1, inv2, dif_neg (Nat.not_lt.mpr h), Fin.sum_univ_one]
    blk_point [iblk, V, i1, (idx t).2.2]

/-- Output window 7's array after the run is the reference's value. -/
theorem final7 (c : Dev nD) : (dats m 0 c).arrAt 7 (cfgs 0).N
    = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val < 4
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9]
  · have i0 : win0_0.index t = ![0, t.val, 0] := by rw [(idx t).1, if_pos h0]
    have h : (((View.whole main_v0_2).slice (win0_7.rect t)).emb y 0).val < 1 := by
      blk_simp [idx t]
      idx_bounds_all
      omega
    simp only [dif_pos h, Fin.sum_univ_one]
    blk_point [iblk, V, i0, (idx t).2]
  · have i1 : win0_1.index t = ![0, t.val - 4, 0] := by rw [(idx t).2.1, if_pos (by omega)]
    have h : (((View.whole main_v0_2).slice (win0_7.rect t)).emb y 0).val ≥ 1 := by
      blk_simp [idx t]
      idx_bounds_all
      omega
    simp only [dif_neg (Nat.not_lt.mpr h), Fin.sum_univ_one]
    blk_point [iblk, V, i1, (idx t).2.2]

/-- Output window 8's array after the run is the reference's value. -/
theorem final8 (c : Dev nD) : (dats m 0 c).arrAt 8 (cfgs 0).N
    = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val < 4
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_3, val_main_v10, val_main_v11, val_main_v12, val_main_cst_4, val_main_v13, val_main_v14, val_main_v15]
  · have i0 : win0_0.index t = ![0, t.val, 0] := by rw [(idx t).1, if_pos h0]
    have h : (((View.whole main_v0_3).slice (win0_8.rect t)).emb y 0).val < 1 := by
      blk_simp [idx t]
      idx_bounds_all
      omega
    simp only [dif_pos h, Fin.sum_univ_one]
    blk_point [iblk, V, i0, (idx t).2]
  · have i1 : win0_1.index t = ![0, t.val - 4, 0] := by rw [(idx t).2.1, if_pos (by omega)]
    have h : (((View.whole main_v0_3).slice (win0_8.rect t)).emb y 0).val ≥ 1 := by
      blk_simp [idx t]
      idx_bounds_all
      omega
    simp only [dif_neg (Nat.not_lt.mpr h), Fin.sum_univ_one]
    blk_point [iblk, V, i1, (idx t).2.2]

theorem algebraic : Cert.algebraic_Kernel26Ideal_Reference26Ideal := by
  pair_intro
  · run_from (Cert.Kernel26Ideal.Gen.run_main m g)
  · run_from (Cert.Reference26Ideal.Value.run m' g')
    · exact (final5 m c).symm
    · exact (final6 m c).symm
    · exact (final7 m c).symm
    · exact (final8 m c).symm

theorem frame : Cert.quiescent_Kernel26 := fun m g _ => Cert.Kernel26.Gen.frame m g
theorem frameIdeal : Cert.quiescent_Kernel26Ideal := fun m g _ => Cert.Kernel26Ideal.Gen.frame m g
theorem frameReference : Cert.quiescent_Reference26Ideal := fun m g _ =>
  (θ_run Cert.Reference26Ideal.defs _ _).mono (fun r h => ⟨fun c => (h c).2.2.2.2,
      sem_eq_zero_of_no_sems (by decide) r.2⟩)
    (Cert.Reference26Ideal.Value.run (F := Ideal) m g)

end Cert.Proof.V26

end
-- ==== Proof.V27.lean ====
/- `Kernel27Ideal` against `Reference27Ideal` at the extended reals, and the frames of the programs numbered 27. -/
module

public import proofs.«01_k».proof.Defs
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Reference27Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V27

open Idealize.ShloMosaic Idealize.ShloMosaic.TcCoe Idealize.SL.Sem
open Idealize.ShloMosaic.Pipeline (Dat)
open Cert.Kernel27Ideal Cert.Kernel27Ideal.Gen Cert.Reference27Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4]
  · have h : (((View.whole main_v0_0).slice (win0_5.rect t)).emb y 0).val < 1 := by
      blk_simp [idx t]
      idx_bounds_all
      omega
    simp only [dif_pos h, Fin.sum_univ_one]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_one]
    blk_point [iblk, V, idx t, h0]

/-- Output window 6's array after the run is the reference's value. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  · have h : (((View.whole main_v0_1).slice (win0_6.rect t)).emb y 0).val < 1 := by
      blk_simp [idx t]
      idx_bounds_all
      omega
    simp only [inv1, inv2, dif_pos h, Fin.sum_univ_one]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_one]
    blk_point [iblk, V, idx t, h0]

/-- Output window 7's array after the run is the reference's value. -/
theorem final7 (c : Dev nD) : (dats m 0 c).arrAt 7 (cfgs 0).N
    = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9]
  · have h : (((View.whole main_v0_2).slice (win0_7.rect t)).emb y 0).val < 1 := by
      blk_simp [idx t]
      idx_bounds_all
      omega
    simp only [dif_pos h, Fin.sum_univ_one]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_one]
    blk_point [iblk, V, idx t, h0]

/-- Output window 8's array after the run is the reference's value. -/
theorem final8 (c : Dev nD) : (dats m 0 c).arrAt 8 (cfgs 0).N
    = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_3, val_main_v10, val_main_v11, val_main_v12, val_main_cst_4, val_main_v13, val_main_v14, val_main_v15]
  · have h : (((View.whole main_v0_3).slice (win0_8.rect t)).emb y 0).val < 1 := by
      blk_simp [idx t]
      idx_bounds_all
      omega
    simp only [dif_pos h, Fin.sum_univ_one]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_one]
    blk_point [iblk, V, idx t, h0]

theorem algebraic : Cert.algebraic_Kernel27Ideal_Reference27Ideal := by
  pair_intro
  · run_from (Cert.Kernel27Ideal.Gen.run_main m g)
  · run_from (Cert.Reference27Ideal.Value.run m' g')
    · exact (final5 m c).symm
    · exact (final6 m c).symm
    · exact (final7 m c).symm
    · exact (final8 m c).symm

theorem frame : Cert.quiescent_Kernel27 := fun m g _ => Cert.Kernel27.Gen.frame m g
theorem frameIdeal : Cert.quiescent_Kernel27Ideal := fun m g _ => Cert.Kernel27Ideal.Gen.frame m g
theorem frameReference : Cert.quiescent_Reference27Ideal := fun m g _ =>
  (θ_run Cert.Reference27Ideal.defs _ _).mono (fun r h => ⟨fun c => (h c).2.2.2.2,
      sem_eq_zero_of_no_sems (by decide) r.2⟩)
    (Cert.Reference27Ideal.Value.run (F := Ideal) m g)

end Cert.Proof.V27

end
-- ==== Proof.V28.lean ====
/- `Kernel28Ideal` against `Reference28Ideal` at the extended reals, and the frames of the programs numbered 28. -/
module

public import proofs.«01_k».proof.Defs
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Reference28Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V28

open Idealize.ShloMosaic Idealize.ShloMosaic.TcCoe Idealize.SL.Sem
open Idealize.ShloMosaic.Pipeline (Dat)
open Cert.Kernel28Ideal Cert.Kernel28Ideal.Gen Cert.Reference28Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4]
  · have h : (((View.whole main_v0_0).slice (win0_5.rect t)).emb y 0).val < 1 := by
      blk_simp [idx t]
      idx_bounds_all
      omega
    simp only [dif_pos h, Fin.sum_univ_one]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_one]
    blk_point [iblk, V, idx t, h0]

/-- Output window 6's array after the run is the reference's value. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  · have h : (((View.whole main_v0_1).slice (win0_6.rect t)).emb y 0).val < 1 := by
      blk_simp [idx t]
      idx_bounds_all
      omega
    simp only [inv1, inv2, dif_pos h, Fin.sum_univ_one]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_one]
    blk_point [iblk, V, idx t, h0]

/-- Output window 7's array after the run is the reference's value. -/
theorem final7 (c : Dev nD) : (dats m 0 c).arrAt 7 (cfgs 0).N
    = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9]
  · have h : (((View.whole main_v0_2).slice (win0_7.rect t)).emb y 0).val < 1 := by
      blk_simp [idx t]
      idx_bounds_all
      omega
    simp only [dif_pos h, Fin.sum_univ_one]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_one]
    blk_point [iblk, V, idx t, h0]

/-- Output window 8's array after the run is the reference's value. -/
theorem final8 (c : Dev nD) : (dats m 0 c).arrAt 8 (cfgs 0).N
    = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_3, val_main_v10, val_main_v11, val_main_v12, val_main_cst_4, val_main_v13, val_main_v14, val_main_v15]
  · have h : (((View.whole main_v0_3).slice (win0_8.rect t)).emb y 0).val < 1 := by
      blk_simp [idx t]
      idx_bounds_all
      omega
    simp only [dif_pos h, Fin.sum_univ_one]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_one]
    blk_point [iblk, V, idx t, h0]

theorem algebraic : Cert.algebraic_Kernel28Ideal_Reference28Ideal := by
  pair_intro
  · run_from (Cert.Kernel28Ideal.Gen.run_main m g)
  · run_from (Cert.Reference28Ideal.Value.run m' g')
    · exact (final5 m c).symm
    · exact (final6 m c).symm
    · exact (final7 m c).symm
    · exact (final8 m c).symm

theorem frame : Cert.quiescent_Kernel28 := fun m g _ => Cert.Kernel28.Gen.frame m g
theorem frameIdeal : Cert.quiescent_Kernel28Ideal := fun m g _ => Cert.Kernel28Ideal.Gen.frame m g
theorem frameReference : Cert.quiescent_Reference28Ideal := fun m g _ =>
  (θ_run Cert.Reference28Ideal.defs _ _).mono (fun r h => ⟨fun c => (h c).2.2.2.2,
      sem_eq_zero_of_no_sems (by decide) r.2⟩)
    (Cert.Reference28Ideal.Value.run (F := Ideal) m g)

end Cert.Proof.V28

end
-- ==== Proof.V29.lean ====
/- `Kernel29Ideal` against `Reference29Ideal` at the extended reals, and the frames of the programs numbered 29. -/
module

public import proofs.«01_k».proof.Defs
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Reference29Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V29

open Idealize.ShloMosaic Idealize.ShloMosaic.TcCoe Idealize.SL.Sem
open Idealize.ShloMosaic.Pipeline (Dat)
open Cert.Kernel29Ideal Cert.Kernel29Ideal.Gen Cert.Reference29Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4]
  · have h : (((View.whole main_v0_0).slice (win0_5.rect t)).emb y 0).val < 1 := by
      blk_simp [idx t]
      idx_bounds_all
      omega
    simp only [dif_pos h, Fin.sum_univ_one]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_one]
    blk_point [iblk, V, idx t, h0]

/-- Output window 6's array after the run is the reference's value. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  · have h : (((View.whole main_v0_1).slice (win0_6.rect t)).emb y 0).val < 1 := by
      blk_simp [idx t]
      idx_bounds_all
      omega
    simp only [inv1, inv2, dif_pos h, Fin.sum_univ_one]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_one]
    blk_point [iblk, V, idx t, h0]

/-- Output window 7's array after the run is the reference's value. -/
theorem final7 (c : Dev nD) : (dats m 0 c).arrAt 7 (cfgs 0).N
    = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9]
  · have h : (((View.whole main_v0_2).slice (win0_7.rect t)).emb y 0).val < 1 := by
      blk_simp [idx t]
      idx_bounds_all
      omega
    simp only [dif_pos h, Fin.sum_univ_one]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_one]
    blk_point [iblk, V, idx t, h0]

/-- Output window 8's array after the run is the reference's value. -/
theorem final8 (c : Dev nD) : (dats m 0 c).arrAt 8 (cfgs 0).N
    = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_3, val_main_v10, val_main_v11, val_main_v12, val_main_cst_4, val_main_v13, val_main_v14, val_main_v15]
  · have h : (((View.whole main_v0_3).slice (win0_8.rect t)).emb y 0).val < 1 := by
      blk_simp [idx t]
      idx_bounds_all
      omega
    simp only [dif_pos h, Fin.sum_univ_one]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_one]
    blk_point [iblk, V, idx t, h0]

theorem algebraic : Cert.algebraic_Kernel29Ideal_Reference29Ideal := by
  pair_intro
  · run_from (Cert.Kernel29Ideal.Gen.run_main m g)
  · run_from (Cert.Reference29Ideal.Value.run m' g')
    · exact (final5 m c).symm
    · exact (final6 m c).symm
    · exact (final7 m c).symm
    · exact (final8 m c).symm

theorem frame : Cert.quiescent_Kernel29 := fun m g _ => Cert.Kernel29.Gen.frame m g
theorem frameIdeal : Cert.quiescent_Kernel29Ideal := fun m g _ => Cert.Kernel29Ideal.Gen.frame m g
theorem frameReference : Cert.quiescent_Reference29Ideal := fun m g _ =>
  (θ_run Cert.Reference29Ideal.defs _ _).mono (fun r h => ⟨fun c => (h c).2.2.2.2,
      sem_eq_zero_of_no_sems (by decide) r.2⟩)
    (Cert.Reference29Ideal.Value.run (F := Ideal) m g)

end Cert.Proof.V29

end
-- ==== Proof.V30.lean ====
/- `Kernel30Ideal` against `Reference30Ideal` at the extended reals, and the frames of the programs numbered 30. -/
module

public import proofs.«01_k».proof.Defs
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Reference30Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V30

open Idealize.ShloMosaic Idealize.ShloMosaic.TcCoe Idealize.SL.Sem
open Idealize.ShloMosaic.Pipeline (Dat)
open Cert.Kernel30Ideal Cert.Kernel30Ideal.Gen Cert.Reference30Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4]
  · have h : (((View.whole main_v0_0).slice (win0_5.rect t)).emb y 0).val < 1 := by
      blk_simp [idx t]
      idx_bounds_all
      omega
    simp only [dif_pos h, Fin.sum_univ_one]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_one]
    blk_point [iblk, V, idx t, h0]

/-- Output window 6's array after the run is the reference's value. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  · have h : (((View.whole main_v0_1).slice (win0_6.rect t)).emb y 0).val < 1 := by
      blk_simp [idx t]
      idx_bounds_all
      omega
    simp only [inv1, inv2, dif_pos h, Fin.sum_univ_one]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_one]
    blk_point [iblk, V, idx t, h0]

/-- Output window 7's array after the run is the reference's value. -/
theorem final7 (c : Dev nD) : (dats m 0 c).arrAt 7 (cfgs 0).N
    = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9]
  · have h : (((View.whole main_v0_2).slice (win0_7.rect t)).emb y 0).val < 1 := by
      blk_simp [idx t]
      idx_bounds_all
      omega
    simp only [dif_pos h, Fin.sum_univ_one]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_one]
    blk_point [iblk, V, idx t, h0]

/-- Output window 8's array after the run is the reference's value. -/
theorem final8 (c : Dev nD) : (dats m 0 c).arrAt 8 (cfgs 0).N
    = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_3, val_main_v10, val_main_v11, val_main_v12, val_main_cst_4, val_main_v13, val_main_v14, val_main_v15]
  · have h : (((View.whole main_v0_3).slice (win0_8.rect t)).emb y 0).val < 1 := by
      blk_simp [idx t]
      idx_bounds_all
      omega
    simp only [dif_pos h, Fin.sum_univ_one]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_one]
    blk_point [iblk, V, idx t, h0]

theorem algebraic : Cert.algebraic_Kernel30Ideal_Reference30Ideal := by
  pair_intro
  · run_from (Cert.Kernel30Ideal.Gen.run_main m g)
  · run_from (Cert.Reference30Ideal.Value.run m' g')
    · exact (final5 m c).symm
    · exact (final6 m c).symm
    · exact (final7 m c).symm
    · exact (final8 m c).symm

theorem frame : Cert.quiescent_Kernel30 := fun m g _ => Cert.Kernel30.Gen.frame m g
theorem frameIdeal : Cert.quiescent_Kernel30Ideal := fun m g _ => Cert.Kernel30Ideal.Gen.frame m g
theorem frameReference : Cert.quiescent_Reference30Ideal := fun m g _ =>
  (θ_run Cert.Reference30Ideal.defs _ _).mono (fun r h => ⟨fun c => (h c).2.2.2.2,
      sem_eq_zero_of_no_sems (by decide) r.2⟩)
    (Cert.Reference30Ideal.Value.run (F := Ideal) m g)

end Cert.Proof.V30

end
-- ==== Proof.V31.lean ====
/- `Kernel31Ideal` against `Reference31Ideal` at the extended reals, and the frames of the programs numbered 31. -/
module

public import proofs.«01_k».proof.Defs
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Reference31Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V31

open Idealize.ShloMosaic Idealize.ShloMosaic.TcCoe Idealize.SL.Sem
open Idealize.ShloMosaic.Pipeline (Dat)
open Cert.Kernel31Ideal Cert.Kernel31Ideal.Gen Cert.Reference31Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4]
  · have h : (((View.whole main_v0_0).slice (win0_5.rect t)).emb y 0).val < 1 := by
      blk_simp [idx t]
      idx_bounds_all
      omega
    simp only [dif_pos h, Fin.sum_univ_one]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_one]
    blk_point [iblk, V, idx t, h0]

/-- Output window 6's array after the run is the reference's value. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  · have h : (((View.whole main_v0_1).slice (win0_6.rect t)).emb y 0).val < 1 := by
      blk_simp [idx t]
      idx_bounds_all
      omega
    simp only [inv1, inv2, dif_pos h, Fin.sum_univ_one]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_one]
    blk_point [iblk, V, idx t, h0]

/-- Output window 7's array after the run is the reference's value. -/
theorem final7 (c : Dev nD) : (dats m 0 c).arrAt 7 (cfgs 0).N
    = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9]
  · have h : (((View.whole main_v0_2).slice (win0_7.rect t)).emb y 0).val < 1 := by
      blk_simp [idx t]
      idx_bounds_all
      omega
    simp only [dif_pos h, Fin.sum_univ_one]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_one]
    blk_point [iblk, V, idx t, h0]

/-- Output window 8's array after the run is the reference's value. -/
theorem final8 (c : Dev nD) : (dats m 0 c).arrAt 8 (cfgs 0).N
    = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_3, val_main_v10, val_main_v11, val_main_v12, val_main_cst_4, val_main_v13, val_main_v14, val_main_v15]
  · have h : (((View.whole main_v0_3).slice (win0_8.rect t)).emb y 0).val < 1 := by
      blk_simp [idx t]
      idx_bounds_all
      omega
    simp only [dif_pos h, Fin.sum_univ_one]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_one]
    blk_point [iblk, V, idx t, h0]

theorem algebraic : Cert.algebraic_Kernel31Ideal_Reference31Ideal := by
  pair_intro
  · run_from (Cert.Kernel31Ideal.Gen.run_main m g)
  · run_from (Cert.Reference31Ideal.Value.run m' g')
    · exact (final5 m c).symm
    · exact (final6 m c).symm
    · exact (final7 m c).symm
    · exact (final8 m c).symm

theorem frame : Cert.quiescent_Kernel31 := fun m g _ => Cert.Kernel31.Gen.frame m g
theorem frameIdeal : Cert.quiescent_Kernel31Ideal := fun m g _ => Cert.Kernel31Ideal.Gen.frame m g
theorem frameReference : Cert.quiescent_Reference31Ideal := fun m g _ =>
  (θ_run Cert.Reference31Ideal.defs _ _).mono (fun r h => ⟨fun c => (h c).2.2.2.2,
      sem_eq_zero_of_no_sems (by decide) r.2⟩)
    (Cert.Reference31Ideal.Value.run (F := Ideal) m g)

end Cert.Proof.V31

end
-- ==== Proof.V32.lean ====
/- `Kernel32Ideal` against `Reference32Ideal` at the extended reals, and the frames of the programs numbered 32. -/
module

public import proofs.«01_k».proof.Defs
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Reference32Ideal.Read
public import proofs.«01_k».proof.Proof.Adam
public import Idealize.ShloMosaic.Lib.Pipeline.ValueKit
public import Idealize.ShloMosaic.Lib.Claim

@[expose] public section

set_option maxRecDepth 16384

noncomputable section

namespace Cert.Proof.V32

open Idealize.ShloMosaic Idealize.ShloMosaic.TcCoe Idealize.SL.Sem
open Idealize.ShloMosaic.Pipeline (Dat)
open Cert.Kernel32Ideal Cert.Kernel32Ideal.Gen Cert.Reference32Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The named constants are the reciprocals of the bias corrections. -/
theorem inv1 (x : EReal) : x * Named.named (F := Ideal) κ "inv_bias1" (φ := .f32) 0x3FC48605#32
    = Ideal.div x (Ideal.ofBits .f32 0x3F26BD02#32) := div_bias1 x

theorem inv2 (x : EReal) : x * Named.named (F := Ideal) κ "inv_bias2" (φ := .f32) 0x42C8E6D3#32
    = Ideal.div x (Ideal.ofBits .f32 0x3C231ACC#32) := div_bias2 x

/-- Output window 5's array after the run is the reference's value. -/
theorem final5 (c : Dev nD) : (dats m 0 c).arrAt 5 (cfgs 0).N
    = val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4]
  · have h : (((View.whole main_v0_0).slice (win0_5.rect t)).emb y 0).val < 1 := by
      blk_simp [idx t]
      idx_bounds_all
      omega
    simp only [dif_pos h, Fin.sum_univ_one]
    blk_point [iblk, V, idx t, h0]
  · have h : (((View.whole main_v0_0).slice (win0_5.rect t)).emb y 0).val ≥ 1 := by
      blk_simp [idx t]
      idx_bounds_all
      omega
    simp only [dif_neg (Nat.not_lt.mpr h), Fin.sum_univ_one]
    blk_point [iblk, V, idx t, h0]

/-- Output window 6's array after the run is the reference's value. -/
theorem final6 (c : Dev nD) : (dats m 0 c).arrAt 6 (cfgs 0).N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  · have h : (((View.whole main_v0_1).slice (win0_6.rect t)).emb y 0).val < 1 := by
      blk_simp [idx t]
      idx_bounds_all
      omega
    simp only [inv1, inv2, dif_pos h, Fin.sum_univ_one]
    blk_point [iblk, V, idx t, h0]
  · have h : (((View.whole main_v0_1).slice (win0_6.rect t)).emb y 0).val ≥ 1 := by
      blk_simp [idx t]
      idx_bounds_all
      omega
    simp only [inv1, inv2, dif_neg (Nat.not_lt.mpr h), Fin.sum_univ_one]
    blk_point [iblk, V, idx t, h0]

/-- Output window 7's array after the run is the reference's value. -/
theorem final7 (c : Dev nD) : (dats m 0 c).arrAt 7 (cfgs 0).N
    = val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_1, val_main_v5, val_main_v6, val_main_cst_2, val_main_v7, val_main_v8, val_main_v9]
  · have h : (((View.whole main_v0_2).slice (win0_7.rect t)).emb y 0).val < 1 := by
      blk_simp [idx t]
      idx_bounds_all
      omega
    simp only [dif_pos h, Fin.sum_univ_one]
    blk_point [iblk, V, idx t, h0]
  · have h : (((View.whole main_v0_2).slice (win0_7.rect t)).emb y 0).val ≥ 1 := by
      blk_simp [idx t]
      idx_bounds_all
      omega
    simp only [dif_neg (Nat.not_lt.mpr h), Fin.sum_univ_one]
    blk_point [iblk, V, idx t, h0]

/-- Output window 8's array after the run is the reference's value. -/
theorem final8 (c : Dev nD) : (dats m 0 c).arrAt 8 (cfgs 0).N
    = val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  on_goal 1 => rw [outsAt0_A m c t h0 (by omega)]
  on_goal 2 => rw [outsAt0_B m c t h0 (by omega)]
  all_goals frame_out
  all_goals pointwise [k0_pay9, k0_pay8, k0_pay7, k0_pay6, k0_pay5, k0_pay4, k0_pay3, k0_pay2, k0_pay16, k0_pay15, k0_pay14, k0_pay13, k0_pay12, k0_pay11, k0_pay10, k0_pay1, val_main_cst, val_main_v0, val_main_cst_0, val_main_v1, val_main_v2, val_main_v3, val_main_v4, val_main_cst_3, val_main_v10, val_main_v11, val_main_v12, val_main_cst_4, val_main_v13, val_main_v14, val_main_v15]
  · have h : (((View.whole main_v0_3).slice (win0_8.rect t)).emb y 0).val < 1 := by
      blk_simp [idx t]
      idx_bounds_all
      omega
    simp only [dif_pos h, Fin.sum_univ_one]
    blk_point [iblk, V, idx t, h0]
  · have h : (((View.whole main_v0_3).slice (win0_8.rect t)).emb y 0).val ≥ 1 := by
      blk_simp [idx t]
      idx_bounds_all
      omega
    simp only [dif_neg (Nat.not_lt.mpr h), Fin.sum_univ_one]
    blk_point [iblk, V, idx t, h0]

theorem algebraic : Cert.algebraic_Kernel32Ideal_Reference32Ideal := by
  pair_intro
  · run_from (Cert.Kernel32Ideal.Gen.run_main m g)
  · run_from (Cert.Reference32Ideal.Value.run m' g')
    · exact (final5 m c).symm
    · exact (final6 m c).symm
    · exact (final7 m c).symm
    · exact (final8 m c).symm

theorem frame : Cert.quiescent_Kernel32 := fun m g _ => Cert.Kernel32.Gen.frame m g
theorem frameIdeal : Cert.quiescent_Kernel32Ideal := fun m g _ => Cert.Kernel32Ideal.Gen.frame m g
theorem frameReference : Cert.quiescent_Reference32Ideal := fun m g _ =>
  (θ_run Cert.Reference32Ideal.defs _ _).mono (fun r h => ⟨fun c => (h c).2.2.2.2,
      sem_eq_zero_of_no_sems (by decide) r.2⟩)
    (Cert.Reference32Ideal.Value.run (F := Ideal) m g)

end Cert.Proof.V32

end
-- ==== Proof.V33.lean ====
/- `Kernel33Ideal` against `Reference33Ideal` at the extended reals, and the frames of the programs numbered 33. -/
module

public import proofs.«01_k».proof.Defs
public import proofs.«01_k».proof.Proof.Gen.Kernel33.Frame
public import proofs.«01_k».proof.Proof.Gen.Kernel33Ideal.Frame
public import proofs.«01_k».proof.Proof.Gen.Reference33Ideal.Run
public import proofs.«01_k».proof.Proof.Gen.Reference33Ideal.Read
public import Idealize.ShloMosaic.Lib.Pipeline.ValueKit
public import Idealize.ShloMosaic.Lib.Claim

@[expose] public section

set_option maxRecDepth 16384

noncomputable section

namespace Cert.Proof.V33

open Idealize.ShloMosaic Idealize.ShloMosaic.TcCoe Idealize.SL.Sem
open Idealize.ShloMosaic.Pipeline (Dat)
open Cert.Kernel33Ideal Cert.Kernel33Ideal.Gen Cert.Reference33Ideal.Read

variable (m : (ℓ : Loc nD τ sig) → Buf (Elt Ideal) ℓ)

/-- The blocks that the windows hold at each point of the grid. -/
theorem idx : ∀ t : Fin cfg0.N, win0_0.index t = ![0, 0, 0] ∧ win0_1.index t = ![0, 0] :=
  (by decide +kernel : ∀ t : Fin grid0.N, _)

/-- Output window 1's array after the run is the reference's value. -/
theorem final (c : Dev nD) : (dats m 0 c).arrAt 1 (cfgs 0).N
    = val_main_v0 (F := Ideal) (m ((c : Thread nD τ).loc main_arg0)) := by
  refine (dats m 0 c).arrAt_eq_of_covers 1 _ (by decide +kernel) fun t hf y => ?_
  blk_simp
  rw [after0_1]
  frame_out
  pointwise [k0_pay1, val_main_cst, val_main_v0]
  simp only [Fin.sum_univ_eight]
  blk_point [iblk, V, idx t]

set_option maxHeartbeats 4000000 in
theorem algebraic : Cert.algebraic_Kernel33Ideal_Reference33Ideal := by
  pair_intro
  · run_from (Cert.Kernel33Ideal.Gen.run_main m g)
  · run_from (Cert.Reference33Ideal.Value.run m' g')
    · exact (final m c).symm

theorem frame : Cert.quiescent_Kernel33 := fun m g _ => Cert.Kernel33.Gen.frame m g
theorem frameIdeal : Cert.quiescent_Kernel33Ideal := fun m g _ => Cert.Kernel33Ideal.Gen.frame m g
theorem frameReference : Cert.quiescent_Reference33Ideal := fun m g _ =>
  (θ_run Cert.Reference33Ideal.defs _ _).mono (fun r h => ⟨fun c => (h c).2,
      sem_eq_zero_of_no_sems (by decide) r.2⟩)
    (Cert.Reference33Ideal.Value.run (F := Ideal) m g)

end Cert.Proof.V33

end
-- ==== Proof.V35.lean ====
/- `Kernel35Ideal` against `Reference35Ideal` at the extended reals, and the frames of the programs numbered 35. -/
module

public import proofs.«01_k».proof.Defs
public import proofs.«01_k».proof.Proof.Gen.Kernel35.Frame
public import proofs.«01_k».proof.Proof.Gen.Kernel35Ideal.Frame
public import proofs.«01_k».proof.Proof.Gen.Reference35Ideal.Run
public import proofs.«01_k».proof.Proof.Gen.Reference35Ideal.Read

public import Idealize.ShloMosaic.Lib.Pipeline.ValueKit
public import Idealize.ShloMosaic.Lib.Claim

@[expose] public section

set_option maxRecDepth 16384

noncomputable section

namespace Cert.Proof.V35

open Idealize.ShloMosaic Idealize.ShloMosaic.TcCoe Idealize.SL.Sem
open Idealize.ShloMosaic.Pipeline (Dat)
open Cert.Kernel35Ideal Cert.Kernel35Ideal.Gen Cert.Reference35Ideal.Read

variable (m : (ℓ : Loc nD τ sig) → Buf (Elt Ideal) ℓ)

/-- The blocks that the windows hold at each point of the grid. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- Output window 4's array after the run is the reference's value. -/
theorem final (c : Dev nD) : (dats m 0 c).arrAt 4 (cfgs 0).N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14, val_main_v15, val_main_v16, val_main_v17, val_main_v18]
  blk_point [iblk, V, idx t]

theorem algebraic : Cert.algebraic_Kernel35Ideal_Reference35Ideal := by
  pair_intro
  · run_from (Cert.Kernel35Ideal.Gen.run_main m g)
  · run_from (Cert.Reference35Ideal.Value.run m' g')
    · exact (final m c).symm

theorem frame : Cert.quiescent_Kernel35 := fun m g _ => Cert.Kernel35.Gen.frame m g
theorem frameIdeal : Cert.quiescent_Kernel35Ideal := fun m g _ => Cert.Kernel35Ideal.Gen.frame m g
theorem frameReference : Cert.quiescent_Reference35Ideal := fun m g _ =>
  (θ_run Cert.Reference35Ideal.defs _ _).mono (fun r h => ⟨fun c => (h c).2,
      sem_eq_zero_of_no_sems (by decide) r.2⟩)
    (Cert.Reference35Ideal.Value.run (F := Ideal) m g)

end Cert.Proof.V35

end
-- ==== Proof.V36.lean ====
/- `Kernel36Ideal` against `Reference36Ideal` at the extended reals, and the frames of the programs numbered 36. -/
module

public import proofs.«01_k».proof.Defs
public import proofs.«01_k».proof.Proof.Gen.Kernel36.Frame
public import proofs.«01_k».proof.Proof.Gen.Kernel36Ideal.Frame
public import proofs.«01_k».proof.Proof.Gen.Reference36Ideal.Run
public import proofs.«01_k».proof.Proof.Gen.Reference36Ideal.Read
public import Idealize.ShloMosaic.Lib.Pipeline.ValueKit
public import Idealize.ShloMosaic.Lib.Claim

@[expose] public section

set_option maxRecDepth 16384

noncomputable section

namespace Cert.Proof.V36

open Idealize.ShloMosaic Idealize.ShloMosaic.TcCoe Idealize.SL.Sem
open Idealize.ShloMosaic.Pipeline (Dat)
open Cert.Kernel36Ideal Cert.Kernel36Ideal.Gen Cert.Reference36Ideal.Read

variable (m : (ℓ : Loc nD τ sig) → Buf (Elt Ideal) ℓ)

/-- The blocks that the windows hold at each point of the grid. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- Output window 7's array after the run is the reference's value. -/
theorem final7 (c : Dev nD) : (dats m 0 c).arrAt 7 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay3, k0_pay2, k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]
  blk_point [iblk, V, idx t]

/-- Output window 8's array after the run is the reference's value. -/
theorem final8 (c : Dev nD) : (dats m 0 c).arrAt 8 (cfgs 0).N
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  frame_out
  pointwise [k0_pay3, k0_pay2, k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_cst_2, val_main_v16, val_main_v17, val_main_cst_3, val_main_v18, val_main_v19, val_main_cst_4, val_main_v20, val_main_v21, val_main_v22, val_main_v23, val_main_v24, val_main_v25, val_main_v26, val_main_cst_5, val_main_v27, val_main_v28, val_main_v29, val_main_v30, val_main_v31, val_main_v32, val_main_v33]
  blk_point [iblk, V, idx t]

theorem algebraic : Cert.algebraic_Kernel36Ideal_Reference36Ideal := by
  pair_intro
  · run_from (Cert.Kernel36Ideal.Gen.run_main m g)
  · run_from (Cert.Reference36Ideal.Value.run m' g')
    · exact (final7 m c).symm
    · exact (final8 m c).symm

theorem frame : Cert.quiescent_Kernel36 := fun m g _ => Cert.Kernel36.Gen.frame m g
theorem frameIdeal : Cert.quiescent_Kernel36Ideal := fun m g _ => Cert.Kernel36Ideal.Gen.frame m g
theorem frameReference : Cert.quiescent_Reference36Ideal := fun m g _ =>
  (θ_run Cert.Reference36Ideal.defs _ _).mono (fun r h => ⟨fun c => (h c).2.2,
      sem_eq_zero_of_no_sems (by decide) r.2⟩)
    (Cert.Reference36Ideal.Value.run (F := Ideal) m g)

end Cert.Proof.V36

end
-- ==== Proof.V37.lean ====
/- `Kernel37Ideal` against `Reference37Ideal` at the extended reals, and the frames of the programs numbered 37. -/
module

public import proofs.«01_k».proof.Defs
public import proofs.«01_k».proof.Proof.Gen.Kernel37.Frame
public import proofs.«01_k».proof.Proof.Gen.Kernel37Ideal.Frame
public import proofs.«01_k».proof.Proof.Gen.Reference37Ideal.Run
public import proofs.«01_k».proof.Proof.Gen.Reference37Ideal.Read

public import Idealize.ShloMosaic.Lib.Pipeline.ValueKit
public import Idealize.ShloMosaic.Lib.Claim

@[expose] public section

set_option maxRecDepth 16384

noncomputable section

namespace Cert.Proof.V37

open Idealize.ShloMosaic Idealize.ShloMosaic.TcCoe Idealize.SL.Sem
open Idealize.ShloMosaic.Pipeline (Dat)
open Cert.Kernel37Ideal Cert.Kernel37Ideal.Gen Cert.Reference37Ideal.Read

variable (m : (ℓ : Loc nD τ sig) → Buf (Elt Ideal) ℓ)

/-- The blocks that the windows hold at each point of the grid. -/
theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

/-- Output window 4's array after the run is the reference's value. -/
theorem final (c : Dev nD) : (dats m 0 c).arrAt 4 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]
  blk_point [iblk, V, idx t]

theorem algebraic : Cert.algebraic_Kernel37Ideal_Reference37Ideal := by
  pair_intro
  · run_from (Cert.Kernel37Ideal.Gen.run_main m g)
  · run_from (Cert.Reference37Ideal.Value.run m' g')
    · exact (final m c).symm

theorem frame : Cert.quiescent_Kernel37 := fun m g _ => Cert.Kernel37.Gen.frame m g
theorem frameIdeal : Cert.quiescent_Kernel37Ideal := fun m g _ => Cert.Kernel37Ideal.Gen.frame m g
theorem frameReference : Cert.quiescent_Reference37Ideal := fun m g _ =>
  (θ_run Cert.Reference37Ideal.defs _ _).mono (fun r h => ⟨fun c => (h c).2,
      sem_eq_zero_of_no_sems (by decide) r.2⟩)
    (Cert.Reference37Ideal.Value.run (F := Ideal) m g)

end Cert.Proof.V37

end
-- ==== Proof.lean ====
module

public import proofs.«01_k».proof.Defs
public import proofs.«01_k».proof.Proof.FrameK
public import proofs.«01_k».proof.Proof.KFrameK
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite4
public import proofs.«01_k».proof.Proof.V2
public import proofs.«01_k».proof.Proof.V3
public import proofs.«01_k».proof.Proof.V4
public import proofs.«01_k».proof.Proof.V5
public import proofs.«01_k».proof.Proof.V6
public import proofs.«01_k».proof.Proof.V7
public import proofs.«01_k».proof.Proof.V8
public import proofs.«01_k».proof.Proof.V9
public import proofs.«01_k».proof.Proof.V10
public import proofs.«01_k».proof.Proof.V11
public import proofs.«01_k».proof.Proof.V12
public import proofs.«01_k».proof.Proof.V13
public import proofs.«01_k».proof.Proof.V14
public import proofs.«01_k».proof.Proof.V15
public import proofs.«01_k».proof.Proof.V16
public import proofs.«01_k».proof.Proof.V17
public import proofs.«01_k».proof.Proof.V18
public import proofs.«01_k».proof.Proof.V19
public import proofs.«01_k».proof.Proof.V20
public import proofs.«01_k».proof.Proof.V21
public import proofs.«01_k».proof.Proof.V22
public import proofs.«01_k».proof.Proof.V23
public import proofs.«01_k».proof.Proof.V24
public import proofs.«01_k».proof.Proof.V25
public import proofs.«01_k».proof.Proof.V26
public import proofs.«01_k».proof.Proof.V27
public import proofs.«01_k».proof.Proof.V28
public import proofs.«01_k».proof.Proof.V29
public import proofs.«01_k».proof.Proof.V30
public import proofs.«01_k».proof.Proof.V31
public import proofs.«01_k».proof.Proof.V32
public import proofs.«01_k».proof.Proof.V33
public import proofs.«01_k».proof.Proof.V35
public import proofs.«01_k».proof.Proof.V36
public import proofs.«01_k».proof.Proof.V37
public import Idealize.ShloMosaic.Adequacy
public import Idealize.ShloMosaic.Init

@[expose] public section

noncomputable section

namespace Cert.Proof

open Idealize.ShloMosaic Idealize.SL.Sem

theorem frameKernel : Cert.quiescent_Kernel := fun m ρ _ => Cert.Proof.Kernel.frame m ρ
theorem frameKernelIdeal : Cert.quiescent_KernelIdeal := fun m ρ _ => Cert.Proof.KernelIdeal.frame m ρ
theorem frameReferenceIdeal : Cert.quiescent_ReferenceIdeal := fun m ρ _ =>
  (θ_run Cert.ReferenceIdeal.defs _ _).mono (fun r h => ⟨fun c => (h c).2.2.2.2.2,
      sem_eq_zero_of_no_sems (by decide) r.2⟩)
    (Cert.ReferenceIdeal.Value.run (F := Ideal) m ρ)

/-- The attention's one named constant: the causal mask's fill is −∞ over the extended reals. -/
theorem preserves : Cert.preserves_Kernel_KernelIdeal :=
  IdealRules.named_const.statement Cert.KernelIdeal.κ "mask" .f32 0xF149F2CA#32 ⊥ rfl

/-- The optimiser's two named constants are the reciprocals of the reference's bias corrections. -/
theorem preserves20 : Cert.preserves_Kernel20_Kernel20Ideal :=
  ⟨IdealRules.named_const.statement Cert.Kernel20Ideal.κ "inv_bias1" .f32 0x3FC48605#32 (((5463681 / 8388608)⁻¹ : ℝ) : EReal) rfl,
   IdealRules.named_const.statement Cert.Kernel20Ideal.κ "inv_bias2" .f32 0x42C8E6D3#32 (((2672307 / 268435456)⁻¹ : ℝ) : EReal) rfl⟩

theorem preserves21 : Cert.preserves_Kernel21_Kernel21Ideal :=
  ⟨IdealRules.named_const.statement Cert.Kernel21Ideal.κ "inv_bias1" .f32 0x3FC48605#32 (((5463681 / 8388608)⁻¹ : ℝ) : EReal) rfl,
   IdealRules.named_const.statement Cert.Kernel21Ideal.κ "inv_bias2" .f32 0x42C8E6D3#32 (((2672307 / 268435456)⁻¹ : ℝ) : EReal) rfl⟩

theorem preserves22 : Cert.preserves_Kernel22_Kernel22Ideal :=
  ⟨IdealRules.named_const.statement Cert.Kernel22Ideal.κ "inv_bias1" .f32 0x3FC48605#32 (((5463681 / 8388608)⁻¹ : ℝ) : EReal) rfl,
   IdealRules.named_const.statement Cert.Kernel22Ideal.κ "inv_bias2" .f32 0x42C8E6D3#32 (((2672307 / 268435456)⁻¹ : ℝ) : EReal) rfl⟩

theorem preserves23 : Cert.preserves_Kernel23_Kernel23Ideal :=
  ⟨IdealRules.named_const.statement Cert.Kernel23Ideal.κ "inv_bias1" .f32 0x3FC48605#32 (((5463681 / 8388608)⁻¹ : ℝ) : EReal) rfl,
   IdealRules.named_const.statement Cert.Kernel23Ideal.κ "inv_bias2" .f32 0x42C8E6D3#32 (((2672307 / 268435456)⁻¹ : ℝ) : EReal) rfl⟩

theorem preserves24 : Cert.preserves_Kernel24_Kernel24Ideal :=
  ⟨IdealRules.named_const.statement Cert.Kernel24Ideal.κ "inv_bias1" .f32 0x3FC48605#32 (((5463681 / 8388608)⁻¹ : ℝ) : EReal) rfl,
   IdealRules.named_const.statement Cert.Kernel24Ideal.κ "inv_bias2" .f32 0x42C8E6D3#32 (((2672307 / 268435456)⁻¹ : ℝ) : EReal) rfl⟩

theorem preserves25 : Cert.preserves_Kernel25_Kernel25Ideal :=
  ⟨IdealRules.named_const.statement Cert.Kernel25Ideal.κ "inv_bias1" .f32 0x3FC48605#32 (((5463681 / 8388608)⁻¹ : ℝ) : EReal) rfl,
   IdealRules.named_const.statement Cert.Kernel25Ideal.κ "inv_bias2" .f32 0x42C8E6D3#32 (((2672307 / 268435456)⁻¹ : ℝ) : EReal) rfl⟩

theorem preserves26 : Cert.preserves_Kernel26_Kernel26Ideal :=
  ⟨IdealRules.named_const.statement Cert.Kernel26Ideal.κ "inv_bias1" .f32 0x3FC48605#32 (((5463681 / 8388608)⁻¹ : ℝ) : EReal) rfl,
   IdealRules.named_const.statement Cert.Kernel26Ideal.κ "inv_bias2" .f32 0x42C8E6D3#32 (((2672307 / 268435456)⁻¹ : ℝ) : EReal) rfl⟩

theorem preserves27 : Cert.preserves_Kernel27_Kernel27Ideal :=
  ⟨IdealRules.named_const.statement Cert.Kernel27Ideal.κ "inv_bias1" .f32 0x3FC48605#32 (((5463681 / 8388608)⁻¹ : ℝ) : EReal) rfl,
   IdealRules.named_const.statement Cert.Kernel27Ideal.κ "inv_bias2" .f32 0x42C8E6D3#32 (((2672307 / 268435456)⁻¹ : ℝ) : EReal) rfl⟩

theorem preserves28 : Cert.preserves_Kernel28_Kernel28Ideal :=
  ⟨IdealRules.named_const.statement Cert.Kernel28Ideal.κ "inv_bias1" .f32 0x3FC48605#32 (((5463681 / 8388608)⁻¹ : ℝ) : EReal) rfl,
   IdealRules.named_const.statement Cert.Kernel28Ideal.κ "inv_bias2" .f32 0x42C8E6D3#32 (((2672307 / 268435456)⁻¹ : ℝ) : EReal) rfl⟩

theorem preserves29 : Cert.preserves_Kernel29_Kernel29Ideal :=
  ⟨IdealRules.named_const.statement Cert.Kernel29Ideal.κ "inv_bias1" .f32 0x3FC48605#32 (((5463681 / 8388608)⁻¹ : ℝ) : EReal) rfl,
   IdealRules.named_const.statement Cert.Kernel29Ideal.κ "inv_bias2" .f32 0x42C8E6D3#32 (((2672307 / 268435456)⁻¹ : ℝ) : EReal) rfl⟩

theorem preserves30 : Cert.preserves_Kernel30_Kernel30Ideal :=
  ⟨IdealRules.named_const.statement Cert.Kernel30Ideal.κ "inv_bias1" .f32 0x3FC48605#32 (((5463681 / 8388608)⁻¹ : ℝ) : EReal) rfl,
   IdealRules.named_const.statement Cert.Kernel30Ideal.κ "inv_bias2" .f32 0x42C8E6D3#32 (((2672307 / 268435456)⁻¹ : ℝ) : EReal) rfl⟩

theorem preserves31 : Cert.preserves_Kernel31_Kernel31Ideal :=
  ⟨IdealRules.named_const.statement Cert.Kernel31Ideal.κ "inv_bias1" .f32 0x3FC48605#32 (((5463681 / 8388608)⁻¹ : ℝ) : EReal) rfl,
   IdealRules.named_const.statement Cert.Kernel31Ideal.κ "inv_bias2" .f32 0x42C8E6D3#32 (((2672307 / 268435456)⁻¹ : ℝ) : EReal) rfl⟩

theorem preserves32 : Cert.preserves_Kernel32_Kernel32Ideal :=
  ⟨IdealRules.named_const.statement Cert.Kernel32Ideal.κ "inv_bias1" .f32 0x3FC48605#32 (((5463681 / 8388608)⁻¹ : ℝ) : EReal) rfl,
   IdealRules.named_const.statement Cert.Kernel32Ideal.κ "inv_bias2" .f32 0x42C8E6D3#32 (((2672307 / 268435456)⁻¹ : ℝ) : EReal) rfl⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Kernel20.Gen.facts,
    Cert.Kernel20Ideal.Gen.facts, Cert.Reference20Ideal.Gen.facts, Cert.Kernel21.Gen.facts,
    Cert.Kernel21Ideal.Gen.facts, Cert.Reference21Ideal.Gen.facts, Cert.Kernel22.Gen.facts,
    Cert.Kernel22Ideal.Gen.facts, Cert.Reference22Ideal.Gen.facts, Cert.Kernel23.Gen.facts,
    Cert.Kernel23Ideal.Gen.facts, Cert.Reference23Ideal.Gen.facts, Cert.Kernel24.Gen.facts,
    Cert.Kernel24Ideal.Gen.facts, Cert.Reference24Ideal.Gen.facts, Cert.Kernel25.Gen.facts,
    Cert.Kernel25Ideal.Gen.facts, Cert.Reference25Ideal.Gen.facts, Cert.Kernel26.Gen.facts,
    Cert.Kernel26Ideal.Gen.facts, Cert.Reference26Ideal.Gen.facts, Cert.Kernel27.Gen.facts,
    Cert.Kernel27Ideal.Gen.facts, Cert.Reference27Ideal.Gen.facts, Cert.Kernel28.Gen.facts,
    Cert.Kernel28Ideal.Gen.facts, Cert.Reference28Ideal.Gen.facts, Cert.Kernel29.Gen.facts,
    Cert.Kernel29Ideal.Gen.facts, Cert.Reference29Ideal.Gen.facts, Cert.Kernel30.Gen.facts,
    Cert.Kernel30Ideal.Gen.facts, Cert.Reference30Ideal.Gen.facts, Cert.Kernel31.Gen.facts,
    Cert.Kernel31Ideal.Gen.facts, Cert.Reference31Ideal.Gen.facts, Cert.Kernel32.Gen.facts,
    Cert.Kernel32Ideal.Gen.facts, Cert.Reference32Ideal.Gen.facts, Cert.Kernel33.Gen.facts,
    Cert.Kernel33Ideal.Gen.facts, Cert.Reference33Ideal.Gen.facts, Cert.Kernel35.Gen.facts,
    Cert.Kernel35Ideal.Gen.facts, Cert.Reference35Ideal.Gen.facts, Cert.Kernel36.Gen.facts,
    Cert.Kernel36Ideal.Gen.facts, Cert.Reference36Ideal.Gen.facts, Cert.Kernel37.Gen.facts,
    Cert.Kernel37Ideal.Gen.facts, Cert.Reference37Ideal.Gen.facts, Cert.Pre_finite4.Gen.facts, frameKernel,
    frameKernelIdeal, frameReferenceIdeal, V2.frame, V2.frameIdeal, V2.frameReference, V3.frame, V3.frameIdeal,
    V3.frameReference, V4.frame, V4.frameIdeal, fun m g _ => V4.frameIdeal m g trivial, V4.frameReference, fun m g
    _ => V4.frameReference m g trivial, V5.frame, V5.frameIdeal, V5.frameReference, V6.frame, V6.frameIdeal,
    V6.frameReference, V7.frame, V7.frameIdeal, V7.frameReference, V8.frame, V8.frameIdeal, V8.frameReference,
    V9.frame, V9.frameIdeal, V9.frameReference, V10.frame, V10.frameIdeal, V10.frameReference, V11.frame,
    V11.frameIdeal, V11.frameReference, V12.frame, V12.frameIdeal, V12.frameReference, V13.frame, V13.frameIdeal,
    V13.frameReference, V14.frame, V14.frameIdeal, V14.frameReference, V15.frame, V15.frameIdeal,
    V15.frameReference, V16.frame, V16.frameIdeal, V16.frameReference, V17.frame, V17.frameIdeal,
    V17.frameReference, V18.frame, V18.frameIdeal, V18.frameReference, V19.frame, V19.frameIdeal,
    V19.frameReference, V20.frame, V20.frameIdeal, V20.frameReference, V21.frame, V21.frameIdeal,
    V21.frameReference, V22.frame, V22.frameIdeal, V22.frameReference, V23.frame, V23.frameIdeal,
    V23.frameReference, V24.frame, V24.frameIdeal, V24.frameReference, V25.frame, V25.frameIdeal,
    V25.frameReference, V26.frame, V26.frameIdeal, V26.frameReference, V27.frame, V27.frameIdeal,
    V27.frameReference, V28.frame, V28.frameIdeal, V28.frameReference, V29.frame, V29.frameIdeal,
    V29.frameReference, V30.frame, V30.frameIdeal, V30.frameReference, V31.frame, V31.frameIdeal,
    V31.frameReference, V32.frame, V32.frameIdeal, V32.frameReference, V33.frame, V33.frameIdeal,
    V33.frameReference, V35.frame, V35.frameIdeal, V35.frameReference, V36.frame, V36.frameIdeal,
    V36.frameReference, V37.frame, V37.frameIdeal, V37.frameReference, preserves, trivial, V2.algebraic, trivial,
    V3.algebraic, trivial, V4.algebraic, trivial, V5.algebraic, trivial, V6.algebraic, trivial, V7.algebraic,
    trivial, V8.algebraic, trivial, V9.algebraic, trivial, V10.algebraic, trivial, V11.algebraic, trivial,
    V12.algebraic, trivial, V13.algebraic, trivial, V14.algebraic, trivial, V15.algebraic, trivial, V16.algebraic,
    trivial, V17.algebraic, trivial, V18.algebraic, trivial, V19.algebraic, preserves20, V20.algebraic,
    preserves21, V21.algebraic, preserves22, V22.algebraic, preserves23, V23.algebraic, preserves24,
    V24.algebraic, preserves25, V25.algebraic, preserves26, V26.algebraic, preserves27, V27.algebraic,
    preserves28, V28.algebraic, preserves29, V29.algebraic, preserves30, V30.algebraic, preserves31,
    V31.algebraic, preserves32, V32.algebraic, trivial, V33.algebraic, trivial, V35.algebraic, trivial,
    V36.algebraic, trivial, V37.algebraic⟩

end Cert.Proof

end
